-- ==== Defs.lean ====
def Pre_Bwd (m : (ℓ : Loc Cert.Bwd.nD Cert.Bwd.τ Cert.Bwd.sig) → Buf (Elt Bits) ℓ) : Prop :=
  True

def Pre_BwdIdeal (m : (ℓ : Loc Cert.BwdIdeal.nD Cert.BwdIdeal.τ Cert.BwdIdeal.sig) → Buf (Elt Ideal) ℓ) : Prop :=
  True

def Pre_BwdRefIdeal (m : (ℓ : Loc Cert.BwdRefIdeal.nD Cert.BwdRefIdeal.τ Cert.BwdRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def quiescent_Bwd [hBwd : Cert.Bwd.Facts] : Prop :=
  ∀ (m : (ℓ : Loc Cert.Bwd.nD Cert.Bwd.τ Cert.Bwd.sig) → Buf (Elt Bits) ℓ) (g : Dev Cert.Bwd.nD → PrngReg), Pre_Bwd m →
    θ_run (Cert.Bwd.defs (F := Bits)) (onTc (τ := Cert.Bwd.τ) (Cert.Bwd.main (F := Bits))) ⟨m, fun _ => 0, g⟩ (fun r => (∀ c : Dev Cert.Bwd.nD,
      r.2.mem ((c.tc : Thread Cert.Bwd.nD Cert.Bwd.τ).loc Cert.Bwd.main_arg0) = m ((c.tc : Thread Cert.Bwd.nD Cert.Bwd.τ).loc Cert.Bwd.main_arg0)
      ∧ r.2.mem ((c.tc : Thread Cert.Bwd.nD Cert.Bwd.τ).loc Cert.Bwd.main_arg1) = m ((c.tc : Thread Cert.Bwd.nD Cert.Bwd.τ).loc Cert.Bwd.main_arg1)
      ∧ r.2.mem ((c.tc : Thread Cert.Bwd.nD Cert.Bwd.τ).loc Cert.Bwd.main_arg2) = m ((c.tc : Thread Cert.Bwd.nD Cert.Bwd.τ).loc Cert.Bwd.main_arg2)
      ∧ r.2.mem ((c.tc : Thread Cert.Bwd.nD Cert.Bwd.τ).loc Cert.Bwd.main_arg3) = m ((c.tc : Thread Cert.Bwd.nD Cert.Bwd.τ).loc Cert.Bwd.main_arg3)
      ∧ r.2.mem ((c.tc : Thread Cert.Bwd.nD Cert.Bwd.τ).loc Cert.Bwd.main_arg4) = m ((c.tc : Thread Cert.Bwd.nD Cert.Bwd.τ).loc Cert.Bwd.main_arg4)
      ∧ r.2.mem ((c.tc : Thread Cert.Bwd.nD Cert.Bwd.τ).loc Cert.Bwd.main_arg5) = m ((c.tc : Thread Cert.Bwd.nD Cert.Bwd.τ).loc Cert.Bwd.main_arg5)
      ∧ r.2.mem ((c.tc : Thread Cert.Bwd.nD Cert.Bwd.τ).loc Cert.Bwd.main_arg6) = m ((c.tc : Thread Cert.Bwd.nD Cert.Bwd.τ).loc Cert.Bwd.main_arg6)
      ∧ r.2.mem ((c.tc : Thread Cert.Bwd.nD Cert.Bwd.τ).loc Cert.Bwd.main_arg7) = m ((c.tc : Thread Cert.Bwd.nD Cert.Bwd.τ).loc Cert.Bwd.main_arg7)
      ∧ r.2.mem ((c.tc : Thread Cert.Bwd.nD Cert.Bwd.τ).loc Cert.Bwd.main_arg8) = m ((c.tc : Thread Cert.Bwd.nD Cert.Bwd.τ).loc Cert.Bwd.main_arg8)
      ∧ r.2.mem ((c.tc : Thread Cert.Bwd.nD Cert.Bwd.τ).loc Cert.Bwd.main_arg9) = m ((c.tc : Thread Cert.Bwd.nD Cert.Bwd.τ).loc Cert.Bwd.main_arg9))
      ∧ r.2.sem = fun _ => 0)

def quiescent_BwdIdeal [hBwdIdeal : Cert.BwdIdeal.Facts] : Prop :=
  ∀ (m : (ℓ : Loc Cert.BwdIdeal.nD Cert.BwdIdeal.τ Cert.BwdIdeal.sig) → Buf (Elt Ideal) ℓ) (g : Dev Cert.BwdIdeal.nD → PrngReg), Pre_BwdIdeal m →
    θ_run (Cert.BwdIdeal.defs (F := Ideal)) (onTc (τ := Cert.BwdIdeal.τ) (Cert.BwdIdeal.main (F := Ideal))) ⟨m, fun _ => 0, g⟩ (fun r => (∀ c : Dev Cert.BwdIdeal.nD,
      r.2.mem ((c.tc : Thread Cert.BwdIdeal.nD Cert.BwdIdeal.τ).loc Cert.BwdIdeal.main_arg0) = m ((c.tc : Thread Cert.BwdIdeal.nD Cert.BwdIdeal.τ).loc Cert.BwdIdeal.main_arg0)
      ∧ r.2.mem ((c.tc : Thread Cert.BwdIdeal.nD Cert.BwdIdeal.τ).loc Cert.BwdIdeal.main_arg1) = m ((c.tc : Thread Cert.BwdIdeal.nD Cert.BwdIdeal.τ).loc Cert.BwdIdeal.main_arg1)
      ∧ r.2.mem ((c.tc : Thread Cert.BwdIdeal.nD Cert.BwdIdeal.τ).loc Cert.BwdIdeal.main_arg2) = m ((c.tc : Thread Cert.BwdIdeal.nD Cert.BwdIdeal.τ).loc Cert.BwdIdeal.main_arg2)
      ∧ r.2.mem ((c.tc : Thread Cert.BwdIdeal.nD Cert.BwdIdeal.τ).loc Cert.BwdIdeal.main_arg3) = m ((c.tc : Thread Cert.BwdIdeal.nD Cert.BwdIdeal.τ).loc Cert.BwdIdeal.main_arg3)
      ∧ r.2.mem ((c.tc : Thread Cert.BwdIdeal.nD Cert.BwdIdeal.τ).loc Cert.BwdIdeal.main_arg4) = m ((c.tc : Thread Cert.BwdIdeal.nD Cert.BwdIdeal.τ).loc Cert.BwdIdeal.main_arg4)
      ∧ r.2.mem ((c.tc : Thread Cert.BwdIdeal.nD Cert.BwdIdeal.τ).loc Cert.BwdIdeal.main_arg5) = m ((c.tc : Thread Cert.BwdIdeal.nD Cert.BwdIdeal.τ).loc Cert.BwdIdeal.main_arg5)
      ∧ r.2.mem ((c.tc : Thread Cert.BwdIdeal.nD Cert.BwdIdeal.τ).loc Cert.BwdIdeal.main_arg6) = m ((c.tc : Thread Cert.BwdIdeal.nD Cert.BwdIdeal.τ).loc Cert.BwdIdeal.main_arg6)
      ∧ r.2.mem ((c.tc : Thread Cert.BwdIdeal.nD Cert.BwdIdeal.τ).loc Cert.BwdIdeal.main_arg7) = m ((c.tc : Thread Cert.BwdIdeal.nD Cert.BwdIdeal.τ).loc Cert.BwdIdeal.main_arg7)
      ∧ r.2.mem ((c.tc : Thread Cert.BwdIdeal.nD Cert.BwdIdeal.τ).loc Cert.BwdIdeal.main_arg8) = m ((c.tc : Thread Cert.BwdIdeal.nD Cert.BwdIdeal.τ).loc Cert.BwdIdeal.main_arg8)
      ∧ r.2.mem ((c.tc : Thread Cert.BwdIdeal.nD Cert.BwdIdeal.τ).loc Cert.BwdIdeal.main_arg9) = m ((c.tc : Thread Cert.BwdIdeal.nD Cert.BwdIdeal.τ).loc Cert.BwdIdeal.main_arg9))
      ∧ r.2.sem = fun _ => 0)

def quiescent_BwdRefIdeal [hBwdRefIdeal : Cert.BwdRefIdeal.Facts] : Prop :=
  ∀ (m : (ℓ : Loc Cert.BwdRefIdeal.nD Cert.BwdRefIdeal.τ Cert.BwdRefIdeal.sig) → Buf (Elt Ideal) ℓ) (g : Dev Cert.BwdRefIdeal.nD → PrngReg), Pre_BwdRefIdeal m →
    θ_run (Cert.BwdRefIdeal.defs (F := Ideal)) (onTc (τ := Cert.BwdRefIdeal.τ) (Cert.BwdRefIdeal.main (F := Ideal))) ⟨m, fun _ => 0, g⟩ (fun r => (∀ c : Dev Cert.BwdRefIdeal.nD,
      r.2.mem ((c.tc : Thread Cert.BwdRefIdeal.nD Cert.BwdRefIdeal.τ).loc Cert.BwdRefIdeal.main_arg0) = m ((c.tc : Thread Cert.BwdRefIdeal.nD Cert.BwdRefIdeal.τ).loc Cert.BwdRefIdeal.main_arg0)
      ∧ r.2.mem ((c.tc : Thread Cert.BwdRefIdeal.nD Cert.BwdRefIdeal.τ).loc Cert.BwdRefIdeal.main_arg1) = m ((c.tc : Thread Cert.BwdRefIdeal.nD Cert.BwdRefIdeal.τ).loc Cert.BwdRefIdeal.main_arg1)
      ∧ r.2.mem ((c.tc : Thread Cert.BwdRefIdeal.nD Cert.BwdRefIdeal.τ).loc Cert.BwdRefIdeal.main_arg2) = m ((c.tc : Thread Cert.BwdRefIdeal.nD Cert.BwdRefIdeal.τ).loc Cert.BwdRefIdeal.main_arg2)
      ∧ r.2.mem ((c.tc : Thread Cert.BwdRefIdeal.nD Cert.BwdRefIdeal.τ).loc Cert.BwdRefIdeal.main_arg3) = m ((c.tc : Thread Cert.BwdRefIdeal.nD Cert.BwdRefIdeal.τ).loc Cert.BwdRefIdeal.main_arg3)
      ∧ r.2.mem ((c.tc : Thread Cert.BwdRefIdeal.nD Cert.BwdRefIdeal.τ).loc Cert.BwdRefIdeal.main_arg4) = m ((c.tc : Thread Cert.BwdRefIdeal.nD Cert.BwdRefIdeal.τ).loc Cert.BwdRefIdeal.main_arg4)
      ∧ r.2.mem ((c.tc : Thread Cert.BwdRefIdeal.nD Cert.BwdRefIdeal.τ).loc Cert.BwdRefIdeal.main_arg5) = m ((c.tc : Thread Cert.BwdRefIdeal.nD Cert.BwdRefIdeal.τ).loc Cert.BwdRefIdeal.main_arg5)
      ∧ r.2.mem ((c.tc : Thread Cert.BwdRefIdeal.nD Cert.BwdRefIdeal.τ).loc Cert.BwdRefIdeal.main_arg6) = m ((c.tc : Thread Cert.BwdRefIdeal.nD Cert.BwdRefIdeal.τ).loc Cert.BwdRefIdeal.main_arg6)
      ∧ r.2.mem ((c.tc : Thread Cert.BwdRefIdeal.nD Cert.BwdRefIdeal.τ).loc Cert.BwdRefIdeal.main_arg7) = m ((c.tc : Thread Cert.BwdRefIdeal.nD Cert.BwdRefIdeal.τ).loc Cert.BwdRefIdeal.main_arg7)
      ∧ r.2.mem ((c.tc : Thread Cert.BwdRefIdeal.nD Cert.BwdRefIdeal.τ).loc Cert.BwdRefIdeal.main_arg8) = m ((c.tc : Thread Cert.BwdRefIdeal.nD Cert.BwdRefIdeal.τ).loc Cert.BwdRefIdeal.main_arg8)
      ∧ r.2.mem ((c.tc : Thread Cert.BwdRefIdeal.nD Cert.BwdRefIdeal.τ).loc Cert.BwdRefIdeal.main_arg9) = m ((c.tc : Thread Cert.BwdRefIdeal.nD Cert.BwdRefIdeal.τ).loc Cert.BwdRefIdeal.main_arg9))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def preserves_Bwd_BwdIdeal : Prop :=
  True

def algebraic_BwdIdeal_BwdRefIdeal [hBwdIdeal : Cert.BwdIdeal.Facts] [hBwdRefIdeal : Cert.BwdRefIdeal.Facts] : Prop :=
  ∀ (m : (ℓ : Loc Cert.BwdIdeal.nD Cert.BwdIdeal.τ Cert.BwdIdeal.sig) → Buf (Elt Ideal) ℓ) (g : Dev Cert.BwdIdeal.nD → PrngReg)
    (m' : (ℓ : Loc Cert.BwdRefIdeal.nD Cert.BwdRefIdeal.τ Cert.BwdRefIdeal.sig) → Buf (Elt Ideal) ℓ) (g' : Dev Cert.BwdRefIdeal.nD → PrngReg), Pre_BwdIdeal m →
    (∀ c : Dev Cert.BwdIdeal.nD,
      m' ((c.tc : Thread Cert.BwdRefIdeal.nD Cert.BwdRefIdeal.τ).loc Cert.BwdRefIdeal.main_arg0) = m ((c.tc : Thread Cert.BwdIdeal.nD Cert.BwdIdeal.τ).loc Cert.BwdIdeal.main_arg0)
      ∧ m' ((c.tc : Thread Cert.BwdRefIdeal.nD Cert.BwdRefIdeal.τ).loc Cert.BwdRefIdeal.main_arg1) = m ((c.tc : Thread Cert.BwdIdeal.nD Cert.BwdIdeal.τ).loc Cert.BwdIdeal.main_arg1)
      ∧ m' ((c.tc : Thread Cert.BwdRefIdeal.nD Cert.BwdRefIdeal.τ).loc Cert.BwdRefIdeal.main_arg2) = m ((c.tc : Thread Cert.BwdIdeal.nD Cert.BwdIdeal.τ).loc Cert.BwdIdeal.main_arg2)
      ∧ m' ((c.tc : Thread Cert.BwdRefIdeal.nD Cert.BwdRefIdeal.τ).loc Cert.BwdRefIdeal.main_arg3) = m ((c.tc : Thread Cert.BwdIdeal.nD Cert.BwdIdeal.τ).loc Cert.BwdIdeal.main_arg3)
      ∧ m' ((c.tc : Thread Cert.BwdRefIdeal.nD Cert.BwdRefIdeal.τ).loc Cert.BwdRefIdeal.main_arg4) = m ((c.tc : Thread Cert.BwdIdeal.nD Cert.BwdIdeal.τ).loc Cert.BwdIdeal.main_arg4)
      ∧ m' ((c.tc : Thread Cert.BwdRefIdeal.nD Cert.BwdRefIdeal.τ).loc Cert.BwdRefIdeal.main_arg5) = m ((c.tc : Thread Cert.BwdIdeal.nD Cert.BwdIdeal.τ).loc Cert.BwdIdeal.main_arg5)
      ∧ m' ((c.tc : Thread Cert.BwdRefIdeal.nD Cert.BwdRefIdeal.τ).loc Cert.BwdRefIdeal.main_arg6) = m ((c.tc : Thread Cert.BwdIdeal.nD Cert.BwdIdeal.τ).loc Cert.BwdIdeal.main_arg6)
      ∧ m' ((c.tc : Thread Cert.BwdRefIdeal.nD Cert.BwdRefIdeal.τ).loc Cert.BwdRefIdeal.main_arg7) = m ((c.tc : Thread Cert.BwdIdeal.nD Cert.BwdIdeal.τ).loc Cert.BwdIdeal.main_arg7)
      ∧ m' ((c.tc : Thread Cert.BwdRefIdeal.nD Cert.BwdRefIdeal.τ).loc Cert.BwdRefIdeal.main_arg8) = m ((c.tc : Thread Cert.BwdIdeal.nD Cert.BwdIdeal.τ).loc Cert.BwdIdeal.main_arg8)
      ∧ m' ((c.tc : Thread Cert.BwdRefIdeal.nD Cert.BwdRefIdeal.τ).loc Cert.BwdRefIdeal.main_arg9) = m ((c.tc : Thread Cert.BwdIdeal.nD Cert.BwdIdeal.τ).loc Cert.BwdIdeal.main_arg9)) →
    ∃ (v0 : (c : Dev Cert.BwdIdeal.nD) → Buf (Elt Ideal) ((c.tc : Thread Cert.BwdIdeal.nD Cert.BwdIdeal.τ).loc Cert.BwdIdeal.main_v4_0)) (v1 : (c : Dev Cert.BwdIdeal.nD) → Buf (Elt Ideal) ((c.tc : Thread Cert.BwdIdeal.nD Cert.BwdIdeal.τ).loc Cert.BwdIdeal.main_v4_1)) (v2 : (c : Dev Cert.BwdIdeal.nD) → Buf (Elt Ideal) ((c.tc : Thread Cert.BwdIdeal.nD Cert.BwdIdeal.τ).loc Cert.BwdIdeal.main_v4_2)),
      θ_run (Cert.BwdIdeal.defs (F := Ideal)) (onTc (τ := Cert.BwdIdeal.τ) (Cert.BwdIdeal.main (F := Ideal))) ⟨m, fun _ => 0, g⟩ (fun r => ∀ c : Dev Cert.BwdIdeal.nD,
          r.2.mem ((c.tc : Thread Cert.BwdIdeal.nD Cert.BwdIdeal.τ).loc Cert.BwdIdeal.main_v4_0) = v0 c
          ∧ r.2.mem ((c.tc : Thread Cert.BwdIdeal.nD Cert.BwdIdeal.τ).loc Cert.BwdIdeal.main_v4_1) = v1 c
          ∧ r.2.mem ((c.tc : Thread Cert.BwdIdeal.nD Cert.BwdIdeal.τ).loc Cert.BwdIdeal.main_v4_2) = v2 c
          ∧ r.2.mem ((c.tc : Thread Cert.BwdIdeal.nD Cert.BwdIdeal.τ).loc Cert.BwdIdeal.main_arg0) = m ((c.tc : Thread Cert.BwdIdeal.nD Cert.BwdIdeal.τ).loc Cert.BwdIdeal.main_arg0)
          ∧ r.2.mem ((c.tc : Thread Cert.BwdIdeal.nD Cert.BwdIdeal.τ).loc Cert.BwdIdeal.main_arg1) = m ((c.tc : Thread Cert.BwdIdeal.nD Cert.BwdIdeal.τ).loc Cert.BwdIdeal.main_arg1)
          ∧ r.2.mem ((c.tc : Thread Cert.BwdIdeal.nD Cert.BwdIdeal.τ).loc Cert.BwdIdeal.main_arg2) = m ((c.tc : Thread Cert.BwdIdeal.nD Cert.BwdIdeal.τ).loc Cert.BwdIdeal.main_arg2)
          ∧ r.2.mem ((c.tc : Thread Cert.BwdIdeal.nD Cert.BwdIdeal.τ).loc Cert.BwdIdeal.main_arg3) = m ((c.tc : Thread Cert.BwdIdeal.nD Cert.BwdIdeal.τ).loc Cert.BwdIdeal.main_arg3)
          ∧ r.2.mem ((c.tc : Thread Cert.BwdIdeal.nD Cert.BwdIdeal.τ).loc Cert.BwdIdeal.main_arg4) = m ((c.tc : Thread Cert.BwdIdeal.nD Cert.BwdIdeal.τ).loc Cert.BwdIdeal.main_arg4)
          ∧ r.2.mem ((c.tc : Thread Cert.BwdIdeal.nD Cert.BwdIdeal.τ).loc Cert.BwdIdeal.main_arg5) = m ((c.tc : Thread Cert.BwdIdeal.nD Cert.BwdIdeal.τ).loc Cert.BwdIdeal.main_arg5)
          ∧ r.2.mem ((c.tc : Thread Cert.BwdIdeal.nD Cert.BwdIdeal.τ).loc Cert.BwdIdeal.main_arg6) = m ((c.tc : Thread Cert.BwdIdeal.nD Cert.BwdIdeal.τ).loc Cert.BwdIdeal.main_arg6)
          ∧ r.2.mem ((c.tc : Thread Cert.BwdIdeal.nD Cert.BwdIdeal.τ).loc Cert.BwdIdeal.main_arg7) = m ((c.tc : Thread Cert.BwdIdeal.nD Cert.BwdIdeal.τ).loc Cert.BwdIdeal.main_arg7)
          ∧ r.2.mem ((c.tc : Thread Cert.BwdIdeal.nD Cert.BwdIdeal.τ).loc Cert.BwdIdeal.main_arg8) = m ((c.tc : Thread Cert.BwdIdeal.nD Cert.BwdIdeal.τ).loc Cert.BwdIdeal.main_arg8)
          ∧ r.2.mem ((c.tc : Thread Cert.BwdIdeal.nD Cert.BwdIdeal.τ).loc Cert.BwdIdeal.main_arg9) = m ((c.tc : Thread Cert.BwdIdeal.nD Cert.BwdIdeal.τ).loc Cert.BwdIdeal.main_arg9))
      ∧ θ_run (Cert.BwdRefIdeal.defs (F := Ideal)) (onTc (τ := Cert.BwdRefIdeal.τ) (Cert.BwdRefIdeal.main (F := Ideal))) ⟨m', fun _ => 0, g'⟩ (fun r => ∀ c : Dev Cert.BwdRefIdeal.nD,
          r.2.mem ((c.tc : Thread Cert.BwdRefIdeal.nD Cert.BwdRefIdeal.τ).loc Cert.BwdRefIdeal.main_v60) = v0 c
          ∧ r.2.mem ((c.tc : Thread Cert.BwdRefIdeal.nD Cert.BwdRefIdeal.τ).loc Cert.BwdRefIdeal.main_v57) = v1 c
          ∧ r.2.mem ((c.tc : Thread Cert.BwdRefIdeal.nD Cert.BwdRefIdeal.τ).loc Cert.BwdRefIdeal.main_v59) = v2 c
          ∧ r.2.mem ((c.tc : Thread Cert.BwdRefIdeal.nD Cert.BwdRefIdeal.τ).loc Cert.BwdRefIdeal.main_arg0) = m' ((c.tc : Thread Cert.BwdRefIdeal.nD Cert.BwdRefIdeal.τ).loc Cert.BwdRefIdeal.main_arg0)
          ∧ r.2.mem ((c.tc : Thread Cert.BwdRefIdeal.nD Cert.BwdRefIdeal.τ).loc Cert.BwdRefIdeal.main_arg1) = m' ((c.tc : Thread Cert.BwdRefIdeal.nD Cert.BwdRefIdeal.τ).loc Cert.BwdRefIdeal.main_arg1)
          ∧ r.2.mem ((c.tc : Thread Cert.BwdRefIdeal.nD Cert.BwdRefIdeal.τ).loc Cert.BwdRefIdeal.main_arg2) = m' ((c.tc : Thread Cert.BwdRefIdeal.nD Cert.BwdRefIdeal.τ).loc Cert.BwdRefIdeal.main_arg2)
          ∧ r.2.mem ((c.tc : Thread Cert.BwdRefIdeal.nD Cert.BwdRefIdeal.τ).loc Cert.BwdRefIdeal.main_arg3) = m' ((c.tc : Thread Cert.BwdRefIdeal.nD Cert.BwdRefIdeal.τ).loc Cert.BwdRefIdeal.main_arg3)
          ∧ r.2.mem ((c.tc : Thread Cert.BwdRefIdeal.nD Cert.BwdRefIdeal.τ).loc Cert.BwdRefIdeal.main_arg4) = m' ((c.tc : Thread Cert.BwdRefIdeal.nD Cert.BwdRefIdeal.τ).loc Cert.BwdRefIdeal.main_arg4)
          ∧ r.2.mem ((c.tc : Thread Cert.BwdRefIdeal.nD Cert.BwdRefIdeal.τ).loc Cert.BwdRefIdeal.main_arg5) = m' ((c.tc : Thread Cert.BwdRefIdeal.nD Cert.BwdRefIdeal.τ).loc Cert.BwdRefIdeal.main_arg5)
          ∧ r.2.mem ((c.tc : Thread Cert.BwdRefIdeal.nD Cert.BwdRefIdeal.τ).loc Cert.BwdRefIdeal.main_arg6) = m' ((c.tc : Thread Cert.BwdRefIdeal.nD Cert.BwdRefIdeal.τ).loc Cert.BwdRefIdeal.main_arg6)
          ∧ r.2.mem ((c.tc : Thread Cert.BwdRefIdeal.nD Cert.BwdRefIdeal.τ).loc Cert.BwdRefIdeal.main_arg7) = m' ((c.tc : Thread Cert.BwdRefIdeal.nD Cert.BwdRefIdeal.τ).loc Cert.BwdRefIdeal.main_arg7)
          ∧ r.2.mem ((c.tc : Thread Cert.BwdRefIdeal.nD Cert.BwdRefIdeal.τ).loc Cert.BwdRefIdeal.main_arg8) = m' ((c.tc : Thread Cert.BwdRefIdeal.nD Cert.BwdRefIdeal.τ).loc Cert.BwdRefIdeal.main_arg8)
          ∧ r.2.mem ((c.tc : Thread Cert.BwdRefIdeal.nD Cert.BwdRefIdeal.τ).loc Cert.BwdRefIdeal.main_arg9) = m' ((c.tc : Thread Cert.BwdRefIdeal.nD Cert.BwdRefIdeal.τ).loc Cert.BwdRefIdeal.main_arg9))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v1_0)) (v1 : (c : Dev Cert.OutProjIdeal.nD) → Buf (Elt Ideal) ((c.tc : Thread Cert.OutProjIdeal.nD Cert.OutProjIdeal.τ).loc Cert.OutProjIdeal.main_v1_1)) (v2 : (c : Dev Cert.OutProjIdeal.nD) → Buf (Elt Ideal) ((c.tc : Thread Cert.OutProjIdeal.nD Cert.OutProjIdeal.τ).loc Cert.OutProjIdeal.main_v1_2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1_0) = v0 c
          ∧ r.2.mem ((c.tc : Thread Cert.OutProjIdeal.nD Cert.OutProjIdeal.τ).loc Cert.OutProjIdeal.main_v1_1) = v1 c
          ∧ r.2.mem ((c.tc : Thread Cert.OutProjIdeal.nD Cert.OutProjIdeal.τ).loc Cert.OutProjIdeal.main_v1_2) = v2 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3_0) = v0 c
          ∧ r.2.mem ((c.tc : Thread Cert.OutProjRefIdeal.nD Cert.OutProjRefIdeal.τ).loc Cert.OutProjRefIdeal.main_v3_1) = v1 c
          ∧ r.2.mem ((c.tc : Thread Cert.OutProjRefIdeal.nD Cert.OutProjRefIdeal.τ).loc Cert.OutProjRefIdeal.main_v3_2) = v2 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def Claim : Prop :=
  ∃ (hBwd : Cert.Bwd.Facts) (hBwdIdeal : Cert.BwdIdeal.Facts) (hBwdRefIdeal : Cert.BwdRefIdeal.Facts) (hOutProj : Cert.OutProj.Facts) (hOutProjIdeal : Cert.OutProjIdeal.Facts) (hOutProjRefIdeal : Cert.OutProjRefIdeal.Facts),
    quiescent_Bwd (hBwd := hBwd)
    ∧ quiescent_BwdIdeal (hBwdIdeal := hBwdIdeal)
    ∧ quiescent_BwdRefIdeal (hBwdRefIdeal := hBwdRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ preserves_Bwd_BwdIdeal
    ∧ algebraic_BwdIdeal_BwdRefIdeal (hBwdIdeal := hBwdIdeal) (hBwdRefIdeal := hBwdRefIdeal)
    ∧ preserves_OutProj_OutProjIdeal
    ∧ algebraic_OutProjIdeal_OutProjRefIdeal (hOutProjIdeal := hOutProjIdeal) (hOutProjRefIdeal := hOutProjRefIdeal)
-- ==== Bwd.lean ====
abbrev S20x8192x128 : Shape := ⟨3, ![20, 8192, 128]⟩
abbrev S20x1x8192 : Shape := ⟨3, ![20, 1, 8192]⟩
abbrev S4x32x256x128 : Shape := ⟨4, ![4, 32, 256, 128]⟩
abbrev S4x32x256 : Shape := ⟨3, ![4, 32, 256]⟩
abbrev S4x32x128x256 : Shape := ⟨4, ![4, 32, 128, 256]⟩
abbrev S4x8192x32 : Shape := ⟨3, ![4, 8192, 32]⟩
abbrev S4x32x256x1 : Shape := ⟨4, ![4, 32, 256, 1]⟩
abbrev S4x32x8192 : Shape := ⟨3, ![4, 32, 8192]⟩
abbrev S5x256x128 : Shape := ⟨3, ![5, 256, 128]⟩
abbrev S5x1x256 : Shape := ⟨3, ![5, 1, 256]⟩
abbrev S1x32x256x128 : Shape := ⟨4, ![1, 32, 256, 128]⟩
abbrev S1x32x128x256 : Shape := ⟨4, ![1, 32, 128, 256]⟩
abbrev S1x32x256 : Shape := ⟨3, ![1, 32, 256]⟩
abbrev S5x128x256 : Shape := ⟨3, ![5, 128, 256]⟩
abbrev S1x1x256 : Shape := ⟨3, ![1, 1, 256]⟩
abbrev S1x256 : Shape := ⟨2, ![1, 256]⟩
abbrev S256x256 : Shape := ⟨2, ![256, 256]⟩
abbrev S1x256x128 : Shape := ⟨3, ![1, 256, 128]⟩
abbrev S256x128 : Shape := ⟨2, ![256, 128]⟩
abbrev S1x1x256x128 : Shape := ⟨4, ![1, 1, 256, 128]⟩
abbrev S1x1x128x256 : Shape := ⟨4, ![1, 1, 128, 256]⟩
abbrev S128x256 : Shape := ⟨2, ![128, 256]⟩
abbrev S1x128x256 : Shape := ⟨3, ![1, 128, 256]⟩

abbrev nBuf : Space → Nat
  | .hbm => 17
  | .vmem => 28
  | .smem => 0
  | _ => 0

abbrev bufTy : (tb : Table) → Fin (tcTables nBuf tb) → BufTy
  | .hbm, ⟨0, _⟩ => ⟨S20x8192x128, .fp8e4m3⟩
  | .hbm, ⟨1, _⟩ => ⟨S20x1x8192, .f32⟩
  | .hbm, ⟨2, _⟩ => ⟨S4x32x256x128, .fp8e4m3⟩
  | .hbm, ⟨3, _⟩ => ⟨S4x32x256, .f32⟩
  | .hbm, ⟨4, _⟩ => ⟨S4x32x128x256, .bf16⟩
  | .hbm, ⟨5, _⟩ => ⟨S4x32x256x128, .bf16⟩
  | .hbm, ⟨6, _⟩ => ⟨S4x8192x32, .i1⟩
  | .hbm, ⟨7, _⟩ => ⟨S20x1x8192, .f32⟩
  | .hbm, ⟨8, _⟩ => ⟨S20x1x8192, .f32⟩
  | .hbm, ⟨9, _⟩ => ⟨S20x8192x128, .bf16⟩
  | .hbm, ⟨10, _⟩ => ⟨S4x32x256x1, .f32⟩
  | .hbm, ⟨11, _⟩ => ⟨S4x32x256x128, .f32⟩
  | .hbm, ⟨12, _⟩ => ⟨S4x32x8192, .i1⟩
  | .hbm, ⟨13, _⟩ => ⟨S4x32x8192, .f32⟩
  | .hbm, ⟨14, _⟩ => ⟨S20x8192x128, .f32⟩
  | .hbm, ⟨15, _⟩ => ⟨S4x32x256x128, .f32⟩
  | .hbm, ⟨16, _⟩ => ⟨S4x32x256x128, .f32⟩
  | .local _ .vmem, ⟨0, _⟩ => ⟨S5x256x128, .fp8e4m3⟩
  | .local _ .vmem, ⟨1, _⟩ => ⟨S5x256x128, .fp8e4m3⟩
  | .local _ .vmem, ⟨2, _⟩ => ⟨S5x1x256, .f32⟩
  | .local _ .vmem, ⟨3, _⟩ => ⟨S5x1x256, .f32⟩
  | .local _ .vmem, ⟨4, _⟩ => ⟨S1x32x256x128, .fp8e4m3⟩
  | .local _ .vmem, ⟨5, _⟩ => ⟨S1x32x256x128, .fp8e4m3⟩
  | .local _ .vmem, ⟨6, _⟩ => ⟨S1x32x256x128, .f32⟩
  | .local _ .vmem, ⟨7, _⟩ => ⟨S1x32x256x128, .f32⟩
  | .local _ .vmem, ⟨8, _⟩ => ⟨S1x32x128x256, .bf16⟩
  | .local _ .vmem, ⟨9, _⟩ => ⟨S1x32x128x256, .bf16⟩
  | .local _ .vmem, ⟨10, _⟩ => ⟨S1x32x256x128, .bf16⟩
  | .local _ .vmem, ⟨11, _⟩ => ⟨S1x32x256x128, .bf16⟩
  | .local _ .vmem, ⟨12, _⟩ => ⟨S1x32x256, .f32⟩
  | .local _ .vmem, ⟨13, _⟩ => ⟨S1x32x256, .f32⟩
  | .local _ .vmem, ⟨14, _⟩ => ⟨S5x1x256, .f32⟩
  | .local _ .vmem, ⟨15, _⟩ => ⟨S5x1x256, .f32⟩
  | .local _ .vmem, ⟨16, _⟩ => ⟨S5x1x256, .f32⟩
  | .local _ .vmem, ⟨17, _⟩ => ⟨S5x1x256, .f32⟩
  | .local _ .vmem, ⟨18, _⟩ => ⟨S5x256x128, .bf16⟩
  | .local _ .vmem, ⟨19, _⟩ => ⟨S5x256x128, .bf16⟩
  | .local _ .vmem, ⟨20, _⟩ => ⟨S5x256x128, .f32⟩
  | .local _ .vmem, ⟨21, _⟩ => ⟨S5x256x128, .f32⟩
  | .local _ .vmem, ⟨22, _⟩ => ⟨S1x32x256x128, .f32⟩
  | .local _ .vmem, ⟨23, _⟩ => ⟨S1x32x256x128, .f32⟩
  | .local _ .vmem, ⟨24, _⟩ => ⟨S1x32x256x128, .f32⟩
  | .local _ .vmem, ⟨25, _⟩ => ⟨S1x32x256x128, .f32⟩
  | .local _ .vmem, ⟨26, _⟩ => ⟨S5x256x128, .bf16⟩
  | .local _ .vmem, ⟨27, _⟩ => ⟨S5x128x256, .f32⟩
  | _, _ => ⟨S20x8192x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![4, 32], ![false, false]⟩

def k0_off1 (i : grid0.Coords) : Fin 4 → Nat :=
  let c0_79 : Index := 0#32
  let arg1 : BitVec 32 := BitVec.ofNat 32 (i 1).val
  let v83 : Index := Scalar.indexCast arg1
  let c0_80 : Index := 0#32
  let c0_81 : Index := 0#32
  ![0, v83.toNat, 0, 0]
def k0_off2 (i : grid0.Coords) : Fin 4 → Nat :=
  let c0_105 : Index := 0#32
  let arg1 : BitVec 32 := BitVec.ofNat 32 (i 1).val
  let v122 : Index := Scalar.indexCast arg1
  let c0_106 : Index := 0#32
  let c0_107 : Index := 0#32
  ![0, v122.toNat, 0, 0]
@[reducible] def k0_t1_loop (i : grid0.Coords) : Scf.Loop 32 :=
  let c0_i32 : BitVec 32 := 0#32
  let arg1 : BitVec 32 := BitVec.ofNat 32 (i 1).val
  let v329 : BitVec 32 := Scalar.subi arg1 c0_i32
  let c1_i32 : BitVec 32 := 1#32
  let v331 : BitVec 32 := Scalar.divsi v329 c1_i32
  let v332 : BitVec 32 := Scalar.muli v331 c1_i32
  let v333 : BitVec 32 := Scalar.addi c0_i32 v332
  let c1_i32_251 : BitVec 32 := 1#32
  ⟨c0_i32, v333, c1_i32_251⟩
def k0_off3 (i : grid0.Coords) (k0_t1 : Fin (k0_t1_loop i).trips) : Fin 3 → Nat :=
  let c0_288 : Index := 0#32
  let c0_i32 : BitVec 32 := 0#32
  let c1_i32_251 : BitVec 32 := 1#32
  let arg17 : BitVec 32 := Scf.iv c0_i32 c1_i32_251 k0_t1
  let v376 : Index := Scalar.indexCast arg17
  let c0_289 : Index := 0#32
  ![0, v376.toNat, 0]
def k0_off4 (i : grid0.Coords) (k0_t1 : Fin (k0_t1_loop i).trips) : Fin 4 → Nat :=
  let c0_292 : Index := 0#32
  let c0_i32 : BitVec 32 := 0#32
  let c1_i32_251 : BitVec 32 := 1#32
  let arg17 : BitVec 32 := Scf.iv c0_i32 c1_i32_251 k0_t1
  let v383 : Index := Scalar.indexCast arg17
  let c0_293 : Index := 0#32
  let c0_294 : Index := 0#32
  ![0, v383.toNat, 0, 0]
def k0_off5 (i : grid0.Coords) (k0_t1 : Fin (k0_t1_loop i).trips) : Fin 4 → Nat :=
  let c0_317 : Index := 0#32
  let c0_i32 : BitVec 32 := 0#32
  let c1_i32_251 : BitVec 32 := 1#32
  let arg17 : BitVec 32 := Scf.iv c0_i32 c1_i32_251 k0_t1
  let v420 : Index := Scalar.indexCast arg17
  let c0_318 : Index := 0#32
  let c0_319 : Index := 0#32
  ![0, v420.toNat, 0, 0]
@[reducible] def k0_t2_loop (i : grid0.Coords) : Scf.Loop 32 :=
  let c0_i32 : BitVec 32 := 0#32
  let arg1 : BitVec 32 := BitVec.ofNat 32 (i 1).val
  let v329 : BitVec 32 := Scalar.subi arg1 c0_i32
  let c1_i32 : BitVec 32 := 1#32
  let v331 : BitVec 32 := Scalar.divsi v329 c1_i32
  let v332 : BitVec 32 := Scalar.muli v331 c1_i32
  let v333 : BitVec 32 := Scalar.addi c0_i32 v332
  let v330 : BitVec 32 := Scalar.addi c0_i32 v329
  let c1_i32_252 : BitVec 32 := 1#32
  ⟨v333, v330, c1_i32_252⟩
def k0_off6 (i : grid0.Coords) (k0_t2 : Fin (k0_t2_loop i).trips) : Fin 3 → Nat :=
  let c0_288 : Index := 0#32
  let c0_i32 : BitVec 32 := 0#32
  let arg1 : BitVec 32 := BitVec.ofNat 32 (i 1).val
  let v329 : BitVec 32 := Scalar.subi arg1 c0_i32
  let c1_i32 : BitVec 32 := 1#32
  let v331 : BitVec 32 := Scalar.divsi v329 c1_i32
  let v332 : BitVec 32 := Scalar.muli v331 c1_i32
  let v333 : BitVec 32 := Scalar.addi c0_i32 v332
  let c1_i32_252 : BitVec 32 := 1#32
  let arg17 : BitVec 32 := Scf.iv v333 c1_i32_252 k0_t2
  let v376 : Index := Scalar.indexCast arg17
  let c0_289 : Index := 0#32
  ![0, v376.toNat, 0]
def k0_off7 (i : grid0.Coords) (k0_t2 : Fin (k0_t2_loop i).trips) : Fin 4 → Nat :=
  let c0_292 : Index := 0#32
  let c0_i32 : BitVec 32 := 0#32
  let arg1 : BitVec 32 := BitVec.ofNat 32 (i 1).val
  let v329 : BitVec 32 := Scalar.subi arg1 c0_i32
  let c1_i32 : BitVec 32 := 1#32
  let v331 : BitVec 32 := Scalar.divsi v329 c1_i32
  let v332 : BitVec 32 := Scalar.muli v331 c1_i32
  let v333 : BitVec 32 := Scalar.addi c0_i32 v332
  let c1_i32_252 : BitVec 32 := 1#32
  let arg17 : BitVec 32 := Scf.iv v333 c1_i32_252 k0_t2
  let v383 : Index := Scalar.indexCast arg17
  let c0_293 : Index := 0#32
  let c0_294 : Index := 0#32
  ![0, v383.toNat, 0, 0]
def k0_off8 (i : grid0.Coords) (k0_t2 : Fin (k0_t2_loop i).trips) : Fin 4 → Nat :=
  let c0_317 : Index := 0#32
  let c0_i32 : BitVec 32 := 0#32
  let arg1 : BitVec 32 := BitVec.ofNat 32 (i 1).val
  let v329 : BitVec 32 := Scalar.subi arg1 c0_i32
  let c1_i32 : BitVec 32 := 1#32
  let v331 : BitVec 32 := Scalar.divsi v329 c1_i32
  let v332 : BitVec 32 := Scalar.muli v331 c1_i32
  let v333 : BitVec 32 := Scalar.addi c0_i32 v332
  let c1_i32_252 : BitVec 32 := 1#32
  let arg17 : BitVec 32 := Scf.iv v333 c1_i32_252 k0_t2
  let v420 : Index := Scalar.indexCast arg17
  let c0_318 : Index := 0#32
  let c0_319 : Index := 0#32
  ![0, v420.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S5x256x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S5x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x256x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x32x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x32x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x32x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x32x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S5x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S5x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S5x256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S5x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x32x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x32x256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== BwdRefIdeal.lean ====
abbrev S20x8192x128 : Shape := ⟨3, ![20, 8192, 128]⟩
abbrev S20x1x8192 : Shape := ⟨3, ![20, 1, 8192]⟩
abbrev S4x32x256x128 : Shape := ⟨4, ![4, 32, 256, 128]⟩
abbrev S4x32x256 : Shape := ⟨3, ![4, 32, 256]⟩
abbrev S4x32x128x256 : Shape := ⟨4, ![4, 32, 128, 256]⟩
abbrev S4x8192x32 : Shape := ⟨3, ![4, 8192, 32]⟩
abbrev S4x5x32x256x128 : Shape := ⟨5, ![4, 5, 32, 256, 128]⟩
abbrev S4x5x32x256 : Shape := ⟨4, ![4, 5, 32, 256]⟩
abbrev S4x5x32x256x1x1 : Shape := ⟨6, ![4, 5, 32, 256, 1, 1]⟩
abbrev S_ : Shape := ⟨0, ![]⟩
abbrev S4x1x1x1x32x256 : Shape := ⟨6, ![4, 1, 1, 1, 32, 256]⟩
abbrev S32x256x32x256 : Shape := ⟨4, ![32, 256, 32, 256]⟩
abbrev S4x32x256x32 : Shape := ⟨4, ![4, 32, 256, 32]⟩
abbrev S4x32x256x32x1 : Shape := ⟨5, ![4, 32, 256, 32, 1]⟩
abbrev S1x32x256x32x256 : Shape := ⟨5, ![1, 32, 256, 32, 256]⟩
abbrev S4x32x256x32x256 : Shape := ⟨5, ![4, 32, 256, 32, 256]⟩
abbrev S4x5x32x256x32x256 : Shape := ⟨6, ![4, 5, 32, 256, 32, 256]⟩
abbrev S4x1x32x256x32x256 : Shape := ⟨6, ![4, 1, 32, 256, 32, 256]⟩

abbrev nBuf : Space → Nat
  | .hbm => 80
  | .vmem => 4
  | .smem => 0
  | _ => 0

abbrev bufTy : (tb : Table) → Fin (tcTables nBuf tb) → BufTy
  | .hbm, ⟨0, _⟩ => ⟨S20x8192x128, .fp8e4m3⟩
  | .hbm, ⟨1, _⟩ => ⟨S20x1x8192, .f32⟩
  | .hbm, ⟨2, _⟩ => ⟨S4x32x256x128, .fp8e4m3⟩
  | .hbm, ⟨3, _⟩ => ⟨S4x32x256, .f32⟩
  | .hbm, ⟨4, _⟩ => ⟨S4x32x128x256, .bf16⟩
  | .hbm, ⟨5, _⟩ => ⟨S4x32x256x128, .bf16⟩
  | .hbm, ⟨6, _⟩ => ⟨S4x8192x32, .i1⟩
  | .hbm, ⟨7, _⟩ => ⟨S20x1x8192, .f32⟩
  | .hbm, ⟨8, _⟩ => ⟨S20x1x8192, .f32⟩
  | .hbm, ⟨9, _⟩ => ⟨S20x8192x128, .bf16⟩
  | .hbm, ⟨10, _⟩ => ⟨S20x8192x128, .bf16⟩
  | .hbm, ⟨11, _⟩ => ⟨S4x32x256x128, .bf16⟩
  | .hbm, ⟨12, _⟩ => ⟨S4x5x32x256x128, .bf16⟩
  | .hbm, ⟨13, _⟩ => ⟨S4x5x32x256x128, .bf16⟩
  | .hbm, ⟨14, _⟩ => ⟨S4x5x32x256, .f32⟩
  | .hbm, ⟨15, _⟩ => ⟨S4x5x32x256x1x1, .f32⟩
  | .hbm, ⟨16, _⟩ => ⟨S_, .f32⟩
  | .hbm, ⟨17, _⟩ => ⟨S20x1x8192, .f32⟩
  | .hbm, ⟨18, _⟩ => ⟨S20x1x8192, .f32⟩
  | .hbm, ⟨19, _⟩ => ⟨S4x5x32x256, .f32⟩
  | .hbm, ⟨20, _⟩ => ⟨S4x5x32x256x1x1, .f32⟩
  | .hbm, ⟨21, _⟩ => ⟨S4x5x32x256, .f32⟩
  | .hbm, ⟨22, _⟩ => ⟨S4x5x32x256x1x1, .f32⟩
  | .hbm, ⟨23, _⟩ => ⟨S4x1x1x1x32x256, .f32⟩
  | .hbm, ⟨24, _⟩ => ⟨S32x256x32x256, .i32⟩
  | .hbm, ⟨25, _⟩ => ⟨S32x256x32x256, .i32⟩
  | .hbm, ⟨26, _⟩ => ⟨S32x256x32x256, .i32⟩
  | .hbm, ⟨27, _⟩ => ⟨S32x256x32x256, .i32⟩
  | .hbm, ⟨28, _⟩ => ⟨S32x256x32x256, .i1⟩
  | .hbm, ⟨29, _⟩ => ⟨S32x256x32x256, .i1⟩
  | .hbm, ⟨30, _⟩ => ⟨S32x256x32x256, .i1⟩
  | .hbm, ⟨31, _⟩ => ⟨S32x256x32x256, .i1⟩
  | .hbm, ⟨32, _⟩ => ⟨S4x32x256x32, .i1⟩
  | .hbm, ⟨33, _⟩ => ⟨S4x32x256x32x1, .i1⟩
  | .hbm, ⟨34, _⟩ => ⟨S1x32x256x32x256, .i1⟩
  | .hbm, ⟨35, _⟩ => ⟨S4x32x256x32x256, .i1⟩
  | .hbm, ⟨36, _⟩ => ⟨S4x32x256x32x256, .i1⟩
  | .hbm, ⟨37, _⟩ => ⟨S4x32x256x32x256, .i1⟩
  | .hbm, ⟨38, _⟩ => ⟨S1x32x256x32x256, .i1⟩
  | .hbm, ⟨39, _⟩ => ⟨S4x32x256x32x256, .i1⟩
  | .hbm, ⟨40, _⟩ => ⟨S4x32x256x32x256, .i1⟩
  | .hbm, ⟨41, _⟩ => ⟨S4x5x32x256x32x256, .f32⟩
  | .hbm, ⟨42, _⟩ => ⟨S4x5x32x256x32x256, .f32⟩
  | .hbm, ⟨43, _⟩ => ⟨S4x5x32x256x32x256, .f32⟩
  | .hbm, ⟨44, _⟩ => ⟨S4x5x32x256x32x256, .f32⟩
  | .hbm, ⟨45, _⟩ => ⟨S4x5x32x256x32x256, .f32⟩
  | .hbm, ⟨46, _⟩ => ⟨S_, .f32⟩
  | .hbm, ⟨47, _⟩ => ⟨S4x5x32x256x32x256, .f32⟩
  | .hbm, ⟨48, _⟩ => ⟨S4x5x32x256x32x256, .f32⟩
  | .hbm, ⟨49, _⟩ => ⟨S4x1x32x256x32x256, .i1⟩
  | .hbm, ⟨50, _⟩ => ⟨S_, .f32⟩
  | .hbm, ⟨51, _⟩ => ⟨S_, .f32⟩
  | .hbm, ⟨52, _⟩ => ⟨S4x5x32x256x32x256, .i1⟩
  | .hbm, ⟨53, _⟩ => ⟨S4x5x32x256x32x256, .f32⟩
  | .hbm, ⟨54, _⟩ => ⟨S4x5x32x256x32x256, .f32⟩
  | .hbm, ⟨55, _⟩ => ⟨S4x5x32x256x32x256, .f32⟩
  | .hbm, ⟨56, _⟩ => ⟨S4x5x32x256x32x256, .f32⟩
  | .hbm, ⟨57, _⟩ => ⟨S_, .f32⟩
  | .hbm, ⟨58, _⟩ => ⟨S_, .f32⟩
  | .hbm, ⟨59, _⟩ => ⟨S4x5x32x256x32x256, .f32⟩
  | .hbm, ⟨60, _⟩ => ⟨S4x5x32x256x32x256, .f32⟩
  | .hbm, ⟨61, _⟩ => ⟨S4x5x32x256x32x256, .f32⟩
  | .hbm, ⟨62, _⟩ => ⟨S4x5x32x256x32x256, .f32⟩
  | .hbm, ⟨63, _⟩ => ⟨S4x5x32x256x32x256, .f32⟩
  | .hbm, ⟨64, _⟩ => ⟨S4x5x32x256x32x256, .f32⟩
  | .hbm, ⟨65, _⟩ => ⟨S4x5x32x256x32x256, .f32⟩
  | .hbm, ⟨66, _⟩ => ⟨S4x5x32x256x32x256, .f32⟩
  | .hbm, ⟨67, _⟩ => ⟨S4x5x32x256x32x256, .f32⟩
  | .hbm, ⟨68, _⟩ => ⟨S4x5x32x256x32x256, .bf16⟩
  | .hbm, ⟨69, _⟩ => ⟨S4x5x32x256x128, .f32⟩
  | .hbm, ⟨70, _⟩ => ⟨S_, .f32⟩
  | .hbm, ⟨71, _⟩ => ⟨S4x5x32x256x128, .f32⟩
  | .hbm, ⟨72, _⟩ => ⟨S4x5x32x256x128, .f32⟩
  | .hbm, ⟨73, _⟩ => ⟨S4x5x32x256x32x256, .f32⟩
  | .hbm, ⟨74, _⟩ => ⟨S4x5x32x256x32x256, .f32⟩
  | .hbm, ⟨75, _⟩ => ⟨S4x5x32x256x32x256, .bf16⟩
  | .hbm, ⟨76, _⟩ => ⟨S4x32x256x128, .f32⟩
  | .hbm, ⟨77, _⟩ => ⟨S4x5x32x256x32x256, .bf16⟩
  | .hbm, ⟨78, _⟩ => ⟨S4x32x256x128, .f32⟩
  | .hbm, ⟨79, _⟩ => ⟨S20x8192x128, .f32⟩
  | .local _ .vmem, ⟨0, _⟩ => ⟨S20x8192x128, .fp8e4m3⟩
  | .local _ .vmem, ⟨1, _⟩ => ⟨S4x32x256x128, .fp8e4m3⟩
  | .local _ .vmem, ⟨2, _⟩ => ⟨S20x8192x128, .bf16⟩
  | .local _ .vmem, ⟨3, _⟩ => ⟨S4x32x256x128, .bf16⟩
  | _, _ => ⟨S20x8192x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_0 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_1 : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_2 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_3 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S20x8192x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x32x256x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S20x8192x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x32x256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== OutProj.lean ====
abbrev S20x8192x128 : Shape := ⟨3, ![20, 8192, 128]⟩
abbrev S2560x5120 : Shape := ⟨2, ![2560, 5120]⟩
abbrev S5120 : Shape := ⟨1, ![5120]⟩
abbrev S1x5120 : Shape := ⟨2, ![1, 5120]⟩
abbrev S8192x5120 : Shape := ⟨2, ![8192, 5120]⟩
abbrev S8192x2560 : Shape := ⟨2, ![8192, 2560]⟩
abbrev S1x8192 : Shape := ⟨2, ![1, 8192]⟩
abbrev S20x256x128 : Shape := ⟨3, ![20, 256, 128]⟩
abbrev S256x5120 : Shape := ⟨2, ![256, 5120]⟩
abbrev S256x2560 : Shape := ⟨2, ![256, 2560]⟩
abbrev S1x256 : Shape := ⟨2, ![1, 256]⟩
abbrev S256x128 : Shape := ⟨2, ![256, 128]⟩
abbrev S32x128 : Shape := ⟨2, ![32, 128]⟩
abbrev S1x32x128 : Shape := ⟨3, ![1, 32, 128]⟩
abbrev S32 : Shape := ⟨1, ![32]⟩
abbrev S32x1 : Shape := ⟨2, ![32, 1]⟩
abbrev S256x1 : Shape := ⟨2, ![256, 1]⟩
abbrev S2560x512 : Shape := ⟨2, ![2560, 512]⟩
abbrev S256x512 : Shape := ⟨2, ![256, 512]⟩
abbrev S1x512 : Shape := ⟨2, ![1, 512]⟩
abbrev S128x256 : Shape := ⟨2, ![128, 256]⟩

abbrev nBuf : Space → Nat
  | .hbm => 7
  | .vmem => 11
  | .smem => 0
  | _ => 0

abbrev bufTy : (tb : Table) → Fin (tcTables nBuf tb) → BufTy
  | .hbm, ⟨0, _⟩ => ⟨S20x8192x128, .f32⟩
  | .hbm, ⟨1, _⟩ => ⟨S2560x5120, .fp8e4m3⟩
  | .hbm, ⟨2, _⟩ => ⟨S5120, .f32⟩
  | .hbm, ⟨3, _⟩ => ⟨S1x5120, .f32⟩
  | .hbm, ⟨4, _⟩ => ⟨S8192x5120, .bf16⟩
  | .hbm, ⟨5, _⟩ => ⟨S8192x2560, .fp8e4m3⟩
  | .hbm, ⟨6, _⟩ => ⟨S1x8192, .f32⟩
  | .local _ .vmem, ⟨0, _⟩ => ⟨S20x256x128, .f32⟩
  | .local _ .vmem, ⟨1, _⟩ => ⟨S20x256x128, .f32⟩
  | .local _ .vmem, ⟨2, _⟩ => ⟨S2560x5120, .fp8e4m3⟩
  | .local _ .vmem, ⟨3, _⟩ => ⟨S1x5120, .f32⟩
  | .local _ .vmem, ⟨4, _⟩ => ⟨S256x5120, .bf16⟩
  | .local _ .vmem, ⟨5, _⟩ => ⟨S256x5120, .bf16⟩
  | .local _ .vmem, ⟨6, _⟩ => ⟨S256x2560, .fp8e4m3⟩
  | .local _ .vmem, ⟨7, _⟩ => ⟨S256x2560, .fp8e4m3⟩
  | .local _ .vmem, ⟨8, _⟩ => ⟨S1x256, .f32⟩
  | .local _ .vmem, ⟨9, _⟩ => ⟨S1x256, .f32⟩
  | .local _ .vmem, ⟨10, _⟩ => ⟨S256x128, .f32⟩
  | _, _ => ⟨S20x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S20x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2560x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x5120 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2560 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutProjRefIdeal.lean ====
abbrev S20x8192x128 : Shape := ⟨3, ![20, 8192, 128]⟩
abbrev S2560x5120 : Shape := ⟨2, ![2560, 5120]⟩
abbrev S5120 : Shape := ⟨1, ![5120]⟩
abbrev S8192x20x128 : Shape := ⟨3, ![8192, 20, 128]⟩
abbrev S8192x2560 : Shape := ⟨2, ![8192, 2560]⟩
abbrev S1x5120 : Shape := ⟨2, ![1, 5120]⟩
abbrev S8192x5120 : Shape := ⟨2, ![8192, 5120]⟩
abbrev S1x8192 : Shape := ⟨2, ![1, 8192]⟩
abbrev S8192 : Shape := ⟨1, ![8192]⟩
abbrev S8192x1 : Shape := ⟨2, ![8192, 1]⟩

abbrev nBuf : Space → Nat
  | .hbm => 9
  | .vmem => 6
  | .smem => 0
  | _ => 0

abbrev bufTy : (tb : Table) → Fin (tcTables nBuf tb) → BufTy
  | .hbm, ⟨0, _⟩ => ⟨S20x8192x128, .f32⟩
  | .hbm, ⟨1, _⟩ => ⟨S2560x5120, .fp8e4m3⟩
  | .hbm, ⟨2, _⟩ => ⟨S5120, .f32⟩
  | .hbm, ⟨3, _⟩ => ⟨S8192x20x128, .f32⟩
  | .hbm, ⟨4, _⟩ => ⟨S8192x2560, .f32⟩
  | .hbm, ⟨5, _⟩ => ⟨S1x5120, .f32⟩
  | .hbm, ⟨6, _⟩ => ⟨S8192x5120, .bf16⟩
  | .hbm, ⟨7, _⟩ => ⟨S8192x2560, .fp8e4m3⟩
  | .hbm, ⟨8, _⟩ => ⟨S1x8192, .f32⟩
  | .local _ .vmem, ⟨0, _⟩ => ⟨S8192x2560, .f32⟩
  | .local _ .vmem, ⟨1, _⟩ => ⟨S2560x5120, .fp8e4m3⟩
  | .local _ .vmem, ⟨2, _⟩ => ⟨S1x5120, .f32⟩
  | .local _ .vmem, ⟨3, _⟩ => ⟨S8192x5120, .bf16⟩
  | .local _ .vmem, ⟨4, _⟩ => ⟨S8192x2560, .fp8e4m3⟩
  | .local _ .vmem, ⟨5, _⟩ => ⟨S1x8192, .f32⟩
  | _, _ => ⟨S20x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8192x2560 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2560x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x2560 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.BwdRuns.lean ====
/- The frame of the backward kernel at any float instance, first part: the program up to its one region, the buffers there,
   the frame read off a run, and the memory the runs are stated over. The contents of the outputs are left unnamed. -/
module

public import proofs.«01_k».proof.Proof.Gen.Bwd.Launch
public import proofs.«01_k».proof.Proof.Gen.Bwd.Skeleton
public import proofs.«01_k».proof.Proof.Gen.Bwd.Loops
public import proofs.«01_k».proof.Proof.Gen.Bwd.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Bwd.Hand

open Cert.Bwd.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Bwd`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      ((h c).2 main_arg3 (Pipeline.mem_restRefs_of main_arg3 (by decide) (by decide))).trans (V_main_arg3 m c),
      (Pipeline.RDat.FramePost.arr_in h c 4 rfl).trans ((hA c 4).trans (V_main_arg4 m c)),
      (Pipeline.RDat.FramePost.arr_in h c 5 rfl).trans ((hA c 5).trans (V_main_arg5 m c)),
      ((h c).2 main_arg6 (Pipeline.mem_restRefs_of main_arg6 (by decide) (by decide))).trans (V_main_arg6 m c),
      (Pipeline.RDat.FramePost.arr_in h c 7 rfl).trans ((hA c 7).trans (V_main_arg7 m c)),
      (Pipeline.RDat.FramePost.arr_in h c 8 rfl).trans ((hA c 8).trans (V_main_arg8 m c)),
      (Pipeline.RDat.FramePost.arr_in h c 9 rfl).trans ((hA c 9).trans (V_main_arg9 m c))⟩) h

/-! ## The kernel body on any staging memrefs: a subtype the run finds -/

/-- Each window's current staging memref at point `t`, spelled as the pipeline passes it (`bodyAt0`), and its wholeness. -/
abbrev ms0_0 (t : Fin cfg0.N) : Memref sig .tc .vmem S5x256x128 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5x1x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x32x256x128 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x32x256x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x32x128x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x32x256x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x32x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S5x1x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S5x1x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S5x256x128 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S5x256x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x32x256x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x32x256x128 .f32 := win0_12.stage (cfg0.slots t 12)
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S5x256x128 .bf16 := Memref.whole cc0_scratch0
abbrev scM0_1 : Memref sig .tc .vmem S5x128x256 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Bwd.Hand

end
-- ==== Proof.BwdBody.lean ====
/- The frame of the backward kernel, second part: the triple of one run of the body, with the outputs at some contents. -/
module

public import proofs.«01_k».proof.Proof.BwdRuns

@[expose] public section

-- membership in a rectangle of production extents (`View.cover_of_tiled`): the elaborator's structural look
-- recurses once per coordinate of the long axes
set_option maxRecDepth 16384

noncomputable section

namespace Cert.Bwd.Hand

open Cert.Bwd.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple: on whole staging memrefs — the inputs' at their contents,
    the FORGOTTEN outputs' (10, 11, 12) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg2 : Memref sig .tc .vmem S5x256x128 .fp8e4m3) (harg2 : arg2.IsWhole) (arg3 : Memref sig .tc .vmem S5x1x256 .f32) (harg3 : arg3.IsWhole) (arg4 : Memref sig .tc .vmem S1x32x256x128 .fp8e4m3) (harg4 : arg4.IsWhole) (arg5 : Memref sig .tc .vmem S1x32x256x128 .f32) (harg5 : arg5.IsWhole) (arg6 : Memref sig .tc .vmem S1x32x128x256 .bf16) (harg6 : arg6.IsWhole) (arg7 : Memref sig .tc .vmem S1x32x256x128 .bf16) (harg7 : arg7.IsWhole) (arg8 : Memref sig .tc .vmem S1x32x256 .f32) (harg8 : arg8.IsWhole) (arg9 : Memref sig .tc .vmem S5x1x256 .f32) (harg9 : arg9.IsWhole) (arg10 : Memref sig .tc .vmem S5x1x256 .f32) (harg10 : arg10.IsWhole) (arg11 : Memref sig .tc .vmem S5x256x128 .bf16) (harg11 : arg11.IsWhole) (arg12 : Memref sig .tc .vmem S5x256x128 .f32) (harg12 : arg12.IsWhole) (arg13 : Memref sig .tc .vmem S1x32x256x128 .f32) (harg13 : arg13.IsWhole) (arg14 : Memref sig .tc .vmem S1x32x256x128 .f32) (harg14 : arg14.IsWhole) (arg15 : Memref sig .tc .vmem S5x256x128 .bf16) (harg15 : arg15.IsWhole) (arg16 : Memref sig .tc .vmem S5x128x256 .f32) (harg16 : arg16.IsWhole)
    (x0 : Vec F S5x256x128 .fp8e4m3) (x1 : Vec F S5x1x256 .f32) (x2 : Vec F S1x32x256x128 .fp8e4m3) (x3 : Vec F S1x32x256x128 .f32) (x4 : Vec F S1x32x128x256 .bf16) (x5 : Vec F S1x32x256x128 .bf16) (x6 : Vec F S1x32x256 .f32) (x7 : Vec F S5x1x256 .f32) (x8 : Vec F S5x1x256 .f32) (x9 : Vec F S5x256x128 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_attn_bwd_eq_skeleton]; unfold cc0_attn_bwd_skel
    simp only [k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [HS0]
    · iexists _, _; isplitr; swap; · iexact HS0
      ipureintro; rfl
    iexists _, _; isplitr; swap; · iexact HS1
    ipureintro; rfl

end Cert.Bwd.Hand

end
-- ==== Proof.BwdFrame.lean ====
/- The frame of the backward kernel, last part: the proof data, the obligation of the body at every grid point, the run,
   and `frame`: the program ends with its arguments unchanged and every semaphore at zero. -/
module

public import proofs.«01_k».proof.Proof.BwdBody
public import Idealize.ShloMosaic.Lib.Claim

@[expose] public section

-- membership in a rectangle of production extents (`View.cover_of_tiled`): the elaborator's structural look
-- recurses once per coordinate of the long axes
set_option maxRecDepth 16384

noncomputable section

namespace Cert.Bwd.Hand

open Cert.Bwd.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (10, 11, 12): nothing reads what the kernel leaves in them, so nothing
    of it is named (Lib/Pipeline/Dat.lean `Dat.toRForget`). -/
def forgets0 : Fin 13 → Bool := fun w => w.val == 10 || w.val == 11 || w.val == 12

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare d)
    ∗ (∃ d, owns (c : Thread nD τ) (ms0_11 t) fullShare d)
    ∗ (∃ d, owns (c : Thread nD τ) (ms0_12 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ (∃ d, owns (c : Thread nD τ) (ms0_10 t) fullShare d)
    ∗ (∃ d, owns (c : Thread nD τ) (ms0_11 t) fullShare d)
    ∗ (∃ d, owns (c : Thread nD τ) (ms0_12 t) fullShare d))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((kernelRun0_A c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [HS0]; · iexact HS0
  isplitl [HS1]; · iexact HS1
  iintro ⟨H0, H1, H2, H3, H4, H5, H6, H7, H8, H9, H10, H11, H12, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 10, 11, 12) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (fun c => (dats m 0 c).toRForget forgets0) (A_eq m) (run_main m ρ)

/-- THE FRAME: `Cert.quiescent_Bwd`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.Bwd.Hand

end
-- ==== Proof.Canon.lean ====
module

public import proofs.«01_k».proof.Proof.Gen.BwdIdeal.Frame
public import proofs.«01_k».proof.Proof.Gen.BwdIdeal.Loops

@[expose] public section

set_option maxRecDepth 16384

noncomputable section

namespace Cert.BwdIdeal.Hand

open Cert.BwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## One head's products against one block of keys, as functions of the values loaded for it

The kernel computes the same seven products for every head, on its own block of keys and in the loop over the earlier
blocks; the generated payloads cut the sequence at different places. These definitions are that sequence once. -/

/-- A key scale laid over both halves of the lanes. -/
def ksTile (ks : Vec F S1x1x256x128 .f32) : FVec F S256x256 .f32 :=
  concatenate S256x256 1 [⟨S256x128, shapeCast S256x128 ks shapeCasts_S1x1x256x128_S256x128⟩, ⟨S256x128, shapeCast S256x128 ks shapeCasts_S1x1x256x128_S256x128⟩] concatenates_S256x128_S256x128_S256x256_d1

/-- The scaled scores less the shift. -/
def scoreV (qf sh : FVec F S1x256 .f32) (ks : Vec F S1x1x256x128 .f32) (k : Vec F S1x1x256x128 .fp8e4m3) (q : Vec F S1x256x128 .fp8e4m3) : FVec F S256x256 .f32 :=
  subf (mulf (mulf (matmul dot_S256x128_S256x128_S256x256_1_1_0_0_n_n none (shapeCast S256x128 k shapeCasts_S1x1x256x128_S256x128) (shapeCast S256x128 q shapeCasts_S1x256x128_S256x128) (constant S256x256 .f32 0x00000000#32)) (ksTile ks)) (broadcastTo S256x256 qf broadcasts_S1x256_S256x256)) (broadcastTo S256x256 sh broadcasts_S1x256_S256x256)

/-- The weights of an earlier block of keys: the shift is infinite where the gate is shut. -/
def pastV (qf lse : FVec F S1x256 .f32) (g : Vec F S1x1x256 .f32) (ks : Vec F S1x1x256x128 .f32) (k : Vec F S1x1x256x128 .fp8e4m3) (q : Vec F S1x256x128 .fp8e4m3) : FVec F S256x256 .f32 :=
  exp2 (scoreV qf (select (cmpf .ogt (shapeCast S1x256 g shapeCasts_S1x1x256_S1x256 : FVec F S1x256 .f32) (broadcast S1x256 (Scalar.ofBits .f32 0x00000000#32))) lse (broadcast S1x256 (Scalar.ofBits .f32 0x7F800000#32))) ks k q)

/-- The weights of the query's own block of keys: minus infinity under the diagonal. -/
def ownV (qf lse : FVec F S1x256 .f32) (ks : Vec F S1x1x256x128 .f32) (k : Vec F S1x1x256x128 .fp8e4m3) (q : Vec F S1x256x128 .fp8e4m3) : FVec F S256x256 .f32 :=
  exp2 (select (cmpi .sle (iota .tc S256x256 32 [0] iota_S256x256_d0_w32) (iota .tc S256x256 32 [1] iota_S256x256_d1_w32)) (scoreV qf lse ks k q) (broadcast S256x256 (Scalar.ofBits .f32 0xFF800000#32)))

/-- The derivative of the scores. -/
def dsV (p : FVec F S256x256 .f32) (dvec : FVec F S1x256 .f32) (vd : Vec F S1x1x256x128 .bf16) (dO : Vec F S1x256x128 .bf16) : FVec F S256x256 .f32 :=
  mulf p (subf (matmul dot_S256x128_S256x128_S256x256_1_1_0_0_n_n none (shapeCast S256x128 vd shapeCasts_S1x1x256x128_S256x128) (shapeCast S256x128 dO shapeCasts_S1x256x128_S256x128) (constant S256x256 .f32 0x00000000#32)) (broadcastTo S256x256 dvec broadcasts_S1x256_S256x256))

/-- The queries' derivative, transposed. -/
def dqV (ds : FVec F S256x256 .f32) (ks : Vec F S1x1x256x128 .f32) (kt : Vec F S1x1x128x256 .bf16) : FVec F S128x256 .f32 :=
  matmul dot_S128x256_S256x256_S128x256_1_0_0_1_n_n none (shapeCast S128x256 kt shapeCasts_S1x1x128x256_S128x256) (truncf .bf16 (mulf ds (ksTile ks)) bitsLt_bf16_f32) (constant S128x256 .f32 0x00000000#32)

/-- The keys' derivative. -/
def dkV (ds : FVec F S256x256 .f32) (qs : FVec F S1x256 .f32) (qw : Vec F S1x256x128 .bf16) : FVec F S256x128 .f32 :=
  matmul dot_S256x256_S256x128_S256x128_1_0_0_1_n_n none (truncf .bf16 (mulf ds (broadcastTo S256x256 qs broadcasts_S1x256_S256x256)) bitsLt_bf16_f32) (shapeCast S256x128 qw shapeCasts_S1x256x128_S256x128) (constant S256x128 .f32 0x00000000#32)

/-- The values' derivative. -/
def dvV (p : FVec F S256x256 .f32) (dO : Vec F S1x256x128 .bf16) : FVec F S256x128 .f32 :=
  matmul dot_S256x256_S256x128_S256x128_1_0_0_1_n_n none (truncf .bf16 p bitsLt_bf16_f32) (shapeCast S256x128 dO shapeCasts_S1x256x128_S256x128) (constant S256x128 .f32 0x00000000#32)

/-- A slab with an addend put on it. -/
def plusSlab (x : Vec F S1x1x256x128 .f32) (a : FVec F S256x128 .f32) : Vec F S1x1x256x128 .f32 :=
  shapeCast S1x1x256x128 (addf (shapeCast S256x128 x shapeCasts_S1x1x256x128_S256x128 : FVec F S256x128 .f32) a) shapeCasts_S256x128_S1x1x256x128

/-- A head's transposed rows with an addend put on them. -/
def plusRow (x : Vec F S1x128x256 .f32) (a : FVec F S128x256 .f32) : Vec F S1x128x256 .f32 :=
  shapeCast S1x128x256 (addf (shapeCast S128x256 x shapeCasts_S1x128x256_S128x256 : FVec F S128x256 .f32) a) shapeCasts_S128x256_S1x128x256

/-- The sum over the five heads, in the kernel's order. -/
def sum5 (a : Fin 5 → FVec F S256x128 .f32) : FVec F S256x128 .f32 := addf (addf (addf (addf (a 0) (a 1)) (a 2)) (a 3)) (a 4)

/-! ## The loop's trip over these -/

/-- What one trip stores: its slab of the keys' and of the values' derivatives with the five heads' sums put on them, and
    each head's rows of the queries' derivative with this block's share put on them. -/
theorem tripL_eq (𝒱 : Variants) (c : Dev nD) (bd : Option 𝒱.V) (i : grid0.Coords) (arg2 : Memref sig .tc .vmem S5x256x128 .fp8e4m3) (harg2 : arg2.IsWhole) (arg3 : Memref sig .tc .vmem S5x1x256 .f32) (harg3 : arg3.IsWhole) (arg4 : Memref sig .tc .vmem S1x32x256x128 .fp8e4m3) (harg4 : arg4.IsWhole) (arg5 : Memref sig .tc .vmem S1x32x256x128 .f32) (harg5 : arg5.IsWhole) (arg6 : Memref sig .tc .vmem S1x32x128x256 .bf16) (harg6 : arg6.IsWhole) (arg7 : Memref sig .tc .vmem S1x32x256x128 .bf16) (harg7 : arg7.IsWhole) (arg8 : Memref sig .tc .vmem S1x32x256 .f32) (harg8 : arg8.IsWhole) (arg9 : Memref sig .tc .vmem S5x1x256 .f32) (harg9 : arg9.IsWhole) (arg10 : Memref sig .tc .vmem S5x1x256 .f32) (harg10 : arg10.IsWhole) (arg11 : Memref sig .tc .vmem S5x256x128 .bf16) (harg11 : arg11.IsWhole) (arg12 : Memref sig .tc .vmem S5x256x128 .f32) (harg12 : arg12.IsWhole) (arg13 : Memref sig .tc .vmem S1x32x256x128 .f32) (harg13 : arg13.IsWhole) (arg14 : Memref sig .tc .vmem S1x32x256x128 .f32) (harg14 : arg14.IsWhole) (arg15 : Memref sig .tc .vmem S5x256x128 .bf16) (harg15 : arg15.IsWhole) (arg16 : Memref sig .tc .vmem S5x128x256 .f32) (harg16 : arg16.IsWhole) (arg1 : BitVec 32) (v1 : FVec F S1x256 .f32) (v3 : FVec F S1x256 .f32) (v5 : FVec F S1x256 .f32) (v7 : FVec F S1x256 .f32) (v9 : FVec F S1x256 .f32) (v11 : FVec F S1x256 .f32) (v13 : FVec F S1x256 .f32) (v15 : FVec F S1x256 .f32) (v17 : FVec F S1x256 .f32) (v19 : FVec F S1x256 .f32) (v23 : FVec F S1x256 .f32) (v27 : FVec F S1x256 .f32) (v31 : FVec F S1x256 .f32) (v35 : FVec F S1x256 .f32) (v39 : FVec F S1x256 .f32) (v41 : FVec F S1x256 .f32) (v43 : FVec F S1x256 .f32) (v45 : FVec F S1x256 .f32) (v47 : FVec F S1x256 .f32) (v49 : FVec F S1x256 .f32) (c0_i32 : BitVec 32) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg11 : BufTy.Contents (Elt F) arg11.view.ty) (X_arg15 : BufTy.Contents (Elt F) arg15.view.ty) (k : Fin (k0_t1_loop i).trips) (acc : BitVec 32) (f_arg13 : BufTy.Contents (Elt F) arg13.view.ty) (f_arg14 : BufTy.Contents (Elt F) arg14.view.ty) (f_arg16 : BufTy.Contents (Elt F) arg16.view.ty) :
    tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v1 v3 v5 v7 v9 v11 v13 v15 v17 v19 v23 v27 v31 v35 v39 v41 v43 v45 v47 v49 c0_i32 X_arg2 X_arg4 X_arg5 X_arg6 X_arg7 X_arg8 X_arg11 X_arg15 k acc f_arg13 f_arg14 f_arg16
      = ([⟨(Rect.unit (s := S1x32x256x128) (k0_off4 i k) S1x1x256x128.size (k0_off4_inb i k)), plusSlab (View.readAt (Elt F) arg13.view (Rect.unit (s := S1x32x256x128) (k0_off4 i k) S1x1x256x128.size (k0_off4_inb i k)).toLoadRect f_arg13) (sum5 ![(dkV (dsV (pastV v11 v23 (View.readAt (Elt F) arg8.view (Rect.unit (s := S1x32x256) (k0_off3 i k) S1x1x256.size (k0_off3_inb i k)).toLoadRect X_arg8) (View.readAt (Elt F) arg5.view (Rect.unit (s := S1x32x256x128) (k0_off4 i k) S1x1x256x128.size (k0_off4_inb i k)).toLoadRect X_arg5) (View.readAt (Elt F) arg4.view (Rect.unit (s := S1x32x256x128) (k0_off4 i k) S1x1x256x128.size (k0_off4_inb i k)).toLoadRect X_arg4) (View.readAt (Elt F) arg2.view (Rect.unit (s := S5x256x128) ![0, 0, 0] S1x256x128.size inb_S5x256x128_S1x256x128_0_0_0).toLoadRect X_arg2)) v41 (View.readAt (Elt F) arg7.view (Rect.unit (s := S1x32x256x128) (k0_off4 i k) S1x1x256x128.size (k0_off4_inb i k)).toLoadRect X_arg7) (View.readAt (Elt F) arg11.view (Rect.unit (s := S5x256x128) ![0, 0, 0] S1x256x128.size inb_S5x256x128_S1x256x128_0_0_0).toLoadRect X_arg11)) v1 (View.readAt (Elt F) arg15.view (Rect.unit (s := S5x256x128) ![0, 0, 0] S1x256x128.size inb_S5x256x128_S1x256x128_0_0_0).toLoadRect X_arg15)), (dkV (dsV (pastV v13 v27 (View.readAt (Elt F) arg8.view (Rect.unit (s := S1x32x256) (k0_off3 i k) S1x1x256.size (k0_off3_inb i k)).toLoadRect X_arg8) (View.readAt (Elt F) arg5.view (Rect.unit (s := S1x32x256x128) (k0_off4 i k) S1x1x256x128.size (k0_off4_inb i k)).toLoadRect X_arg5) (View.readAt (Elt F) arg4.view (Rect.unit (s := S1x32x256x128) (k0_off4 i k) S1x1x256x128.size (k0_off4_inb i k)).toLoadRect X_arg4) (View.readAt (Elt F) arg2.view (Rect.unit (s := S5x256x128) ![1, 0, 0] S1x256x128.size inb_S5x256x128_S1x256x128_1_0_0).toLoadRect X_arg2)) v43 (View.readAt (Elt F) arg7.view (Rect.unit (s := S1x32x256x128) (k0_off4 i k) S1x1x256x128.size (k0_off4_inb i k)).toLoadRect X_arg7) (View.readAt (Elt F) arg11.view (Rect.unit (s := S5x256x128) ![1, 0, 0] S1x256x128.size inb_S5x256x128_S1x256x128_1_0_0).toLoadRect X_arg11)) v3 (View.readAt (Elt F) arg15.view (Rect.unit (s := S5x256x128) ![1, 0, 0] S1x256x128.size inb_S5x256x128_S1x256x128_1_0_0).toLoadRect X_arg15)), (dkV (dsV (pastV v15 v31 (View.readAt (Elt F) arg8.view (Rect.unit (s := S1x32x256) (k0_off3 i k) S1x1x256.size (k0_off3_inb i k)).toLoadRect X_arg8) (View.readAt (Elt F) arg5.view (Rect.unit (s := S1x32x256x128) (k0_off4 i k) S1x1x256x128.size (k0_off4_inb i k)).toLoadRect X_arg5) (View.readAt (Elt F) arg4.view (Rect.unit (s := S1x32x256x128) (k0_off4 i k) S1x1x256x128.size (k0_off4_inb i k)).toLoadRect X_arg4) (View.readAt (Elt F) arg2.view (Rect.unit (s := S5x256x128) ![2, 0, 0] S1x256x128.size inb_S5x256x128_S1x256x128_2_0_0).toLoadRect X_arg2)) v45 (View.readAt (Elt F) arg7.view (Rect.unit (s := S1x32x256x128) (k0_off4 i k) S1x1x256x128.size (k0_off4_inb i k)).toLoadRect X_arg7) (View.readAt (Elt F) arg11.view (Rect.unit (s := S5x256x128) ![2, 0, 0] S1x256x128.size inb_S5x256x128_S1x256x128_2_0_0).toLoadRect X_arg11)) v5 (View.readAt (Elt F) arg15.view (Rect.unit (s := S5x256x128) ![2, 0, 0] S1x256x128.size inb_S5x256x128_S1x256x128_2_0_0).toLoadRect X_arg15)), (dkV (dsV (pastV v17 v35 (View.readAt (Elt F) arg8.view (Rect.unit (s := S1x32x256) (k0_off3 i k) S1x1x256.size (k0_off3_inb i k)).toLoadRect X_arg8) (View.readAt (Elt F) arg5.view (Rect.unit (s := S1x32x256x128) (k0_off4 i k) S1x1x256x128.size (k0_off4_inb i k)).toLoadRect X_arg5) (View.readAt (Elt F) arg4.view (Rect.unit (s := S1x32x256x128) (k0_off4 i k) S1x1x256x128.size (k0_off4_inb i k)).toLoadRect X_arg4) (View.readAt (Elt F) arg2.view (Rect.unit (s := S5x256x128) ![3, 0, 0] S1x256x128.size inb_S5x256x128_S1x256x128_3_0_0).toLoadRect X_arg2)) v47 (View.readAt (Elt F) arg7.view (Rect.unit (s := S1x32x256x128) (k0_off4 i k) S1x1x256x128.size (k0_off4_inb i k)).toLoadRect X_arg7) (View.readAt (Elt F) arg11.view (Rect.unit (s := S5x256x128) ![3, 0, 0] S1x256x128.size inb_S5x256x128_S1x256x128_3_0_0).toLoadRect X_arg11)) v7 (View.readAt (Elt F) arg15.view (Rect.unit (s := S5x256x128) ![3, 0, 0] S1x256x128.size inb_S5x256x128_S1x256x128_3_0_0).toLoadRect X_arg15)), (dkV (dsV (pastV v19 v39 (View.readAt (Elt F) arg8.view (Rect.unit (s := S1x32x256) (k0_off3 i k) S1x1x256.size (k0_off3_inb i k)).toLoadRect X_arg8) (View.readAt (Elt F) arg5.view (Rect.unit (s := S1x32x256x128) (k0_off4 i k) S1x1x256x128.size (k0_off4_inb i k)).toLoadRect X_arg5) (View.readAt (Elt F) arg4.view (Rect.unit (s := S1x32x256x128) (k0_off4 i k) S1x1x256x128.size (k0_off4_inb i k)).toLoadRect X_arg4) (View.readAt (Elt F) arg2.view (Rect.unit (s := S5x256x128) ![4, 0, 0] S1x256x128.size inb_S5x256x128_S1x256x128_4_0_0).toLoadRect X_arg2)) v49 (View.readAt (Elt F) arg7.view (Rect.unit (s := S1x32x256x128) (k0_off4 i k) S1x1x256x128.size (k0_off4_inb i k)).toLoadRect X_arg7) (View.readAt (Elt F) arg11.view (Rect.unit (s := S5x256x128) ![4, 0, 0] S1x256x128.size inb_S5x256x128_S1x256x128_4_0_0).toLoadRect X_arg11)) v9 (View.readAt (Elt F) arg15.view (Rect.unit (s := S5x256x128) ![4, 0, 0] S1x256x128.size inb_S5x256x128_S1x256x128_4_0_0).toLoadRect X_arg15))])⟩],
         [⟨(Rect.unit (s := S1x32x256x128) (k0_off4 i k) S1x1x256x128.size (k0_off4_inb i k)), plusSlab (View.readAt (Elt F) arg14.view (Rect.unit (s := S1x32x256x128) (k0_off4 i k) S1x1x256x128.size (k0_off4_inb i k)).toLoadRect f_arg14) (sum5 ![(dvV (pastV v11 v23 (View.readAt (Elt F) arg8.view (Rect.unit (s := S1x32x256) (k0_off3 i k) S1x1x256.size (k0_off3_inb i k)).toLoadRect X_arg8) (View.readAt (Elt F) arg5.view (Rect.unit (s := S1x32x256x128) (k0_off4 i k) S1x1x256x128.size (k0_off4_inb i k)).toLoadRect X_arg5) (View.readAt (Elt F) arg4.view (Rect.unit (s := S1x32x256x128) (k0_off4 i k) S1x1x256x128.size (k0_off4_inb i k)).toLoadRect X_arg4) (View.readAt (Elt F) arg2.view (Rect.unit (s := S5x256x128) ![0, 0, 0] S1x256x128.size inb_S5x256x128_S1x256x128_0_0_0).toLoadRect X_arg2)) (View.readAt (Elt F) arg11.view (Rect.unit (s := S5x256x128) ![0, 0, 0] S1x256x128.size inb_S5x256x128_S1x256x128_0_0_0).toLoadRect X_arg11)), (dvV (pastV v13 v27 (View.readAt (Elt F) arg8.view (Rect.unit (s := S1x32x256) (k0_off3 i k) S1x1x256.size (k0_off3_inb i k)).toLoadRect X_arg8) (View.readAt (Elt F) arg5.view (Rect.unit (s := S1x32x256x128) (k0_off4 i k) S1x1x256x128.size (k0_off4_inb i k)).toLoadRect X_arg5) (View.readAt (Elt F) arg4.view (Rect.unit (s := S1x32x256x128) (k0_off4 i k) S1x1x256x128.size (k0_off4_inb i k)).toLoadRect X_arg4) (View.readAt (Elt F) arg2.view (Rect.unit (s := S5x256x128) ![1, 0, 0] S1x256x128.size inb_S5x256x128_S1x256x128_1_0_0).toLoadRect X_arg2)) (View.readAt (Elt F) arg11.view (Rect.unit (s := S5x256x128) ![1, 0, 0] S1x256x128.size inb_S5x256x128_S1x256x128_1_0_0).toLoadRect X_arg11)), (dvV (pastV v15 v31 (View.readAt (Elt F) arg8.view (Rect.unit (s := S1x32x256) (k0_off3 i k) S1x1x256.size (k0_off3_inb i k)).toLoadRect X_arg8) (View.readAt (Elt F) arg5.view (Rect.unit (s := S1x32x256x128) (k0_off4 i k) S1x1x256x128.size (k0_off4_inb i k)).toLoadRect X_arg5) (View.readAt (Elt F) arg4.view (Rect.unit (s := S1x32x256x128) (k0_off4 i k) S1x1x256x128.size (k0_off4_inb i k)).toLoadRect X_arg4) (View.readAt (Elt F) arg2.view (Rect.unit (s := S5x256x128) ![2, 0, 0] S1x256x128.size inb_S5x256x128_S1x256x128_2_0_0).toLoadRect X_arg2)) (View.readAt (Elt F) arg11.view (Rect.unit (s := S5x256x128) ![2, 0, 0] S1x256x128.size inb_S5x256x128_S1x256x128_2_0_0).toLoadRect X_arg11)), (dvV (pastV v17 v35 (View.readAt (Elt F) arg8.view (Rect.unit (s := S1x32x256) (k0_off3 i k) S1x1x256.size (k0_off3_inb i k)).toLoadRect X_arg8) (View.readAt (Elt F) arg5.view (Rect.unit (s := S1x32x256x128) (k0_off4 i k) S1x1x256x128.size (k0_off4_inb i k)).toLoadRect X_arg5) (View.readAt (Elt F) arg4.view (Rect.unit (s := S1x32x256x128) (k0_off4 i k) S1x1x256x128.size (k0_off4_inb i k)).toLoadRect X_arg4) (View.readAt (Elt F) arg2.view (Rect.unit (s := S5x256x128) ![3, 0, 0] S1x256x128.size inb_S5x256x128_S1x256x128_3_0_0).toLoadRect X_arg2)) (View.readAt (Elt F) arg11.view (Rect.unit (s := S5x256x128) ![3, 0, 0] S1x256x128.size inb_S5x256x128_S1x256x128_3_0_0).toLoadRect X_arg11)), (dvV (pastV v19 v39 (View.readAt (Elt F) arg8.view (Rect.unit (s := S1x32x256) (k0_off3 i k) S1x1x256.size (k0_off3_inb i k)).toLoadRect X_arg8) (View.readAt (Elt F) arg5.view (Rect.unit (s := S1x32x256x128) (k0_off4 i k) S1x1x256x128.size (k0_off4_inb i k)).toLoadRect X_arg5) (View.readAt (Elt F) arg4.view (Rect.unit (s := S1x32x256x128) (k0_off4 i k) S1x1x256x128.size (k0_off4_inb i k)).toLoadRect X_arg4) (View.readAt (Elt F) arg2.view (Rect.unit (s := S5x256x128) ![4, 0, 0] S1x256x128.size inb_S5x256x128_S1x256x128_4_0_0).toLoadRect X_arg2)) (View.readAt (Elt F) arg11.view (Rect.unit (s := S5x256x128) ![4, 0, 0] S1x256x128.size inb_S5x256x128_S1x256x128_4_0_0).toLoadRect X_arg11))])⟩],
         [⟨(Rect.unit (s := S5x128x256) ![4, 0, 0] S1x128x256.size inb_S5x128x256_S1x128x256_4_0_0), plusRow (View.readAt (Elt F) arg16.view (Rect.unit (s := S5x128x256) ![4, 0, 0] S1x128x256.size inb_S5x128x256_S1x128x256_4_0_0).toLoadRect f_arg16) (dqV (dsV (pastV v19 v39 (View.readAt (Elt F) arg8.view (Rect.unit (s := S1x32x256) (k0_off3 i k) S1x1x256.size (k0_off3_inb i k)).toLoadRect X_arg8) (View.readAt (Elt F) arg5.view (Rect.unit (s := S1x32x256x128) (k0_off4 i k) S1x1x256x128.size (k0_off4_inb i k)).toLoadRect X_arg5) (View.readAt (Elt F) arg4.view (Rect.unit (s := S1x32x256x128) (k0_off4 i k) S1x1x256x128.size (k0_off4_inb i k)).toLoadRect X_arg4) (View.readAt (Elt F) arg2.view (Rect.unit (s := S5x256x128) ![4, 0, 0] S1x256x128.size inb_S5x256x128_S1x256x128_4_0_0).toLoadRect X_arg2)) v49 (View.readAt (Elt F) arg7.view (Rect.unit (s := S1x32x256x128) (k0_off4 i k) S1x1x256x128.size (k0_off4_inb i k)).toLoadRect X_arg7) (View.readAt (Elt F) arg11.view (Rect.unit (s := S5x256x128) ![4, 0, 0] S1x256x128.size inb_S5x256x128_S1x256x128_4_0_0).toLoadRect X_arg11)) (View.readAt (Elt F) arg5.view (Rect.unit (s := S1x32x256x128) (k0_off4 i k) S1x1x256x128.size (k0_off4_inb i k)).toLoadRect X_arg5) (View.readAt (Elt F) arg6.view (Rect.unit (s := S1x32x128x256) (k0_off5 i k) S1x1x128x256.size (k0_off5_inb i k)).toLoadRect X_arg6))⟩, ⟨(Rect.unit (s := S5x128x256) ![3, 0, 0] S1x128x256.size inb_S5x128x256_S1x128x256_3_0_0), plusRow (View.readAt (Elt F) arg16.view (Rect.unit (s := S5x128x256) ![3, 0, 0] S1x128x256.size inb_S5x128x256_S1x128x256_3_0_0).toLoadRect f_arg16) (dqV (dsV (pastV v17 v35 (View.readAt (Elt F) arg8.view (Rect.unit (s := S1x32x256) (k0_off3 i k) S1x1x256.size (k0_off3_inb i k)).toLoadRect X_arg8) (View.readAt (Elt F) arg5.view (Rect.unit (s := S1x32x256x128) (k0_off4 i k) S1x1x256x128.size (k0_off4_inb i k)).toLoadRect X_arg5) (View.readAt (Elt F) arg4.view (Rect.unit (s := S1x32x256x128) (k0_off4 i k) S1x1x256x128.size (k0_off4_inb i k)).toLoadRect X_arg4) (View.readAt (Elt F) arg2.view (Rect.unit (s := S5x256x128) ![3, 0, 0] S1x256x128.size inb_S5x256x128_S1x256x128_3_0_0).toLoadRect X_arg2)) v47 (View.readAt (Elt F) arg7.view (Rect.unit (s := S1x32x256x128) (k0_off4 i k) S1x1x256x128.size (k0_off4_inb i k)).toLoadRect X_arg7) (View.readAt (Elt F) arg11.view (Rect.unit (s := S5x256x128) ![3, 0, 0] S1x256x128.size inb_S5x256x128_S1x256x128_3_0_0).toLoadRect X_arg11)) (View.readAt (Elt F) arg5.view (Rect.unit (s := S1x32x256x128) (k0_off4 i k) S1x1x256x128.size (k0_off4_inb i k)).toLoadRect X_arg5) (View.readAt (Elt F) arg6.view (Rect.unit (s := S1x32x128x256) (k0_off5 i k) S1x1x128x256.size (k0_off5_inb i k)).toLoadRect X_arg6))⟩, ⟨(Rect.unit (s := S5x128x256) ![2, 0, 0] S1x128x256.size inb_S5x128x256_S1x128x256_2_0_0), plusRow (View.readAt (Elt F) arg16.view (Rect.unit (s := S5x128x256) ![2, 0, 0] S1x128x256.size inb_S5x128x256_S1x128x256_2_0_0).toLoadRect f_arg16) (dqV (dsV (pastV v15 v31 (View.readAt (Elt F) arg8.view (Rect.unit (s := S1x32x256) (k0_off3 i k) S1x1x256.size (k0_off3_inb i k)).toLoadRect X_arg8) (View.readAt (Elt F) arg5.view (Rect.unit (s := S1x32x256x128) (k0_off4 i k) S1x1x256x128.size (k0_off4_inb i k)).toLoadRect X_arg5) (View.readAt (Elt F) arg4.view (Rect.unit (s := S1x32x256x128) (k0_off4 i k) S1x1x256x128.size (k0_off4_inb i k)).toLoadRect X_arg4) (View.readAt (Elt F) arg2.view (Rect.unit (s := S5x256x128) ![2, 0, 0] S1x256x128.size inb_S5x256x128_S1x256x128_2_0_0).toLoadRect X_arg2)) v45 (View.readAt (Elt F) arg7.view (Rect.unit (s := S1x32x256x128) (k0_off4 i k) S1x1x256x128.size (k0_off4_inb i k)).toLoadRect X_arg7) (View.readAt (Elt F) arg11.view (Rect.unit (s := S5x256x128) ![2, 0, 0] S1x256x128.size inb_S5x256x128_S1x256x128_2_0_0).toLoadRect X_arg11)) (View.readAt (Elt F) arg5.view (Rect.unit (s := S1x32x256x128) (k0_off4 i k) S1x1x256x128.size (k0_off4_inb i k)).toLoadRect X_arg5) (View.readAt (Elt F) arg6.view (Rect.unit (s := S1x32x128x256) (k0_off5 i k) S1x1x128x256.size (k0_off5_inb i k)).toLoadRect X_arg6))⟩, ⟨(Rect.unit (s := S5x128x256) ![1, 0, 0] S1x128x256.size inb_S5x128x256_S1x128x256_1_0_0), plusRow (View.readAt (Elt F) arg16.view (Rect.unit (s := S5x128x256) ![1, 0, 0] S1x128x256.size inb_S5x128x256_S1x128x256_1_0_0).toLoadRect f_arg16) (dqV (dsV (pastV v13 v27 (View.readAt (Elt F) arg8.view (Rect.unit (s := S1x32x256) (k0_off3 i k) S1x1x256.size (k0_off3_inb i k)).toLoadRect X_arg8) (View.readAt (Elt F) arg5.view (Rect.unit (s := S1x32x256x128) (k0_off4 i k) S1x1x256x128.size (k0_off4_inb i k)).toLoadRect X_arg5) (View.readAt (Elt F) arg4.view (Rect.unit (s := S1x32x256x128) (k0_off4 i k) S1x1x256x128.size (k0_off4_inb i k)).toLoadRect X_arg4) (View.readAt (Elt F) arg2.view (Rect.unit (s := S5x256x128) ![1, 0, 0] S1x256x128.size inb_S5x256x128_S1x256x128_1_0_0).toLoadRect X_arg2)) v43 (View.readAt (Elt F) arg7.view (Rect.unit (s := S1x32x256x128) (k0_off4 i k) S1x1x256x128.size (k0_off4_inb i k)).toLoadRect X_arg7) (View.readAt (Elt F) arg11.view (Rect.unit (s := S5x256x128) ![1, 0, 0] S1x256x128.size inb_S5x256x128_S1x256x128_1_0_0).toLoadRect X_arg11)) (View.readAt (Elt F) arg5.view (Rect.unit (s := S1x32x256x128) (k0_off4 i k) S1x1x256x128.size (k0_off4_inb i k)).toLoadRect X_arg5) (View.readAt (Elt F) arg6.view (Rect.unit (s := S1x32x128x256) (k0_off5 i k) S1x1x128x256.size (k0_off5_inb i k)).toLoadRect X_arg6))⟩, ⟨(Rect.unit (s := S5x128x256) ![0, 0, 0] S1x128x256.size inb_S5x128x256_S1x128x256_0_0_0), plusRow (View.readAt (Elt F) arg16.view (Rect.unit (s := S5x128x256) ![0, 0, 0] S1x128x256.size inb_S5x128x256_S1x128x256_0_0_0).toLoadRect f_arg16) (dqV (dsV (pastV v11 v23 (View.readAt (Elt F) arg8.view (Rect.unit (s := S1x32x256) (k0_off3 i k) S1x1x256.size (k0_off3_inb i k)).toLoadRect X_arg8) (View.readAt (Elt F) arg5.view (Rect.unit (s := S1x32x256x128) (k0_off4 i k) S1x1x256x128.size (k0_off4_inb i k)).toLoadRect X_arg5) (View.readAt (Elt F) arg4.view (Rect.unit (s := S1x32x256x128) (k0_off4 i k) S1x1x256x128.size (k0_off4_inb i k)).toLoadRect X_arg4) (View.readAt (Elt F) arg2.view (Rect.unit (s := S5x256x128) ![0, 0, 0] S1x256x128.size inb_S5x256x128_S1x256x128_0_0_0).toLoadRect X_arg2)) v41 (View.readAt (Elt F) arg7.view (Rect.unit (s := S1x32x256x128) (k0_off4 i k) S1x1x256x128.size (k0_off4_inb i k)).toLoadRect X_arg7) (View.readAt (Elt F) arg11.view (Rect.unit (s := S5x256x128) ![0, 0, 0] S1x256x128.size inb_S5x256x128_S1x256x128_0_0_0).toLoadRect X_arg11)) (View.readAt (Elt F) arg5.view (Rect.unit (s := S1x32x256x128) (k0_off4 i k) S1x1x256x128.size (k0_off4_inb i k)).toLoadRect X_arg5) (View.readAt (Elt F) arg6.view (Rect.unit (s := S1x32x128x256) (k0_off5 i k) S1x1x128x256.size (k0_off5_inb i k)).toLoadRect X_arg6))⟩]) := by
  unfold tripL_k0_t1 trip_k0_t1
  dsimp only
  rfl

end Cert.BwdIdeal.Hand
-- ==== Proof.Vals.lean ====
module

public import proofs.«01_k».proof.Proof.Canon
public import Idealize.ShloMosaic.Lib.Pointwise

@[expose] public section

set_option maxRecDepth 16384

noncomputable section

namespace Cert.BwdIdeal.Hand

open Cert.BwdIdeal.Gen
open Idealize.ShloMosaic Idealize.ShloMosaic.TcCoe Idealize.ShloMosaic.Tactic

/-! ## The backward pass of one tile of queries, entry by entry -/

/-- The folded constant on the query scales. -/
def cQ : EReal := Ideal.ofBits .f32 0x3E0293EE#32
/-- The constant on the row sums. -/
def cL : EReal := Ideal.ofBits .f32 0x3FB8AA3B#32
/-- The softmax scale. -/
def cS : EReal := Ideal.ofBits .f32 0x3DB504F3#32

/-- What the body reads for one tile of 256 queries: five heads of queries, with their scales, row sums, row dots and
    output derivatives, and all 32 blocks of keys of their group, with their scales, transposed dequantised copies,
    dequantised values and gates. -/
structure Blk where
  q : Fin 5 → Fin 256 → Fin 128 → EReal
  qs : Fin 5 → Fin 256 → EReal
  k : Fin 32 → Fin 256 → Fin 128 → EReal
  ks : Fin 32 → Fin 256 → Fin 128 → EReal
  kt : Fin 32 → Fin 128 → Fin 256 → EReal
  vd : Fin 32 → Fin 256 → Fin 128 → EReal
  g : Fin 32 → Fin 256 → EReal
  lse : Fin 5 → Fin 256 → EReal
  dvec : Fin 5 → Fin 256 → EReal
  dO : Fin 5 → Fin 256 → Fin 128 → EReal

namespace Blk

variable (B : Blk)

/-- The key scale over the 256 lanes. -/
def ksT (j : Fin 32) (s t : Fin 256) : EReal := if h : t.val < 128 then B.ks j s ⟨t.val, h⟩ else B.ks j s ⟨t.val - 128, by omega⟩

/-- The scaled score less a shift. -/
def score (j : Fin 32) (h : Fin 5) (s t : Fin 256) (sh : EReal) : EReal :=
  (∑ d, B.k j s d * B.q h t d) * B.ksT j s t * (B.qs h t * cQ) - sh

/-- The weight of a key of an earlier block. -/
def past (j : Fin 32) (h : Fin 5) (s t : Fin 256) : EReal :=
  Ideal.exp2 (B.score j h s t (if 0 < B.g j t then B.lse h t * cL else ⊤))

/-- The weight of a key of the query's own block. -/
def own (j : Fin 32) (h : Fin 5) (s t : Fin 256) : EReal :=
  Ideal.exp2 (if s ≤ t then B.score j h s t (B.lse h t * cL) else ⊥)

/-- The score's derivative for given weights. -/
def ds (p : Fin 256 → Fin 256 → EReal) (j : Fin 32) (h : Fin 5) (s t : Fin 256) : EReal :=
  p s t * (∑ d, B.vd j s d * B.dO h t d - B.dvec h t)

/-- One block's share of the queries' derivative, transposed. -/
def dq (p : Fin 256 → Fin 256 → EReal) (j : Fin 32) (h : Fin 5) (d : Fin 128) (t : Fin 256) : EReal :=
  ∑ s, B.kt j d s * (B.ds p j h s t * B.ksT j s t)

/-- One head's share of the keys' derivative. -/
def dk (p : Fin 256 → Fin 256 → EReal) (j : Fin 32) (h : Fin 5) (s : Fin 256) (d : Fin 128) : EReal :=
  ∑ t, B.ds p j h s t * B.qs h t * B.q h t d

/-- One head's share of the values' derivative. -/
def dv (p : Fin 256 → Fin 256 → EReal) (h : Fin 5) (s : Fin 256) (d : Fin 128) : EReal :=
  ∑ t, p s t * B.dO h t d

end Blk

/-- The loaded vectors of head `h` are the tile's. -/
structure HeadOK (B : Blk) (h : Fin 5) (qs qf lse dvec : FVec Ideal S1x256 .f32) (q : Vec Ideal S1x256x128 .fp8e4m3)
    (dO : Vec Ideal S1x256x128 .bf16) (qw : Vec Ideal S1x256x128 .bf16) : Prop where
  qs : ∀ t, qs (ix2 0 t) = B.qs h t
  qf : ∀ t, qf (ix2 0 t) = B.qs h t * cQ
  lse : ∀ t, lse (ix2 0 t) = B.lse h t * cL
  dvec : ∀ t, dvec (ix2 0 t) = B.dvec h t
  q : ∀ t d, q (ix3 0 t d) = B.q h t d
  dO : ∀ t d, dO (ix3 0 t d) = B.dO h t d
  qw : ∀ t d, qw (ix3 0 t d) = B.q h t d

/-- The loaded vectors of block `j` are the tile's. -/
structure KeyOK (B : Blk) (j : Fin 32) (ks : Vec Ideal S1x1x256x128 .f32) (k : Vec Ideal S1x1x256x128 .fp8e4m3)
    (vd : Vec Ideal S1x1x256x128 .bf16) (kt : Vec Ideal S1x1x128x256 .bf16) : Prop where
  ks : ∀ s d, ks (ix4 0 0 s d) = B.ks j s d
  k : ∀ s d, k (ix4 0 0 s d) = B.k j s d
  vd : ∀ s d, vd (ix4 0 0 s d) = B.vd j s d
  kt : ∀ d s, kt (ix4 0 0 d s) = B.kt j d s

section Laws

variable {B : Blk} {h : Fin 5} {j : Fin 32} {qs qf lse dvec : FVec Ideal S1x256 .f32} {q : Vec Ideal S1x256x128 .fp8e4m3}
  {dO : Vec Ideal S1x256x128 .bf16} {qw : Vec Ideal S1x256x128 .bf16} {ks : Vec Ideal S1x1x256x128 .f32}
  {k : Vec Ideal S1x1x256x128 .fp8e4m3} {vd : Vec Ideal S1x1x256x128 .bf16} {kt : Vec Ideal S1x1x128x256 .bf16}

theorem ksTile_eq (hk : KeyOK B j ks k vd kt) (s t : Fin 256) : ksTile ks (ix2 s t) = B.ksT j s t := by
  pointwise [ksTile]
  simp only [hk.ks]; rfl

theorem scoreV_eq (hh : HeadOK B h qs qf lse dvec q dO qw) (hk : KeyOK B j ks k vd kt) (sh : FVec Ideal S1x256 .f32) (s t : Fin 256) :
    scoreV qf sh ks k q (ix2 s t) = B.score j h s t (sh (ix2 0 t)) := by
  pointwise [scoreV]
  rw [ksTile_eq hk, hh.qf]; simp only [hk.k, hh.q]; rfl

theorem pastV_eq (hh : HeadOK B h qs qf lse dvec q dO qw) (hk : KeyOK B j ks k vd kt) (g : Vec Ideal S1x1x256 .f32)
    (hg : ∀ t, g (ix3 0 0 t) = B.g j t) (s t : Fin 256) : pastV qf lse g ks k q (ix2 s t) = B.past j h s t := by
  have htop : Ideal.ofBits .f32 0x7F800000#32 = ⊤ := by simp [Ideal.ofBits, Ideal.ieee]
  pointwise [pastV]
  rw [scoreV_eq hh hk]
  pointwise
  simp only [hg, hh.lse, htop]
  rfl

theorem ownV_eq (hh : HeadOK B h qs qf lse dvec q dO qw) (hk : KeyOK B j ks k vd kt) (s t : Fin 256) :
    ownV qf lse ks k q (ix2 s t) = B.own j h s t := by
  have hbot : Ideal.ofBits .f32 0xFF800000#32 = ⊥ := by simp [Ideal.ofBits, Ideal.ieee]
  pointwise [ownV]
  rw [scoreV_eq hh hk, hh.lse, hbot]
  have hs : IntOp.cmpi .sle (BitVec.ofNat 32 s.val) (BitVec.ofNat 32 t.val) = BitVec.ofBool (decide (s ≤ t)) := by
    unfold IntOp.cmpi
    have hs := s.isLt
    have ht := t.isLt
    simp only [BitVec.sle_eq_decide, BitVec.toInt_ofNat', Fin.le_def]
    congr 2
    rw [Int.bmod_eq_of_le (by omega) (by omega), Int.bmod_eq_of_le (by omega) (by omega)]
    simp
  rw [hs]
  unfold Blk.own
  by_cases hst : s ≤ t
  · rw [if_pos hst, decide_eq_true hst]; rfl
  · rw [if_neg hst, decide_eq_false hst]; rfl

theorem dsV_eq (hh : HeadOK B h qs qf lse dvec q dO qw) (hk : KeyOK B j ks k vd kt) (pv : FVec Ideal S256x256 .f32) (p : Fin 256 → Fin 256 → EReal)
    (hp : ∀ s t, pv (ix2 s t) = p s t) (s t : Fin 256) : dsV pv dvec vd dO (ix2 s t) = B.ds p j h s t := by
  pointwise [dsV]
  simp only [hp, hk.vd, hh.dO, hh.dvec]; rfl

theorem dqV_eq (hh : HeadOK B h qs qf lse dvec q dO qw) (hk : KeyOK B j ks k vd kt) (pv : FVec Ideal S256x256 .f32) (p : Fin 256 → Fin 256 → EReal)
    (hp : ∀ s t, pv (ix2 s t) = p s t) (d : Fin 128) (t : Fin 256) : dqV (dsV pv dvec vd dO) ks kt (ix2 d t) = B.dq p j h d t := by
  pointwise [dqV]
  simp only [dsV_eq hh hk pv p hp, ksTile_eq hk, hk.kt]; rfl

theorem dkV_eq (hh : HeadOK B h qs qf lse dvec q dO qw) (hk : KeyOK B j ks k vd kt) (pv : FVec Ideal S256x256 .f32) (p : Fin 256 → Fin 256 → EReal)
    (hp : ∀ s t, pv (ix2 s t) = p s t) (s : Fin 256) (d : Fin 128) : dkV (dsV pv dvec vd dO) qs qw (ix2 s d) = B.dk p j h s d := by
  pointwise [dkV]
  simp only [dsV_eq hh hk pv p hp, hh.qs, hh.qw]; rfl

theorem dvV_eq (hh : HeadOK B h qs qf lse dvec q dO qw) (pv : FVec Ideal S256x256 .f32) (p : Fin 256 → Fin 256 → EReal)
    (hp : ∀ s t, pv (ix2 s t) = p s t) (s : Fin 256) (d : Fin 128) : dvV pv dO (ix2 s d) = B.dv p h s d := by
  pointwise [dvV]
  simp only [hp, hh.dO]; rfl

end Laws

theorem plusSlab_eq (x : Vec Ideal S1x1x256x128 .f32) (a : FVec Ideal S256x128 .f32) (s : Fin 256) (d : Fin 128) :
    plusSlab x a (ix4 0 0 s d) = x (ix4 0 0 s d) + a (ix2 s d) := by
  pointwise [plusSlab]

theorem plusRow_eq (x : Vec Ideal S1x128x256 .f32) (a : FVec Ideal S128x256 .f32) (d : Fin 128) (t : Fin 256) :
    plusRow x a (ix3 0 d t) = x (ix3 0 d t) + a (ix2 d t) := by
  pointwise [plusRow]

theorem sum5_eq (a : Fin 5 → FVec Ideal S256x128 .f32) (s : Fin 256) (d : Fin 128) : sum5 a (ix2 s d) = ∑ h, a h (ix2 s d) := by
  rw [Fin.sum_univ_five]; pointwise [sum5]

/-- A load of a unit-stride rectangle at an index is what the memref reads there, moved by the offsets. -/
theorem readAt_unit {sig : RefSig} {κ : Kind} {sp : Space} {s : Shape} {e : EltTy} {Val : EltTy → Type} (v : View sig κ sp s e)
    {off off' size : Fin s.rank → ℕ} (inb : ∀ a, off a + size a ≤ s.size a) (f : v.ty.Contents Val)
    (x : (Rect.unit off size inb).shape.Idx) (y : s.Idx) (heq : off = off') (hy : ∀ a, (y a).val = off' a + (x a).val) :
    View.readAt Val v (Rect.unit off size inb).toLoadRect f x = v.read Val f y := by
  subst heq
  have hy : (Rect.unit off size inb).emb x = y := funext fun a => Fin.ext (by
    show off a + 1 * (x a).val = (y a).val
    rw [hy a, Nat.one_mul])
  rw [← hy]; rfl

theorem trips1 : ∀ i : grid0.Coords, (k0_t1_loop i).trips = (i 1).val := by decide +kernel
theorem trips2 : ∀ i : grid0.Coords, (k0_t2_loop i).trips = 0 := by decide +kernel

end Cert.BwdIdeal.Hand
-- ==== Proof.Rows.lean ====
module

public import proofs.«01_k».proof.Proof.Gen.BwdIdeal.Frame
public import proofs.«01_k».proof.Proof.Gen.BwdIdeal.Loops
public import proofs.«01_k».proof.Proof.Vals
public import Idealize.ShloMosaic.Lib.WritesUnit

@[expose] public section

set_option maxRecDepth 16384

noncomputable section

namespace Cert.BwdIdeal.Hand

open Cert.BwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

theorem row_hit_t {sig : RefSig} {κ : Kind} {sp : Space} {e : EltTy} (v : View sig κ sp S5x128x256 e) (f : v.ty.Contents (Elt Ideal)) (m : ℕ)
    (inb : ∀ a, (![m, 0, 0] : Fin 3 → ℕ) a + S1x128x256.size a ≤ S5x128x256.size a) (w : Vec Ideal S1x128x256 e) (L : List (View.Piece (Elt Ideal) S5x128x256 e))
    (h : Fin 5) (ab : Fin 128 × Fin 256) (hm : h.val = m) :
    v.read (Elt Ideal) (v.writes (Elt Ideal) f (⟨Rect.unit (s := S5x128x256) ![m, 0, 0] S1x128x256.size inb, w⟩ :: L)) (ix3 h ab.1 ab.2) = w (ix3 0 ab.1 ab.2) :=
  View.read_writes_cons_unit_of_mem v f inb w L _ (ix3 0 ab.1 ab.2) rfl (fun x => match x with
    | ⟨0, _⟩ => hm
    | ⟨1, _⟩ => (Nat.zero_add ab.1.val).symm
    | ⟨2, _⟩ => (Nat.zero_add ab.2.val).symm)

theorem row_load_t {sig : RefSig} {κ : Kind} {sp : Space} {e : EltTy} (v : View sig κ sp S5x128x256 e) (f : v.ty.Contents (Elt Ideal)) (m : ℕ)
    (inb : ∀ a, (![m, 0, 0] : Fin 3 → ℕ) a + S1x128x256.size a ≤ S5x128x256.size a)
    (h : Fin 5) (ab : Fin 128 × Fin 256) (hm : h.val = m) :
    View.readAt (Elt Ideal) v (Rect.unit (s := S5x128x256) ![m, 0, 0] S1x128x256.size inb).toLoadRect f (ix3 0 ab.1 ab.2) = v.read (Elt Ideal) f (ix3 h ab.1 ab.2) :=
  readAt_unit v inb f (ix3 0 ab.1 ab.2) (ix3 h ab.1 ab.2) rfl (fun x => match x with
    | ⟨0, _⟩ => hm
    | ⟨1, _⟩ => (Nat.zero_add ab.1.val).symm
    | ⟨2, _⟩ => (Nat.zero_add ab.2.val).symm)

theorem row_miss_t {sig : RefSig} {κ : Kind} {sp : Space} {e : EltTy} (v : View sig κ sp S5x128x256 e) (f : v.ty.Contents (Elt Ideal)) (m : ℕ)
    (inb : ∀ a, (![m, 0, 0] : Fin 3 → ℕ) a + S1x128x256.size a ≤ S5x128x256.size a) (w : Vec Ideal S1x128x256 e) (L : List (View.Piece (Elt Ideal) S5x128x256 e))
    (h : Fin 5) (ab : Fin 128 × Fin 256) (hm : h.val ≠ m) :
    v.read (Elt Ideal) (v.writes (Elt Ideal) f (⟨Rect.unit (s := S5x128x256) ![m, 0, 0] S1x128x256.size inb, w⟩ :: L)) (ix3 h ab.1 ab.2) = v.read (Elt Ideal) (v.writes (Elt Ideal) f L) (ix3 h ab.1 ab.2) :=
  View.read_writes_cons_unit_of_not_mem v f inb w L _ rfl 0 (by show h.val < m ∨ m + 1 ≤ h.val; omega)

theorem row_hit_n {sig : RefSig} {κ : Kind} {sp : Space} {e : EltTy} (v : View sig κ sp S5x256x128 e) (f : v.ty.Contents (Elt Ideal)) (m : ℕ)
    (inb : ∀ a, (![m, 0, 0] : Fin 3 → ℕ) a + S1x256x128.size a ≤ S5x256x128.size a) (w : Vec Ideal S1x256x128 e) (L : List (View.Piece (Elt Ideal) S5x256x128 e))
    (h : Fin 5) (ab : Fin 256 × Fin 128) (hm : h.val = m) :
    v.read (Elt Ideal) (v.writes (Elt Ideal) f (⟨Rect.unit (s := S5x256x128) ![m, 0, 0] S1x256x128.size inb, w⟩ :: L)) (ix3 h ab.1 ab.2) = w (ix3 0 ab.1 ab.2) :=
  View.read_writes_cons_unit_of_mem v f inb w L _ (ix3 0 ab.1 ab.2) rfl (fun x => match x with
    | ⟨0, _⟩ => hm
    | ⟨1, _⟩ => (Nat.zero_add ab.1.val).symm
    | ⟨2, _⟩ => (Nat.zero_add ab.2.val).symm)

theorem row_load_n {sig : RefSig} {κ : Kind} {sp : Space} {e : EltTy} (v : View sig κ sp S5x256x128 e) (f : v.ty.Contents (Elt Ideal)) (m : ℕ)
    (inb : ∀ a, (![m, 0, 0] : Fin 3 → ℕ) a + S1x256x128.size a ≤ S5x256x128.size a)
    (h : Fin 5) (ab : Fin 256 × Fin 128) (hm : h.val = m) :
    View.readAt (Elt Ideal) v (Rect.unit (s := S5x256x128) ![m, 0, 0] S1x256x128.size inb).toLoadRect f (ix3 0 ab.1 ab.2) = v.read (Elt Ideal) f (ix3 h ab.1 ab.2) :=
  readAt_unit v inb f (ix3 0 ab.1 ab.2) (ix3 h ab.1 ab.2) rfl (fun x => match x with
    | ⟨0, _⟩ => hm
    | ⟨1, _⟩ => (Nat.zero_add ab.1.val).symm
    | ⟨2, _⟩ => (Nat.zero_add ab.2.val).symm)

theorem row_miss_n {sig : RefSig} {κ : Kind} {sp : Space} {e : EltTy} (v : View sig κ sp S5x256x128 e) (f : v.ty.Contents (Elt Ideal)) (m : ℕ)
    (inb : ∀ a, (![m, 0, 0] : Fin 3 → ℕ) a + S1x256x128.size a ≤ S5x256x128.size a) (w : Vec Ideal S1x256x128 e) (L : List (View.Piece (Elt Ideal) S5x256x128 e))
    (h : Fin 5) (ab : Fin 256 × Fin 128) (hm : h.val ≠ m) :
    v.read (Elt Ideal) (v.writes (Elt Ideal) f (⟨Rect.unit (s := S5x256x128) ![m, 0, 0] S1x256x128.size inb, w⟩ :: L)) (ix3 h ab.1 ab.2) = v.read (Elt Ideal) (v.writes (Elt Ideal) f L) (ix3 h ab.1 ab.2) :=
  View.read_writes_cons_unit_of_not_mem v f inb w L _ rfl 0 (by show h.val < m ∨ m + 1 ≤ h.val; omega)

/-- Five heads' pieces, newest first, read back head by head. -/
theorem rows5_t {sig : RefSig} {κ : Kind} {sp : Space} {e : EltTy} (v : View sig κ sp S5x128x256 e) (f : v.ty.Contents (Elt Ideal)) (w : Fin 5 → Vec Ideal S1x128x256 e)
    (h : Fin 5) (ab : Fin 128 × Fin 256) :
    v.read (Elt Ideal) (v.writes (Elt Ideal) f [⟨Rect.unit (s := S5x128x256) ![4, 0, 0] S1x128x256.size inb_S5x128x256_S1x128x256_4_0_0, w 4⟩, ⟨Rect.unit (s := S5x128x256) ![3, 0, 0] S1x128x256.size inb_S5x128x256_S1x128x256_3_0_0, w 3⟩, ⟨Rect.unit (s := S5x128x256) ![2, 0, 0] S1x128x256.size inb_S5x128x256_S1x128x256_2_0_0, w 2⟩, ⟨Rect.unit (s := S5x128x256) ![1, 0, 0] S1x128x256.size inb_S5x128x256_S1x128x256_1_0_0, w 1⟩, ⟨Rect.unit (s := S5x128x256) ![0, 0, 0] S1x128x256.size inb_S5x128x256_S1x128x256_0_0_0, w 0⟩]) (ix3 h ab.1 ab.2) = w h (ix3 0 ab.1 ab.2) := by
  match h with
  | 0 => exact (row_miss_t v f _ _ _ _ _ _ (by decide)).trans ((row_miss_t v f _ _ _ _ _ _ (by decide)).trans ((row_miss_t v f _ _ _ _ _ _ (by decide)).trans ((row_miss_t v f _ _ _ _ _ _ (by decide)).trans (row_hit_t v f _ _ _ _ _ _ rfl))))
  | 1 => exact (row_miss_t v f _ _ _ _ _ _ (by decide)).trans ((row_miss_t v f _ _ _ _ _ _ (by decide)).trans ((row_miss_t v f _ _ _ _ _ _ (by decide)).trans (row_hit_t v f _ _ _ _ _ _ rfl)))
  | 2 => exact (row_miss_t v f _ _ _ _ _ _ (by decide)).trans ((row_miss_t v f _ _ _ _ _ _ (by decide)).trans (row_hit_t v f _ _ _ _ _ _ rfl))
  | 3 => exact (row_miss_t v f _ _ _ _ _ _ (by decide)).trans (row_hit_t v f _ _ _ _ _ _ rfl)
  | 4 => exact row_hit_t v f _ _ _ _ _ _ rfl

/-- Five heads' pieces, newest first, read back head by head. -/
theorem rows5_n {sig : RefSig} {κ : Kind} {sp : Space} {e : EltTy} (v : View sig κ sp S5x256x128 e) (f : v.ty.Contents (Elt Ideal)) (w : Fin 5 → Vec Ideal S1x256x128 e)
    (h : Fin 5) (ab : Fin 256 × Fin 128) :
    v.read (Elt Ideal) (v.writes (Elt Ideal) f [⟨Rect.unit (s := S5x256x128) ![4, 0, 0] S1x256x128.size inb_S5x256x128_S1x256x128_4_0_0, w 4⟩, ⟨Rect.unit (s := S5x256x128) ![3, 0, 0] S1x256x128.size inb_S5x256x128_S1x256x128_3_0_0, w 3⟩, ⟨Rect.unit (s := S5x256x128) ![2, 0, 0] S1x256x128.size inb_S5x256x128_S1x256x128_2_0_0, w 2⟩, ⟨Rect.unit (s := S5x256x128) ![1, 0, 0] S1x256x128.size inb_S5x256x128_S1x256x128_1_0_0, w 1⟩, ⟨Rect.unit (s := S5x256x128) ![0, 0, 0] S1x256x128.size inb_S5x256x128_S1x256x128_0_0_0, w 0⟩]) (ix3 h ab.1 ab.2) = w h (ix3 0 ab.1 ab.2) := by
  match h with
  | 0 => exact (row_miss_n v f _ _ _ _ _ _ (by decide)).trans ((row_miss_n v f _ _ _ _ _ _ (by decide)).trans ((row_miss_n v f _ _ _ _ _ _ (by decide)).trans ((row_miss_n v f _ _ _ _ _ _ (by decide)).trans (row_hit_n v f _ _ _ _ _ _ rfl))))
  | 1 => exact (row_miss_n v f _ _ _ _ _ _ (by decide)).trans ((row_miss_n v f _ _ _ _ _ _ (by decide)).trans ((row_miss_n v f _ _ _ _ _ _ (by decide)).trans (row_hit_n v f _ _ _ _ _ _ rfl)))
  | 2 => exact (row_miss_n v f _ _ _ _ _ _ (by decide)).trans ((row_miss_n v f _ _ _ _ _ _ (by decide)).trans (row_hit_n v f _ _ _ _ _ _ rfl))
  | 3 => exact (row_miss_n v f _ _ _ _ _ _ (by decide)).trans (row_hit_n v f _ _ _ _ _ _ rfl)
  | 4 => exact row_hit_n v f _ _ _ _ _ _ rfl

theorem slab_hit {sig : RefSig} {κ : Kind} {sp : Space} (v : View sig κ sp S1x32x256x128 .f32) (f : v.ty.Contents (Elt Ideal)) (off : Fin 4 → ℕ)
    (inb : ∀ a, off a + S1x1x256x128.size a ≤ S1x32x256x128.size a) (w : Vec Ideal S1x1x256x128 .f32) (j : Fin 32) (hoff : off = ![0, j.val, 0, 0])
    (s : Fin 256) (d : Fin 128) :
    v.read (Elt Ideal) (v.writes (Elt Ideal) f [⟨Rect.unit (s := S1x32x256x128) off S1x1x256x128.size inb, w⟩]) (ix4 0 j s d) = w (ix4 0 0 s d) :=
  View.read_writes_cons_unit_of_mem v f inb w [] _ (ix4 0 0 s d) hoff (fun x => match x with
    | ⟨0, _⟩ => rfl
    | ⟨1, _⟩ => rfl
    | ⟨2, _⟩ => (Nat.zero_add s.val).symm
    | ⟨3, _⟩ => (Nat.zero_add d.val).symm)

theorem slab_miss {sig : RefSig} {κ : Kind} {sp : Space} (v : View sig κ sp S1x32x256x128 .f32) (f : v.ty.Contents (Elt Ideal)) (off : Fin 4 → ℕ)
    (inb : ∀ a, off a + S1x1x256x128.size a ≤ S1x32x256x128.size a) (w : Vec Ideal S1x1x256x128 .f32) (j : Fin 32) (hoff : off = ![0, j.val, 0, 0])
    (j' : Fin 32) (hj : j' ≠ j) (s : Fin 256) (d : Fin 128) :
    v.read (Elt Ideal) (v.writes (Elt Ideal) f [⟨Rect.unit (s := S1x32x256x128) off S1x1x256x128.size inb, w⟩]) (ix4 0 j' s d) = v.read (Elt Ideal) f (ix4 0 j' s d) :=
  View.read_writes_cons_unit_of_not_mem v f inb w [] _ hoff 1 (by
    have : j'.val ≠ j.val := fun e => hj (Fin.ext e)
    show j'.val < j.val ∨ j.val + 1 ≤ j'.val
    omega)

/-- The block's slab as it is loaded. -/
theorem slab_load {sig : RefSig} {κ : Kind} {sp : Space} {e : EltTy} (v : View sig κ sp S1x32x256x128 e) (f : v.ty.Contents (Elt Ideal)) (off : Fin 4 → ℕ)
    (inb : ∀ a, off a + S1x1x256x128.size a ≤ S1x32x256x128.size a) (j : Fin 32) (hoff : off = ![0, j.val, 0, 0]) (s : Fin 256) (d : Fin 128) :
    View.readAt (Elt Ideal) v (Rect.unit (s := S1x32x256x128) off S1x1x256x128.size inb).toLoadRect f (ix4 0 0 s d) = v.read (Elt Ideal) f (ix4 0 j s d) :=
  readAt_unit v inb f (ix4 0 0 s d) (ix4 0 j s d) hoff (fun x => match x with
    | ⟨0, _⟩ => rfl
    | ⟨1, _⟩ => rfl
    | ⟨2, _⟩ => (Nat.zero_add s.val).symm
    | ⟨3, _⟩ => (Nat.zero_add d.val).symm)

/-- One block's slab of five heads' addends put on what a memref holds, read back. -/
theorem slab_read {sig : RefSig} {κ : Kind} {sp : Space} (v : View sig κ sp S1x32x256x128 .f32) (f : v.ty.Contents (Elt Ideal)) (off : Fin 4 → ℕ)
    (inb : ∀ a, off a + S1x1x256x128.size a ≤ S1x32x256x128.size a) (j : Fin 32) (hoff : off = ![0, j.val, 0, 0]) (a : FVec Ideal S256x128 .f32)
    (j' : Fin 32) (s : Fin 256) (d : Fin 128) :
    v.read (Elt Ideal) (v.writes (Elt Ideal) f [⟨Rect.unit (s := S1x32x256x128) off S1x1x256x128.size inb, plusSlab (View.readAt (Elt Ideal) v (Rect.unit (s := S1x32x256x128) off S1x1x256x128.size inb).toLoadRect f) a⟩]) (ix4 0 j' s d)
      = if j' = j then (v.read (Elt Ideal) f (ix4 0 j s d) + a (ix2 s d) : EReal) else v.read (Elt Ideal) f (ix4 0 j' s d) := by
  by_cases hj : j' = j
  · subst hj
    rw [if_pos rfl, slab_hit v f off inb _ j' hoff, plusSlab_eq]
    exact congrArg (· + (a (ix2 s d) : EReal)) (slab_load v f off inb j' hoff s d)
  · rw [if_neg hj, slab_miss v f off inb _ j hoff j' hj]

theorem sum5_of {a0 a1 a2 a3 a4 : FVec Ideal S256x128 .f32} {s : Fin 256} {d : Fin 128} (f : Fin 5 → EReal) (h0 : a0 (ix2 s d) = f 0) (h1 : a1 (ix2 s d) = f 1)
    (h2 : a2 (ix2 s d) = f 2) (h3 : a3 (ix2 s d) = f 3) (h4 : a4 (ix2 s d) = f 4) : sum5 ![a0, a1, a2, a3, a4] (ix2 s d) = ∑ h, f h := by
  rw [sum5_eq, Fin.sum_univ_five, Fin.sum_univ_five, ← h0, ← h1, ← h2, ← h3, ← h4]; rfl

theorem slab_step (j n : Fin 32) (R S : Fin 32 → EReal) :
    (if j = n then R n + S n else if j.val < n.val then R j + S j else R j) = if j.val < n.val + 1 then R j + S j else R j := by
  by_cases hj : j = n
  · subst hj; rw [if_pos rfl, if_pos (Nat.lt_succ_self _)]
  · rw [if_neg hj]
    have : j.val ≠ n.val := fun e => hj (Fin.ext e)
    by_cases hlt : j.val < n.val
    · rw [if_pos hlt, if_pos (by omega)]
    · rw [if_neg hlt, if_neg (by omega)]

/-- The earlier blocks' shares of the queries' derivative. -/
def Blk.dqSum (B : Blk) (h : Fin 5) (d : Fin 128) (t : Fin 256) (n : ℕ) : EReal :=
  ∑ j ∈ Finset.range n, if hj : j < 32 then B.dq (B.past ⟨j, hj⟩ h) ⟨j, hj⟩ h d t else 0

end Cert.BwdIdeal.Hand
-- ==== Proof.Loop.lean ====
module

public import proofs.«01_k».proof.Proof.Gen.BwdIdeal.Frame
public import proofs.«01_k».proof.Proof.Gen.BwdIdeal.Loops
public import proofs.«01_k».proof.Proof.Rows

@[expose] public section

set_option maxRecDepth 16384

noncomputable section

namespace Cert.BwdIdeal.Hand

open Cert.BwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

set_option maxHeartbeats 1000000 in
/-- What the loop over the earlier blocks leaves after `n` trips: each slab of an earlier block with the five heads' sums
    put on it, and each head's rows with those blocks' shares put on them. -/
theorem loop_read (𝒱 : Variants) (c : Dev nD) (bd : Option 𝒱.V) (i : grid0.Coords) (arg2 : Memref sig .tc .vmem S5x256x128 .fp8e4m3) (harg2 : arg2.IsWhole) (arg3 : Memref sig .tc .vmem S5x1x256 .f32) (harg3 : arg3.IsWhole) (arg4 : Memref sig .tc .vmem S1x32x256x128 .fp8e4m3) (harg4 : arg4.IsWhole) (arg5 : Memref sig .tc .vmem S1x32x256x128 .f32) (harg5 : arg5.IsWhole) (arg6 : Memref sig .tc .vmem S1x32x128x256 .bf16) (harg6 : arg6.IsWhole) (arg7 : Memref sig .tc .vmem S1x32x256x128 .bf16) (harg7 : arg7.IsWhole) (arg8 : Memref sig .tc .vmem S1x32x256 .f32) (harg8 : arg8.IsWhole) (arg9 : Memref sig .tc .vmem S5x1x256 .f32) (harg9 : arg9.IsWhole) (arg10 : Memref sig .tc .vmem S5x1x256 .f32) (harg10 : arg10.IsWhole) (arg11 : Memref sig .tc .vmem S5x256x128 .bf16) (harg11 : arg11.IsWhole) (arg12 : Memref sig .tc .vmem S5x256x128 .f32) (harg12 : arg12.IsWhole) (arg13 : Memref sig .tc .vmem S1x32x256x128 .f32) (harg13 : arg13.IsWhole) (arg14 : Memref sig .tc .vmem S1x32x256x128 .f32) (harg14 : arg14.IsWhole) (arg15 : Memref sig .tc .vmem S5x256x128 .bf16) (harg15 : arg15.IsWhole) (arg16 : Memref sig .tc .vmem S5x128x256 .f32) (harg16 : arg16.IsWhole) (arg1 : BitVec 32) (v1 : FVec Ideal S1x256 .f32) (v3 : FVec Ideal S1x256 .f32) (v5 : FVec Ideal S1x256 .f32) (v7 : FVec Ideal S1x256 .f32) (v9 : FVec Ideal S1x256 .f32) (v11 : FVec Ideal S1x256 .f32) (v13 : FVec Ideal S1x256 .f32) (v15 : FVec Ideal S1x256 .f32) (v17 : FVec Ideal S1x256 .f32) (v19 : FVec Ideal S1x256 .f32) (v23 : FVec Ideal S1x256 .f32) (v27 : FVec Ideal S1x256 .f32) (v31 : FVec Ideal S1x256 .f32) (v35 : FVec Ideal S1x256 .f32) (v39 : FVec Ideal S1x256 .f32) (v41 : FVec Ideal S1x256 .f32) (v43 : FVec Ideal S1x256 .f32) (v45 : FVec Ideal S1x256 .f32) (v47 : FVec Ideal S1x256 .f32) (v49 : FVec Ideal S1x256 .f32) (c0_i32 : BitVec 32) (X_arg2 : BufTy.Contents (Elt Ideal) arg2.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (X_arg11 : BufTy.Contents (Elt Ideal) arg11.view.ty) (X_arg15 : BufTy.Contents (Elt Ideal) arg15.view.ty) (B : Blk) (hH0 : HeadOK B 0 v1 v11 v23 v41 (View.readAt (Elt Ideal) arg2.view (Rect.unit (s := S5x256x128) ![0, 0, 0] S1x256x128.size inb_S5x256x128_S1x256x128_0_0_0).toLoadRect X_arg2) (View.readAt (Elt Ideal) arg11.view (Rect.unit (s := S5x256x128) ![0, 0, 0] S1x256x128.size inb_S5x256x128_S1x256x128_0_0_0).toLoadRect X_arg11) (View.readAt (Elt Ideal) arg15.view (Rect.unit (s := S5x256x128) ![0, 0, 0] S1x256x128.size inb_S5x256x128_S1x256x128_0_0_0).toLoadRect X_arg15)) (hH1 : HeadOK B 1 v3 v13 v27 v43 (View.readAt (Elt Ideal) arg2.view (Rect.unit (s := S5x256x128) ![1, 0, 0] S1x256x128.size inb_S5x256x128_S1x256x128_1_0_0).toLoadRect X_arg2) (View.readAt (Elt Ideal) arg11.view (Rect.unit (s := S5x256x128) ![1, 0, 0] S1x256x128.size inb_S5x256x128_S1x256x128_1_0_0).toLoadRect X_arg11) (View.readAt (Elt Ideal) arg15.view (Rect.unit (s := S5x256x128) ![1, 0, 0] S1x256x128.size inb_S5x256x128_S1x256x128_1_0_0).toLoadRect X_arg15)) (hH2 : HeadOK B 2 v5 v15 v31 v45 (View.readAt (Elt Ideal) arg2.view (Rect.unit (s := S5x256x128) ![2, 0, 0] S1x256x128.size inb_S5x256x128_S1x256x128_2_0_0).toLoadRect X_arg2) (View.readAt (Elt Ideal) arg11.view (Rect.unit (s := S5x256x128) ![2, 0, 0] S1x256x128.size inb_S5x256x128_S1x256x128_2_0_0).toLoadRect X_arg11) (View.readAt (Elt Ideal) arg15.view (Rect.unit (s := S5x256x128) ![2, 0, 0] S1x256x128.size inb_S5x256x128_S1x256x128_2_0_0).toLoadRect X_arg15)) (hH3 : HeadOK B 3 v7 v17 v35 v47 (View.readAt (Elt Ideal) arg2.view (Rect.unit (s := S5x256x128) ![3, 0, 0] S1x256x128.size inb_S5x256x128_S1x256x128_3_0_0).toLoadRect X_arg2) (View.readAt (Elt Ideal) arg11.view (Rect.unit (s := S5x256x128) ![3, 0, 0] S1x256x128.size inb_S5x256x128_S1x256x128_3_0_0).toLoadRect X_arg11) (View.readAt (Elt Ideal) arg15.view (Rect.unit (s := S5x256x128) ![3, 0, 0] S1x256x128.size inb_S5x256x128_S1x256x128_3_0_0).toLoadRect X_arg15)) (hH4 : HeadOK B 4 v9 v19 v39 v49 (View.readAt (Elt Ideal) arg2.view (Rect.unit (s := S5x256x128) ![4, 0, 0] S1x256x128.size inb_S5x256x128_S1x256x128_4_0_0).toLoadRect X_arg2) (View.readAt (Elt Ideal) arg11.view (Rect.unit (s := S5x256x128) ![4, 0, 0] S1x256x128.size inb_S5x256x128_S1x256x128_4_0_0).toLoadRect X_arg11) (View.readAt (Elt Ideal) arg15.view (Rect.unit (s := S5x256x128) ![4, 0, 0] S1x256x128.size inb_S5x256x128_S1x256x128_4_0_0).toLoadRect X_arg15)) (hK : ∀ (k : Fin (k0_t1_loop i).trips) (hk : k.val < 32), KeyOK B ⟨k.val, hk⟩ (View.readAt (Elt Ideal) arg5.view (Rect.unit (s := S1x32x256x128) (k0_off4 i k) S1x1x256x128.size (k0_off4_inb i k)).toLoadRect X_arg5) (View.readAt (Elt Ideal) arg4.view (Rect.unit (s := S1x32x256x128) (k0_off4 i k) S1x1x256x128.size (k0_off4_inb i k)).toLoadRect X_arg4) (View.readAt (Elt Ideal) arg7.view (Rect.unit (s := S1x32x256x128) (k0_off4 i k) S1x1x256x128.size (k0_off4_inb i k)).toLoadRect X_arg7) (View.readAt (Elt Ideal) arg6.view (Rect.unit (s := S1x32x128x256) (k0_off5 i k) S1x1x128x256.size (k0_off5_inb i k)).toLoadRect X_arg6)) (hg : ∀ (k : Fin (k0_t1_loop i).trips) (hk : k.val < 32) (t : Fin 256), (View.readAt (Elt Ideal) arg8.view (Rect.unit (s := S1x32x256) (k0_off3 i k) S1x1x256.size (k0_off3_inb i k)).toLoadRect X_arg8) (ix3 0 0 t) = B.g ⟨k.val, hk⟩ t)
    (G_arg13 : BufTy.Contents (Elt Ideal) arg13.view.ty) (G_arg14 : BufTy.Contents (Elt Ideal) arg14.view.ty) (G_arg16 : BufTy.Contents (Elt Ideal) arg16.view.ty) (init : BitVec 32) (n : ℕ) (hn : n ≤ (k0_t1_loop i).trips) :
    (∀ j s d, arg13.view.read (Elt Ideal) (arg13.view.writes (Elt Ideal) G_arg13 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v1 v3 v5 v7 v9 v11 v13 v15 v17 v19 v23 v27 v31 v35 v39 v41 v43 v45 v47 v49 c0_i32 X_arg2 X_arg4 X_arg5 X_arg6 X_arg7 X_arg8 X_arg11 X_arg15 G_arg13 G_arg14 G_arg16 init n).2.1) (ix4 0 j s d)
        = if j.val < n then (arg13.view.read (Elt Ideal) G_arg13 (ix4 0 j s d) + ∑ h, B.dk (B.past j h) j h s d : EReal) else arg13.view.read (Elt Ideal) G_arg13 (ix4 0 j s d))
    ∧ (∀ j s d, arg14.view.read (Elt Ideal) (arg14.view.writes (Elt Ideal) G_arg14 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v1 v3 v5 v7 v9 v11 v13 v15 v17 v19 v23 v27 v31 v35 v39 v41 v43 v45 v47 v49 c0_i32 X_arg2 X_arg4 X_arg5 X_arg6 X_arg7 X_arg8 X_arg11 X_arg15 G_arg13 G_arg14 G_arg16 init n).2.2.1) (ix4 0 j s d)
        = if j.val < n then (arg14.view.read (Elt Ideal) G_arg14 (ix4 0 j s d) + ∑ h, B.dv (B.past j h) h s d : EReal) else arg14.view.read (Elt Ideal) G_arg14 (ix4 0 j s d))
    ∧ (∀ h d t, arg16.view.read (Elt Ideal) (arg16.view.writes (Elt Ideal) G_arg16 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v1 v3 v5 v7 v9 v11 v13 v15 v17 v19 v23 v27 v31 v35 v39 v41 v43 v45 v47 v49 c0_i32 X_arg2 X_arg4 X_arg5 X_arg6 X_arg7 X_arg8 X_arg11 X_arg15 G_arg13 G_arg14 G_arg16 init n).2.2.2) (ix3 h d t)
        = (arg16.view.read (Elt Ideal) G_arg16 (ix3 h d t) + B.dqSum h d t n : EReal)) := by
  induction n with
  | zero =>
    refine ⟨fun j s d => ?_, fun j s d => ?_, fun h d t => ?_⟩
    · rw [if_neg (Nat.not_lt_zero _)]; rfl
    · rw [if_neg (Nat.not_lt_zero _)]; rfl
    · simp only [Blk.dqSum, Finset.range_zero, Finset.sum_empty, add_zero]; rfl
  | succ n ih =>
    obtain ⟨ih13, ih14, ih16⟩ := ih (by omega)
    have hn32 : n < 32 := by have := (k0_t1_abs i).2.1; omega
    have hs : st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v1 v3 v5 v7 v9 v11 v13 v15 v17 v19 v23 v27 v31 v35 v39 v41 v43 v45 v47 v49 c0_i32 X_arg2 X_arg4 X_arg5 X_arg6 X_arg7 X_arg8 X_arg11 X_arg15 G_arg13 G_arg14 G_arg16 init (n + 1) = _ := st_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v1 v3 v5 v7 v9 v11 v13 v15 v17 v19 v23 v27 v31 v35 v39 v41 v43 v45 v47 v49 c0_i32 X_arg2 X_arg4 X_arg5 X_arg6 X_arg7 X_arg8 X_arg11 X_arg15 G_arg13 G_arg14 G_arg16 init ⟨n, hn⟩
    generalize hP : st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v1 v3 v5 v7 v9 v11 v13 v15 v17 v19 v23 v27 v31 v35 v39 v41 v43 v45 v47 v49 c0_i32 X_arg2 X_arg4 X_arg5 X_arg6 X_arg7 X_arg8 X_arg11 X_arg15 G_arg13 G_arg14 G_arg16 init n = P at hs ih13 ih14 ih16
    rw [tripL_eq] at hs
    rw [hs]
    dsimp only
    simp only [View.writes_append]
    have hp : ∀ (h : Fin 5) {qs qf lse dvec : FVec Ideal S1x256 .f32} {q : Vec Ideal S1x256x128 .fp8e4m3} {dO : Vec Ideal S1x256x128 .bf16} {qw : Vec Ideal S1x256x128 .bf16}
        (hh : HeadOK B h qs qf lse dvec q dO qw) (s t : Fin 256), pastV qf lse _ _ _ q (ix2 s t) = B.past ⟨n, hn32⟩ h s t :=
      fun h _ _ _ _ _ _ _ hh => pastV_eq hh (hK ⟨n, hn⟩ hn32) _ (hg ⟨n, hn⟩ hn32)
    refine ⟨fun j s d => ?_, fun j s d => ?_, fun h d t => ?_⟩
    · rw [slab_read arg13.view _ _ _ ⟨n, hn32⟩ (k0_off4_eq i ⟨n, hn⟩), ih13, ih13, if_neg (lt_irrefl n),
        sum5_of (fun h => B.dk (B.past ⟨n, hn32⟩ h) ⟨n, hn32⟩ h s d) (dkV_eq hH0 (hK ⟨n, hn⟩ hn32) _ _ (hp 0 hH0) s d) (dkV_eq hH1 (hK ⟨n, hn⟩ hn32) _ _ (hp 1 hH1) s d) (dkV_eq hH2 (hK ⟨n, hn⟩ hn32) _ _ (hp 2 hH2) s d) (dkV_eq hH3 (hK ⟨n, hn⟩ hn32) _ _ (hp 3 hH3) s d) (dkV_eq hH4 (hK ⟨n, hn⟩ hn32) _ _ (hp 4 hH4) s d)]
      exact slab_step j ⟨n, hn32⟩ (fun j => arg13.view.read (Elt Ideal) G_arg13 (ix4 0 j s d)) (fun j => ∑ h, B.dk (B.past j h) j h s d)
    · rw [slab_read arg14.view _ _ _ ⟨n, hn32⟩ (k0_off4_eq i ⟨n, hn⟩), ih14, ih14, if_neg (lt_irrefl n),
        sum5_of (fun h => B.dv (B.past ⟨n, hn32⟩ h) h s d) (dvV_eq hH0 _ _ (hp 0 hH0) s d) (dvV_eq hH1 _ _ (hp 1 hH1) s d) (dvV_eq hH2 _ _ (hp 2 hH2) s d) (dvV_eq hH3 _ _ (hp 3 hH3) s d) (dvV_eq hH4 _ _ (hp 4 hH4) s d)]
      exact slab_step j ⟨n, hn32⟩ (fun j => arg14.view.read (Elt Ideal) G_arg14 (ix4 0 j s d)) (fun j => ∑ h, B.dv (B.past j h) h s d)
    · have hrow : ∀ (h : Fin 5) (m : ℕ) (inb : ∀ a, (![m, 0, 0] : Fin 3 → ℕ) a + S1x128x256.size a ≤ S5x128x256.size a) (hm : h.val = m) (a : FVec Ideal S128x256 .f32)
          (ha : a (ix2 d t) = B.dq (B.past ⟨n, hn32⟩ h) ⟨n, hn32⟩ h d t),
          plusRow (View.readAt (Elt Ideal) arg16.view (Rect.unit (s := S5x128x256) ![m, 0, 0] S1x128x256.size inb).toLoadRect (arg16.view.writes (Elt Ideal) G_arg16 P.2.2.2)) a (ix3 0 d t)
            = (arg16.view.read (Elt Ideal) G_arg16 (ix3 h d t) + B.dqSum h d t (n + 1) : EReal) := by
        intro h m inb hm a ha
        rw [plusRow_eq, row_load_t arg16.view _ m inb h (d, t) hm, ih16, ha]
        unfold Blk.dqSum
        rw [Finset.sum_range_succ, dif_pos hn32, add_assoc]
      match h with
      | 0 => exact (row_miss_t _ _ _ _ _ _ _ (d, t) (by decide)).trans ((row_miss_t _ _ _ _ _ _ _ (d, t) (by decide)).trans ((row_miss_t _ _ _ _ _ _ _ (d, t) (by decide)).trans ((row_miss_t _ _ _ _ _ _ _ (d, t) (by decide)).trans ((row_hit_t _ _ _ _ _ _ 0 (d, t) rfl).trans (hrow 0 0 _ rfl _ (dqV_eq hH0 (hK ⟨n, hn⟩ hn32) _ _ (hp 0 hH0) d t))))))
      | 1 => exact (row_miss_t _ _ _ _ _ _ _ (d, t) (by decide)).trans ((row_miss_t _ _ _ _ _ _ _ (d, t) (by decide)).trans ((row_miss_t _ _ _ _ _ _ _ (d, t) (by decide)).trans ((row_hit_t _ _ _ _ _ _ 1 (d, t) rfl).trans (hrow 1 1 _ rfl _ (dqV_eq hH1 (hK ⟨n, hn⟩ hn32) _ _ (hp 1 hH1) d t)))))
      | 2 => exact (row_miss_t _ _ _ _ _ _ _ (d, t) (by decide)).trans ((row_miss_t _ _ _ _ _ _ _ (d, t) (by decide)).trans ((row_hit_t _ _ _ _ _ _ 2 (d, t) rfl).trans (hrow 2 2 _ rfl _ (dqV_eq hH2 (hK ⟨n, hn⟩ hn32) _ _ (hp 2 hH2) d t))))
      | 3 => exact (row_miss_t _ _ _ _ _ _ _ (d, t) (by decide)).trans ((row_hit_t _ _ _ _ _ _ 3 (d, t) rfl).trans (hrow 3 3 _ rfl _ (dqV_eq hH3 (hK ⟨n, hn⟩ hn32) _ _ (hp 3 hH3) d t)))
      | 4 => exact (row_hit_t _ _ _ _ _ _ 4 (d, t) rfl).trans (hrow 4 4 _ rfl _ (dqV_eq hH4 (hK ⟨n, hn⟩ hn32) _ _ (hp 4 hH4) d t))

end Cert.BwdIdeal.Hand
-- ==== Proof.Post.lean ====
module

public import proofs.«01_k».proof.Proof.Gen.BwdIdeal.Frame
public import proofs.«01_k».proof.Proof.Gen.BwdIdeal.Loops
public import proofs.«01_k».proof.Proof.Loop

@[expose] public section

set_option maxRecDepth 16384

noncomputable section

namespace Cert.BwdIdeal.Hand

open Cert.BwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- A row vector as loaded. -/
def flat (x : Vec F S1x1x256 .f32) : FVec F S1x256 .f32 := shapeCast S1x256 x shapeCasts_S1x1x256_S1x256

/-- A row vector times a constant. -/
def flatC (w : BitVec 32) (x : Vec F S1x1x256 .f32) : FVec F S1x256 .f32 := mulf (flat x) (broadcast S1x256 (Scalar.ofBits .f32 w))

/-- A head's queries, widened. -/
def widenV (x : Vec F S1x256x128 .fp8e4m3) : Vec F S1x256x128 .bf16 :=
  shapeCast S1x256x128 (extf .bf16 (shapeCast S256x128 x shapeCasts_S1x256x128_S256x128 : FVec F S256x128 .fp8e4m3) bitsLt_fp8e4m3_bf16 : FVec F S256x128 .bf16) shapeCasts_S256x128_S1x256x128

/-- A slab as stored. -/
def putSlab (a : FVec F S256x128 .f32) : Vec F S1x1x256x128 .f32 := shapeCast S1x1x256x128 a shapeCasts_S256x128_S1x1x256x128

/-- A head's transposed rows as stored. -/
def putRow (a : FVec F S128x256 .f32) : Vec F S1x128x256 .f32 := shapeCast S1x128x256 a shapeCasts_S128x256_S1x128x256

/-- A head's rows scaled and turned. -/
def outV (x : Vec F S1x128x256 .f32) : Vec F S1x256x128 .f32 :=
  shapeCast S1x256x128 (transpose S256x128 [1, 0] (mulf (shapeCast S128x256 x shapeCasts_S1x128x256_S128x256 : FVec F S128x256 .f32) (broadcast S128x256 (Scalar.ofBits .f32 0x3DB504F3#32))) transposes_S128x256_p1_0_S256x128 : FVec F S256x128 .f32) shapeCasts_S256x128_S1x256x128

theorem flat_eq (x : Vec Ideal S1x1x256 .f32) (t : Fin 256) : flat x (ix2 0 t) = x (ix3 0 0 t) := by pointwise [flat]
theorem flatC_eq (w : BitVec 32) (x : Vec Ideal S1x1x256 .f32) (t : Fin 256) : flatC w x (ix2 0 t) = (x (ix3 0 0 t) * Ideal.ofBits .f32 w : EReal) := by
  pointwise [flatC]
  rw [flat_eq]
theorem widenV_eq (x : Vec Ideal S1x256x128 .fp8e4m3) (t : Fin 256) (d : Fin 128) : widenV x (ix3 0 t d) = x (ix3 0 t d) := by pointwise [widenV]
theorem putSlab_eq (a : FVec Ideal S256x128 .f32) (s : Fin 256) (d : Fin 128) : putSlab a (ix4 0 0 s d) = a (ix2 s d) := by pointwise [putSlab]
theorem putRow_eq (a : FVec Ideal S128x256 .f32) (d : Fin 128) (t : Fin 256) : putRow a (ix3 0 d t) = a (ix2 d t) := by pointwise [putRow]
theorem outV_eq (x : Vec Ideal S1x128x256 .f32) (t : Fin 256) (d : Fin 128) : outV x (ix3 0 t d) = (x (ix3 0 d t) * cS : EReal) := by
  pointwise [outV]
  rfl

/-- The block of the point's queries. -/
def cOf (i : grid0.Coords) : Fin 32 := ⟨(i 1).val, (i 1).isLt⟩

/-- The tile of the ten windows' contents. -/
def blkOf (x0 : Vec Ideal S5x256x128 .fp8e4m3) (x1 : Vec Ideal S5x1x256 .f32) (x2 : Vec Ideal S1x32x256x128 .fp8e4m3) (x3 : Vec Ideal S1x32x256x128 .f32) (x4 : Vec Ideal S1x32x128x256 .bf16) (x5 : Vec Ideal S1x32x256x128 .bf16) (x6 : Vec Ideal S1x32x256 .f32) (x7 : Vec Ideal S5x1x256 .f32) (x8 : Vec Ideal S5x1x256 .f32) (x9 : Vec Ideal S5x256x128 .bf16) : Blk where
  q h t d := x0 (ix3 h t d)
  qs h t := x1 (ix3 h 0 t)
  k j s d := x2 (ix4 0 j s d)
  ks j s d := x3 (ix4 0 j s d)
  kt j d s := x4 (ix4 0 j d s)
  vd j s d := x5 (ix4 0 j s d)
  g j t := x6 (ix3 0 j t)
  lse h t := x7 (ix3 h 0 t)
  dvec h t := x8 (ix3 h 0 t)
  dO h t d := x9 (ix3 h t d)

theorem lane_load {sig : RefSig} {κ : Kind} {sp : Space} {e : EltTy} (v : View sig κ sp S5x1x256 e) (f : v.ty.Contents (Elt Ideal)) (m : ℕ)
    (inb : ∀ a, (![m, 0, 0] : Fin 3 → ℕ) a + S1x1x256.size a ≤ S5x1x256.size a) (h : Fin 5) (t : Fin 256) (hm : h.val = m) :
    View.readAt (Elt Ideal) v (Rect.unit (s := S5x1x256) ![m, 0, 0] S1x1x256.size inb).toLoadRect f (ix3 0 0 t) = v.read (Elt Ideal) f (ix3 h 0 t) :=
  readAt_unit v inb f (ix3 0 0 t) (ix3 h 0 t) rfl (fun x => match x with
    | ⟨0, _⟩ => hm
    | ⟨1, _⟩ => rfl
    | ⟨2, _⟩ => (Nat.zero_add t.val).symm)

theorem gate_load {sig : RefSig} {κ : Kind} {sp : Space} {e : EltTy} (v : View sig κ sp S1x32x256 e) (f : v.ty.Contents (Elt Ideal)) (off : Fin 3 → ℕ)
    (inb : ∀ a, off a + S1x1x256.size a ≤ S1x32x256.size a) (j : Fin 32) (hoff : off = ![0, j.val, 0]) (t : Fin 256) :
    View.readAt (Elt Ideal) v (Rect.unit (s := S1x32x256) off S1x1x256.size inb).toLoadRect f (ix3 0 0 t) = v.read (Elt Ideal) f (ix3 0 j t) :=
  readAt_unit v inb f (ix3 0 0 t) (ix3 0 j t) hoff (fun x => match x with
    | ⟨0, _⟩ => rfl
    | ⟨1, _⟩ => rfl
    | ⟨2, _⟩ => (Nat.zero_add t.val).symm)

theorem kt_load {sig : RefSig} {κ : Kind} {sp : Space} {e : EltTy} (v : View sig κ sp S1x32x128x256 e) (f : v.ty.Contents (Elt Ideal)) (off : Fin 4 → ℕ)
    (inb : ∀ a, off a + S1x1x128x256.size a ≤ S1x32x128x256.size a) (j : Fin 32) (hoff : off = ![0, j.val, 0, 0]) (d : Fin 128) (s : Fin 256) :
    View.readAt (Elt Ideal) v (Rect.unit (s := S1x32x128x256) off S1x1x128x256.size inb).toLoadRect f (ix4 0 0 d s) = v.read (Elt Ideal) f (ix4 0 j d s) :=
  readAt_unit v inb f (ix4 0 0 d s) (ix4 0 j d s) hoff (fun x => match x with
    | ⟨0, _⟩ => rfl
    | ⟨1, _⟩ => rfl
    | ⟨2, _⟩ => (Nat.zero_add d.val).symm
    | ⟨3, _⟩ => (Nat.zero_add s.val).symm)

theorem inbL (h : Fin 5) : ∀ a, (![h.val, 0, 0] : Fin 3 → ℕ) a + S1x1x256.size a ≤ S5x1x256.size a := by revert h; decide
theorem inbN (h : Fin 5) : ∀ a, (![h.val, 0, 0] : Fin 3 → ℕ) a + S1x256x128.size a ≤ S5x256x128.size a := by revert h; decide

/-! ### What the body loads -/

/-- A head's query scales. -/
def qsH (arg3 : Memref sig .tc .vmem S5x1x256 .f32) (harg3 : arg3.IsWhole) (x1 : Vec F S5x1x256 .f32) (h : Fin 5) : FVec F S1x256 .f32 :=
  flat (View.readAt (Elt F) arg3.view (Rect.unit (s := S5x1x256) ![h.val, 0, 0] S1x1x256.size (inbL h)).toLoadRect (harg3.unread x1))

/-- A head's query scales times the folded constant. -/
def qfH (arg3 : Memref sig .tc .vmem S5x1x256 .f32) (harg3 : arg3.IsWhole) (x1 : Vec F S5x1x256 .f32) (h : Fin 5) : FVec F S1x256 .f32 :=
  flatC 0x3E0293EE#32 (View.readAt (Elt F) arg3.view (Rect.unit (s := S5x1x256) ![h.val, 0, 0] S1x1x256.size (inbL h)).toLoadRect (harg3.unread x1))

/-- A head's row sums in base two. -/
def lsH (arg9 : Memref sig .tc .vmem S5x1x256 .f32) (harg9 : arg9.IsWhole) (x7 : Vec F S5x1x256 .f32) (h : Fin 5) : FVec F S1x256 .f32 :=
  flatC 0x3FB8AA3B#32 (View.readAt (Elt F) arg9.view (Rect.unit (s := S5x1x256) ![h.val, 0, 0] S1x1x256.size (inbL h)).toLoadRect (harg9.unread x7))

/-- A head's row dots. -/
def dvH (arg10 : Memref sig .tc .vmem S5x1x256 .f32) (harg10 : arg10.IsWhole) (x8 : Vec F S5x1x256 .f32) (h : Fin 5) : FVec F S1x256 .f32 :=
  flat (View.readAt (Elt F) arg10.view (Rect.unit (s := S5x1x256) ![h.val, 0, 0] S1x1x256.size (inbL h)).toLoadRect (harg10.unread x8))

/-- A head's queries. -/
def qH (arg2 : Memref sig .tc .vmem S5x256x128 .fp8e4m3) (harg2 : arg2.IsWhole) (x0 : Vec F S5x256x128 .fp8e4m3) (h : Fin 5) : Vec F S1x256x128 .fp8e4m3 :=
  (View.readAt (Elt F) arg2.view (Rect.unit (s := S5x256x128) ![h.val, 0, 0] S1x256x128.size (inbN h)).toLoadRect (harg2.unread x0))

/-- A head's output derivatives. -/
def doH (arg11 : Memref sig .tc .vmem S5x256x128 .bf16) (harg11 : arg11.IsWhole) (x9 : Vec F S5x256x128 .bf16) (h : Fin 5) : Vec F S1x256x128 .bf16 :=
  (View.readAt (Elt F) arg11.view (Rect.unit (s := S5x256x128) ![h.val, 0, 0] S1x256x128.size (inbN h)).toLoadRect (harg11.unread x9))

/-- A head's widened queries, from the scratch. -/
def qwH (arg15 : Memref sig .tc .vmem S5x256x128 .bf16) (harg15 : arg15.IsWhole) (X15 : BufTy.Contents (Elt F) arg15.view.ty) (h : Fin 5) : Vec F S1x256x128 .bf16 :=
  (View.readAt (Elt F) arg15.view (Rect.unit (s := S5x256x128) ![h.val, 0, 0] S1x256x128.size (inbN h)).toLoadRect X15)

/-- The own block's key scales. -/
def ksO (i : grid0.Coords) (arg5 : Memref sig .tc .vmem S1x32x256x128 .f32) (harg5 : arg5.IsWhole) (x3 : Vec F S1x32x256x128 .f32) : Vec F S1x1x256x128 .f32 :=
  (View.readAt (Elt F) arg5.view (Rect.unit (s := S1x32x256x128) (k0_off1 i) S1x1x256x128.size (k0_off1_inb i)).toLoadRect (harg5.unread x3))

/-- The own block's keys. -/
def kO (i : grid0.Coords) (arg4 : Memref sig .tc .vmem S1x32x256x128 .fp8e4m3) (harg4 : arg4.IsWhole) (x2 : Vec F S1x32x256x128 .fp8e4m3) : Vec F S1x1x256x128 .fp8e4m3 :=
  (View.readAt (Elt F) arg4.view (Rect.unit (s := S1x32x256x128) (k0_off1 i) S1x1x256x128.size (k0_off1_inb i)).toLoadRect (harg4.unread x2))

/-- The own block's values. -/
def vdO (i : grid0.Coords) (arg7 : Memref sig .tc .vmem S1x32x256x128 .bf16) (harg7 : arg7.IsWhole) (x5 : Vec F S1x32x256x128 .bf16) : Vec F S1x1x256x128 .bf16 :=
  (View.readAt (Elt F) arg7.view (Rect.unit (s := S1x32x256x128) (k0_off1 i) S1x1x256x128.size (k0_off1_inb i)).toLoadRect (harg7.unread x5))

/-- The own block's transposed keys. -/
def ktO (i : grid0.Coords) (arg6 : Memref sig .tc .vmem S1x32x128x256 .bf16) (harg6 : arg6.IsWhole) (x4 : Vec F S1x32x128x256 .bf16) : Vec F S1x1x128x256 .bf16 :=
  (View.readAt (Elt F) arg6.view (Rect.unit (s := S1x32x128x256) (k0_off2 i) S1x1x128x256.size (k0_off2_inb i)).toLoadRect (harg6.unread x4))

/-- A head's weights on its own block. -/
def pO (i : grid0.Coords) (arg2 : Memref sig .tc .vmem S5x256x128 .fp8e4m3) (harg2 : arg2.IsWhole) (arg3 : Memref sig .tc .vmem S5x1x256 .f32) (harg3 : arg3.IsWhole) (arg4 : Memref sig .tc .vmem S1x32x256x128 .fp8e4m3) (harg4 : arg4.IsWhole) (arg5 : Memref sig .tc .vmem S1x32x256x128 .f32) (harg5 : arg5.IsWhole) (arg9 : Memref sig .tc .vmem S5x1x256 .f32) (harg9 : arg9.IsWhole) (x0 : Vec F S5x256x128 .fp8e4m3) (x1 : Vec F S5x1x256 .f32) (x2 : Vec F S1x32x256x128 .fp8e4m3) (x3 : Vec F S1x32x256x128 .f32) (x7 : Vec F S5x1x256 .f32) (h : Fin 5) : FVec F S256x256 .f32 :=
  ownV (qfH arg3 harg3 x1 h) (lsH arg9 harg9 x7 h) (ksO i arg5 harg5 x3) (kO i arg4 harg4 x2) (qH arg2 harg2 x0 h)

/-- The scores' derivative there. -/
def dsO (i : grid0.Coords) (arg2 : Memref sig .tc .vmem S5x256x128 .fp8e4m3) (harg2 : arg2.IsWhole) (arg3 : Memref sig .tc .vmem S5x1x256 .f32) (harg3 : arg3.IsWhole) (arg4 : Memref sig .tc .vmem S1x32x256x128 .fp8e4m3) (harg4 : arg4.IsWhole) (arg5 : Memref sig .tc .vmem S1x32x256x128 .f32) (harg5 : arg5.IsWhole) (arg7 : Memref sig .tc .vmem S1x32x256x128 .bf16) (harg7 : arg7.IsWhole) (arg9 : Memref sig .tc .vmem S5x1x256 .f32) (harg9 : arg9.IsWhole) (arg10 : Memref sig .tc .vmem S5x1x256 .f32) (harg10 : arg10.IsWhole) (arg11 : Memref sig .tc .vmem S5x256x128 .bf16) (harg11 : arg11.IsWhole) (x0 : Vec F S5x256x128 .fp8e4m3) (x1 : Vec F S5x1x256 .f32) (x2 : Vec F S1x32x256x128 .fp8e4m3) (x3 : Vec F S1x32x256x128 .f32) (x5 : Vec F S1x32x256x128 .bf16) (x7 : Vec F S5x1x256 .f32) (x8 : Vec F S5x1x256 .f32) (x9 : Vec F S5x256x128 .bf16) (h : Fin 5) : FVec F S256x256 .f32 :=
  dsV (pO i arg2 harg2 arg3 harg3 arg4 harg4 arg5 harg5 arg9 harg9 x0 x1 x2 x3 x7 h) (dvH arg10 harg10 x8 h) (vdO i arg7 harg7 x5) (doH arg11 harg11 x9 h)

/-- The queries' derivative there. -/
def dqO (i : grid0.Coords) (arg2 : Memref sig .tc .vmem S5x256x128 .fp8e4m3) (harg2 : arg2.IsWhole) (arg3 : Memref sig .tc .vmem S5x1x256 .f32) (harg3 : arg3.IsWhole) (arg4 : Memref sig .tc .vmem S1x32x256x128 .fp8e4m3) (harg4 : arg4.IsWhole) (arg5 : Memref sig .tc .vmem S1x32x256x128 .f32) (harg5 : arg5.IsWhole) (arg6 : Memref sig .tc .vmem S1x32x128x256 .bf16) (harg6 : arg6.IsWhole) (arg7 : Memref sig .tc .vmem S1x32x256x128 .bf16) (harg7 : arg7.IsWhole) (arg9 : Memref sig .tc .vmem S5x1x256 .f32) (harg9 : arg9.IsWhole) (arg10 : Memref sig .tc .vmem S5x1x256 .f32) (harg10 : arg10.IsWhole) (arg11 : Memref sig .tc .vmem S5x256x128 .bf16) (harg11 : arg11.IsWhole) (x0 : Vec F S5x256x128 .fp8e4m3) (x1 : Vec F S5x1x256 .f32) (x2 : Vec F S1x32x256x128 .fp8e4m3) (x3 : Vec F S1x32x256x128 .f32) (x4 : Vec F S1x32x128x256 .bf16) (x5 : Vec F S1x32x256x128 .bf16) (x7 : Vec F S5x1x256 .f32) (x8 : Vec F S5x1x256 .f32) (x9 : Vec F S5x256x128 .bf16) (h : Fin 5) : FVec F S128x256 .f32 :=
  dqV (dsO i arg2 harg2 arg3 harg3 arg4 harg4 arg5 harg5 arg7 harg7 arg9 harg9 arg10 harg10 arg11 harg11 x0 x1 x2 x3 x5 x7 x8 x9 h) (ksO i arg5 harg5 x3) (ktO i arg6 harg6 x4)

/-- The values' derivative there. -/
def dvO (i : grid0.Coords) (arg2 : Memref sig .tc .vmem S5x256x128 .fp8e4m3) (harg2 : arg2.IsWhole) (arg3 : Memref sig .tc .vmem S5x1x256 .f32) (harg3 : arg3.IsWhole) (arg4 : Memref sig .tc .vmem S1x32x256x128 .fp8e4m3) (harg4 : arg4.IsWhole) (arg5 : Memref sig .tc .vmem S1x32x256x128 .f32) (harg5 : arg5.IsWhole) (arg9 : Memref sig .tc .vmem S5x1x256 .f32) (harg9 : arg9.IsWhole) (arg11 : Memref sig .tc .vmem S5x256x128 .bf16) (harg11 : arg11.IsWhole) (x0 : Vec F S5x256x128 .fp8e4m3) (x1 : Vec F S5x1x256 .f32) (x2 : Vec F S1x32x256x128 .fp8e4m3) (x3 : Vec F S1x32x256x128 .f32) (x7 : Vec F S5x1x256 .f32) (x9 : Vec F S5x256x128 .bf16) (h : Fin 5) : FVec F S256x128 .f32 :=
  dvV (pO i arg2 harg2 arg3 harg3 arg4 harg4 arg5 harg5 arg9 harg9 x0 x1 x2 x3 x7 h) (doH arg11 harg11 x9 h)

/-- The keys' derivative there. -/
def dkO (i : grid0.Coords) (arg2 : Memref sig .tc .vmem S5x256x128 .fp8e4m3) (harg2 : arg2.IsWhole) (arg3 : Memref sig .tc .vmem S5x1x256 .f32) (harg3 : arg3.IsWhole) (arg4 : Memref sig .tc .vmem S1x32x256x128 .fp8e4m3) (harg4 : arg4.IsWhole) (arg5 : Memref sig .tc .vmem S1x32x256x128 .f32) (harg5 : arg5.IsWhole) (arg7 : Memref sig .tc .vmem S1x32x256x128 .bf16) (harg7 : arg7.IsWhole) (arg9 : Memref sig .tc .vmem S5x1x256 .f32) (harg9 : arg9.IsWhole) (arg10 : Memref sig .tc .vmem S5x1x256 .f32) (harg10 : arg10.IsWhole) (arg11 : Memref sig .tc .vmem S5x256x128 .bf16) (harg11 : arg11.IsWhole) (arg15 : Memref sig .tc .vmem S5x256x128 .bf16) (harg15 : arg15.IsWhole) (x0 : Vec F S5x256x128 .fp8e4m3) (x1 : Vec F S5x1x256 .f32) (x2 : Vec F S1x32x256x128 .fp8e4m3) (x3 : Vec F S1x32x256x128 .f32) (x5 : Vec F S1x32x256x128 .bf16) (x7 : Vec F S5x1x256 .f32) (x8 : Vec F S5x1x256 .f32) (x9 : Vec F S5x256x128 .bf16) (X15 : BufTy.Contents (Elt F) arg15.view.ty) (h : Fin 5) : FVec F S256x128 .f32 :=
  dkV (dsO i arg2 harg2 arg3 harg3 arg4 harg4 arg5 harg5 arg7 harg7 arg9 harg9 arg10 harg10 arg11 harg11 x0 x1 x2 x3 x5 x7 x8 x9 h) (qsH arg3 harg3 x1 h) (qwH arg15 harg15 X15 h)

/-- The scratch of widened queries. -/
def X15of (arg2 : Memref sig .tc .vmem S5x256x128 .fp8e4m3) (harg2 : arg2.IsWhole) (arg15 : Memref sig .tc .vmem S5x256x128 .bf16) (harg15 : arg15.IsWhole) (x0 : Vec F S5x256x128 .fp8e4m3) (j15 : BufTy.Contents (Elt F) arg15.view.ty) : BufTy.Contents (Elt F) arg15.view.ty :=
  arg15.view.writes (Elt F) j15 [⟨(Rect.unit (s := S5x256x128) ![4, 0, 0] S1x256x128.size inb_S5x256x128_S1x256x128_4_0_0), widenV (qH arg2 harg2 x0 4)⟩, ⟨(Rect.unit (s := S5x256x128) ![3, 0, 0] S1x256x128.size inb_S5x256x128_S1x256x128_3_0_0), widenV (qH arg2 harg2 x0 3)⟩, ⟨(Rect.unit (s := S5x256x128) ![2, 0, 0] S1x256x128.size inb_S5x256x128_S1x256x128_2_0_0), widenV (qH arg2 harg2 x0 2)⟩, ⟨(Rect.unit (s := S5x256x128) ![1, 0, 0] S1x256x128.size inb_S5x256x128_S1x256x128_1_0_0), widenV (qH arg2 harg2 x0 1)⟩, ⟨(Rect.unit (s := S5x256x128) ![0, 0, 0] S1x256x128.size inb_S5x256x128_S1x256x128_0_0_0), widenV (qH arg2 harg2 x0 0)⟩]

/-- The own block's piece of the keys' derivative. -/
def D13 (i : grid0.Coords) (arg2 : Memref sig .tc .vmem S5x256x128 .fp8e4m3) (harg2 : arg2.IsWhole) (arg3 : Memref sig .tc .vmem S5x1x256 .f32) (harg3 : arg3.IsWhole) (arg4 : Memref sig .tc .vmem S1x32x256x128 .fp8e4m3) (harg4 : arg4.IsWhole) (arg5 : Memref sig .tc .vmem S1x32x256x128 .f32) (harg5 : arg5.IsWhole) (arg7 : Memref sig .tc .vmem S1x32x256x128 .bf16) (harg7 : arg7.IsWhole) (arg9 : Memref sig .tc .vmem S5x1x256 .f32) (harg9 : arg9.IsWhole) (arg10 : Memref sig .tc .vmem S5x1x256 .f32) (harg10 : arg10.IsWhole) (arg11 : Memref sig .tc .vmem S5x256x128 .bf16) (harg11 : arg11.IsWhole) (arg15 : Memref sig .tc .vmem S5x256x128 .bf16) (harg15 : arg15.IsWhole) (x0 : Vec F S5x256x128 .fp8e4m3) (x1 : Vec F S5x1x256 .f32) (x2 : Vec F S1x32x256x128 .fp8e4m3) (x3 : Vec F S1x32x256x128 .f32) (x5 : Vec F S1x32x256x128 .bf16) (x7 : Vec F S5x1x256 .f32) (x8 : Vec F S5x1x256 .f32) (x9 : Vec F S5x256x128 .bf16) : (X15 : BufTy.Contents (Elt F) arg15.view.ty) → View.Piece (Elt F) S1x32x256x128 .f32 :=
  fun X15 => ⟨(Rect.unit (s := S1x32x256x128) (k0_off1 i) S1x1x256x128.size (k0_off1_inb i)), putSlab (sum5 (dkO i arg2 harg2 arg3 harg3 arg4 harg4 arg5 harg5 arg7 harg7 arg9 harg9 arg10 harg10 arg11 harg11 arg15 harg15 x0 x1 x2 x3 x5 x7 x8 x9 X15))⟩

/-- The own block's piece of the values' derivative. -/
def D14 (i : grid0.Coords) (arg2 : Memref sig .tc .vmem S5x256x128 .fp8e4m3) (harg2 : arg2.IsWhole) (arg3 : Memref sig .tc .vmem S5x1x256 .f32) (harg3 : arg3.IsWhole) (arg4 : Memref sig .tc .vmem S1x32x256x128 .fp8e4m3) (harg4 : arg4.IsWhole) (arg5 : Memref sig .tc .vmem S1x32x256x128 .f32) (harg5 : arg5.IsWhole) (arg9 : Memref sig .tc .vmem S5x1x256 .f32) (harg9 : arg9.IsWhole) (arg11 : Memref sig .tc .vmem S5x256x128 .bf16) (harg11 : arg11.IsWhole) (x0 : Vec F S5x256x128 .fp8e4m3) (x1 : Vec F S5x1x256 .f32) (x2 : Vec F S1x32x256x128 .fp8e4m3) (x3 : Vec F S1x32x256x128 .f32) (x7 : Vec F S5x1x256 .f32) (x9 : Vec F S5x256x128 .bf16) : View.Piece (Elt F) S1x32x256x128 .f32 :=
  ⟨(Rect.unit (s := S1x32x256x128) (k0_off1 i) S1x1x256x128.size (k0_off1_inb i)), putSlab (sum5 (dvO i arg2 harg2 arg3 harg3 arg4 harg4 arg5 harg5 arg9 harg9 arg11 harg11 x0 x1 x2 x3 x7 x9))⟩

/-- The own block's rows of the queries' derivative. -/
def D16 (i : grid0.Coords) (arg2 : Memref sig .tc .vmem S5x256x128 .fp8e4m3) (harg2 : arg2.IsWhole) (arg3 : Memref sig .tc .vmem S5x1x256 .f32) (harg3 : arg3.IsWhole) (arg4 : Memref sig .tc .vmem S1x32x256x128 .fp8e4m3) (harg4 : arg4.IsWhole) (arg5 : Memref sig .tc .vmem S1x32x256x128 .f32) (harg5 : arg5.IsWhole) (arg6 : Memref sig .tc .vmem S1x32x128x256 .bf16) (harg6 : arg6.IsWhole) (arg7 : Memref sig .tc .vmem S1x32x256x128 .bf16) (harg7 : arg7.IsWhole) (arg9 : Memref sig .tc .vmem S5x1x256 .f32) (harg9 : arg9.IsWhole) (arg10 : Memref sig .tc .vmem S5x1x256 .f32) (harg10 : arg10.IsWhole) (arg11 : Memref sig .tc .vmem S5x256x128 .bf16) (harg11 : arg11.IsWhole) (x0 : Vec F S5x256x128 .fp8e4m3) (x1 : Vec F S5x1x256 .f32) (x2 : Vec F S1x32x256x128 .fp8e4m3) (x3 : Vec F S1x32x256x128 .f32) (x4 : Vec F S1x32x128x256 .bf16) (x5 : Vec F S1x32x256x128 .bf16) (x7 : Vec F S5x1x256 .f32) (x8 : Vec F S5x1x256 .f32) (x9 : Vec F S5x256x128 .bf16) : List (View.Piece (Elt F) S5x128x256 .f32) :=
  [⟨(Rect.unit (s := S5x128x256) ![4, 0, 0] S1x128x256.size inb_S5x128x256_S1x128x256_4_0_0), putRow (dqO i arg2 harg2 arg3 harg3 arg4 harg4 arg5 harg5 arg6 harg6 arg7 harg7 arg9 harg9 arg10 harg10 arg11 harg11 x0 x1 x2 x3 x4 x5 x7 x8 x9 4)⟩, ⟨(Rect.unit (s := S5x128x256) ![3, 0, 0] S1x128x256.size inb_S5x128x256_S1x128x256_3_0_0), putRow (dqO i arg2 harg2 arg3 harg3 arg4 harg4 arg5 harg5 arg6 harg6 arg7 harg7 arg9 harg9 arg10 harg10 arg11 harg11 x0 x1 x2 x3 x4 x5 x7 x8 x9 3)⟩, ⟨(Rect.unit (s := S5x128x256) ![2, 0, 0] S1x128x256.size inb_S5x128x256_S1x128x256_2_0_0), putRow (dqO i arg2 harg2 arg3 harg3 arg4 harg4 arg5 harg5 arg6 harg6 arg7 harg7 arg9 harg9 arg10 harg10 arg11 harg11 x0 x1 x2 x3 x4 x5 x7 x8 x9 2)⟩, ⟨(Rect.unit (s := S5x128x256) ![1, 0, 0] S1x128x256.size inb_S5x128x256_S1x128x256_1_0_0), putRow (dqO i arg2 harg2 arg3 harg3 arg4 harg4 arg5 harg5 arg6 harg6 arg7 harg7 arg9 harg9 arg10 harg10 arg11 harg11 x0 x1 x2 x3 x4 x5 x7 x8 x9 1)⟩, ⟨(Rect.unit (s := S5x128x256) ![0, 0, 0] S1x128x256.size inb_S5x128x256_S1x128x256_0_0_0), putRow (dqO i arg2 harg2 arg3 harg3 arg4 harg4 arg5 harg5 arg6 harg6 arg7 harg7 arg9 harg9 arg10 harg10 arg11 harg11 x0 x1 x2 x3 x4 x5 x7 x8 x9 0)⟩]

/-- The loop's state after its last trip. -/
def STof (c : Dev nD) (i : grid0.Coords) (arg2 : Memref sig .tc .vmem S5x256x128 .fp8e4m3) (harg2 : arg2.IsWhole) (arg3 : Memref sig .tc .vmem S5x1x256 .f32) (harg3 : arg3.IsWhole) (arg4 : Memref sig .tc .vmem S1x32x256x128 .fp8e4m3) (harg4 : arg4.IsWhole) (arg5 : Memref sig .tc .vmem S1x32x256x128 .f32) (harg5 : arg5.IsWhole) (arg6 : Memref sig .tc .vmem S1x32x128x256 .bf16) (harg6 : arg6.IsWhole) (arg7 : Memref sig .tc .vmem S1x32x256x128 .bf16) (harg7 : arg7.IsWhole) (arg8 : Memref sig .tc .vmem S1x32x256 .f32) (harg8 : arg8.IsWhole) (arg9 : Memref sig .tc .vmem S5x1x256 .f32) (harg9 : arg9.IsWhole) (arg10 : Memref sig .tc .vmem S5x1x256 .f32) (harg10 : arg10.IsWhole) (arg11 : Memref sig .tc .vmem S5x256x128 .bf16) (harg11 : arg11.IsWhole) (arg12 : Memref sig .tc .vmem S5x256x128 .f32) (harg12 : arg12.IsWhole) (arg13 : Memref sig .tc .vmem S1x32x256x128 .f32) (harg13 : arg13.IsWhole) (arg14 : Memref sig .tc .vmem S1x32x256x128 .f32) (harg14 : arg14.IsWhole) (arg15 : Memref sig .tc .vmem S5x256x128 .bf16) (harg15 : arg15.IsWhole) (arg16 : Memref sig .tc .vmem S5x128x256 .f32) (harg16 : arg16.IsWhole)  (x0 : Vec F S5x256x128 .fp8e4m3) (x1 : Vec F S5x1x256 .f32) (x2 : Vec F S1x32x256x128 .fp8e4m3) (x3 : Vec F S1x32x256x128 .f32) (x4 : Vec F S1x32x128x256 .bf16) (x5 : Vec F S1x32x256x128 .bf16) (x6 : Vec F S1x32x256 .f32) (x7 : Vec F S5x1x256 .f32) (x8 : Vec F S5x1x256 .f32) (x9 : Vec F S5x256x128 .bf16) (f11 : BufTy.Contents (Elt F) arg13.view.ty) (f12 : BufTy.Contents (Elt F) arg14.view.ty) (X15 : BufTy.Contents (Elt F) arg15.view.ty) (j16 : BufTy.Contents (Elt F) arg16.view.ty) :=
  st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (qsH arg3 harg3 x1 0) (qsH arg3 harg3 x1 1) (qsH arg3 harg3 x1 2) (qsH arg3 harg3 x1 3) (qsH arg3 harg3 x1 4) (qfH arg3 harg3 x1 0) (qfH arg3 harg3 x1 1) (qfH arg3 harg3 x1 2) (qfH arg3 harg3 x1 3) (qfH arg3 harg3 x1 4) (lsH arg9 harg9 x7 0) (lsH arg9 harg9 x7 1) (lsH arg9 harg9 x7 2) (lsH arg9 harg9 x7 3) (lsH arg9 harg9 x7 4) (dvH arg10 harg10 x8 0) (dvH arg10 harg10 x8 1) (dvH arg10 harg10 x8 2) (dvH arg10 harg10 x8 3) (dvH arg10 harg10 x8 4) 0#32
    (harg2.unread x0) (harg4.unread x2) (harg5.unread x3) (harg6.unread x4) (harg7.unread x5) (harg8.unread x6) (harg11.unread x9) X15 (arg13.view.writes (Elt F) f11 [(D13 i arg2 harg2 arg3 harg3 arg4 harg4 arg5 harg5 arg7 harg7 arg9 harg9 arg10 harg10 arg11 harg11 arg15 harg15 x0 x1 x2 x3 x5 x7 x8 x9 X15)]) (arg14.view.writes (Elt F) f12 [(D14 i arg2 harg2 arg3 harg3 arg4 harg4 arg5 harg5 arg9 harg9 arg11 harg11 x0 x1 x2 x3 x7 x9)]) (arg16.view.writes (Elt F) j16 (D16 i arg2 harg2 arg3 harg3 arg4 harg4 arg5 harg5 arg6 harg6 arg7 harg7 arg9 harg9 arg10 harg10 arg11 harg11 x0 x1 x2 x3 x4 x5 x7 x8 x9)) 0#32 (Scf.trips (k0_t1_loop i).lb (k0_t1_loop i).ub (k0_t1_loop i).st)

set_option maxHeartbeats 1000000 in
/-- The loaded vectors of one head are the tile's. -/
theorem headOK_of (c : Dev nD) (i : grid0.Coords) (arg2 : Memref sig .tc .vmem S5x256x128 .fp8e4m3) (harg2 : arg2.IsWhole) (arg3 : Memref sig .tc .vmem S5x1x256 .f32) (harg3 : arg3.IsWhole) (arg4 : Memref sig .tc .vmem S1x32x256x128 .fp8e4m3) (harg4 : arg4.IsWhole) (arg5 : Memref sig .tc .vmem S1x32x256x128 .f32) (harg5 : arg5.IsWhole) (arg6 : Memref sig .tc .vmem S1x32x128x256 .bf16) (harg6 : arg6.IsWhole) (arg7 : Memref sig .tc .vmem S1x32x256x128 .bf16) (harg7 : arg7.IsWhole) (arg8 : Memref sig .tc .vmem S1x32x256 .f32) (harg8 : arg8.IsWhole) (arg9 : Memref sig .tc .vmem S5x1x256 .f32) (harg9 : arg9.IsWhole) (arg10 : Memref sig .tc .vmem S5x1x256 .f32) (harg10 : arg10.IsWhole) (arg11 : Memref sig .tc .vmem S5x256x128 .bf16) (harg11 : arg11.IsWhole) (arg12 : Memref sig .tc .vmem S5x256x128 .f32) (harg12 : arg12.IsWhole) (arg13 : Memref sig .tc .vmem S1x32x256x128 .f32) (harg13 : arg13.IsWhole) (arg14 : Memref sig .tc .vmem S1x32x256x128 .f32) (harg14 : arg14.IsWhole) (arg15 : Memref sig .tc .vmem S5x256x128 .bf16) (harg15 : arg15.IsWhole) (arg16 : Memref sig .tc .vmem S5x128x256 .f32) (harg16 : arg16.IsWhole)  (x0 : Vec Ideal S5x256x128 .fp8e4m3) (x1 : Vec Ideal S5x1x256 .f32) (x2 : Vec Ideal S1x32x256x128 .fp8e4m3) (x3 : Vec Ideal S1x32x256x128 .f32) (x4 : Vec Ideal S1x32x128x256 .bf16) (x5 : Vec Ideal S1x32x256x128 .bf16) (x6 : Vec Ideal S1x32x256 .f32) (x7 : Vec Ideal S5x1x256 .f32) (x8 : Vec Ideal S5x1x256 .f32) (x9 : Vec Ideal S5x256x128 .bf16) (X15 : BufTy.Contents (Elt Ideal) arg15.view.ty) (hX15 : ∀ h t d, arg15.view.read (Elt Ideal) X15 (ix3 h t d) = x0 (ix3 h t d)) (h : Fin 5) :
    HeadOK (blkOf x0 x1 x2 x3 x4 x5 x6 x7 x8 x9) h (qsH arg3 harg3 x1 h) (qfH arg3 harg3 x1 h) (lsH arg9 harg9 x7 h) (dvH arg10 harg10 x8 h) (qH arg2 harg2 x0 h) (doH arg11 harg11 x9 h) (qwH arg15 harg15 X15 h) where
  qs t := by unfold qsH; rw [flat_eq, lane_load arg3.view _ h.val _ h t rfl, harg3.read_unread]; rfl
  qf t := by unfold qfH; rw [flatC_eq, lane_load arg3.view _ h.val _ h t rfl, harg3.read_unread]; rfl
  lse t := by unfold lsH; rw [flatC_eq, lane_load arg9.view _ h.val _ h t rfl, harg9.read_unread]; rfl
  dvec t := by unfold dvH; rw [flat_eq, lane_load arg10.view _ h.val _ h t rfl, harg10.read_unread]; rfl
  q t d := (row_load_n arg2.view _ h.val _ h (t, d) rfl).trans (by rw [harg2.read_unread]; rfl)
  dO t d := (row_load_n arg11.view _ h.val _ h (t, d) rfl).trans (by rw [harg11.read_unread]; rfl)
  qw t d := (row_load_n arg15.view _ h.val _ h (t, d) rfl).trans (hX15 h t d)

set_option maxHeartbeats 1000000 in
/-- The loaded vectors of one block of keys are the tile's. -/
theorem keyOK_of (c : Dev nD) (i : grid0.Coords) (arg2 : Memref sig .tc .vmem S5x256x128 .fp8e4m3) (harg2 : arg2.IsWhole) (arg3 : Memref sig .tc .vmem S5x1x256 .f32) (harg3 : arg3.IsWhole) (arg4 : Memref sig .tc .vmem S1x32x256x128 .fp8e4m3) (harg4 : arg4.IsWhole) (arg5 : Memref sig .tc .vmem S1x32x256x128 .f32) (harg5 : arg5.IsWhole) (arg6 : Memref sig .tc .vmem S1x32x128x256 .bf16) (harg6 : arg6.IsWhole) (arg7 : Memref sig .tc .vmem S1x32x256x128 .bf16) (harg7 : arg7.IsWhole) (arg8 : Memref sig .tc .vmem S1x32x256 .f32) (harg8 : arg8.IsWhole) (arg9 : Memref sig .tc .vmem S5x1x256 .f32) (harg9 : arg9.IsWhole) (arg10 : Memref sig .tc .vmem S5x1x256 .f32) (harg10 : arg10.IsWhole) (arg11 : Memref sig .tc .vmem S5x256x128 .bf16) (harg11 : arg11.IsWhole) (arg12 : Memref sig .tc .vmem S5x256x128 .f32) (harg12 : arg12.IsWhole) (arg13 : Memref sig .tc .vmem S1x32x256x128 .f32) (harg13 : arg13.IsWhole) (arg14 : Memref sig .tc .vmem S1x32x256x128 .f32) (harg14 : arg14.IsWhole) (arg15 : Memref sig .tc .vmem S5x256x128 .bf16) (harg15 : arg15.IsWhole) (arg16 : Memref sig .tc .vmem S5x128x256 .f32) (harg16 : arg16.IsWhole)  (x0 : Vec Ideal S5x256x128 .fp8e4m3) (x1 : Vec Ideal S5x1x256 .f32) (x2 : Vec Ideal S1x32x256x128 .fp8e4m3) (x3 : Vec Ideal S1x32x256x128 .f32) (x4 : Vec Ideal S1x32x128x256 .bf16) (x5 : Vec Ideal S1x32x256x128 .bf16) (x6 : Vec Ideal S1x32x256 .f32) (x7 : Vec Ideal S5x1x256 .f32) (x8 : Vec Ideal S5x1x256 .f32) (x9 : Vec Ideal S5x256x128 .bf16) (j : Fin 32) (off : Fin 4 → ℕ) (inb : ∀ a, off a + S1x1x256x128.size a ≤ S1x32x256x128.size a) (hoff : off = ![0, j.val, 0, 0])
    (off' : Fin 4 → ℕ) (inb' : ∀ a, off' a + S1x1x128x256.size a ≤ S1x32x128x256.size a) (hoff' : off' = ![0, j.val, 0, 0]) :
    KeyOK (blkOf x0 x1 x2 x3 x4 x5 x6 x7 x8 x9) j (View.readAt (Elt Ideal) arg5.view (Rect.unit (s := S1x32x256x128) off S1x1x256x128.size inb).toLoadRect (harg5.unread x3)) (View.readAt (Elt Ideal) arg4.view (Rect.unit (s := S1x32x256x128) off S1x1x256x128.size inb).toLoadRect (harg4.unread x2))
      (View.readAt (Elt Ideal) arg7.view (Rect.unit (s := S1x32x256x128) off S1x1x256x128.size inb).toLoadRect (harg7.unread x5)) (View.readAt (Elt Ideal) arg6.view (Rect.unit (s := S1x32x128x256) off' S1x1x128x256.size inb').toLoadRect (harg6.unread x4)) where
  ks s d := by rw [slab_load arg5.view _ off inb j hoff, harg5.read_unread]; rfl
  k s d := by rw [slab_load arg4.view _ off inb j hoff, harg4.read_unread]; rfl
  vd s d := by rw [slab_load arg7.view _ off inb j hoff, harg7.read_unread]; rfl
  kt d s := by rw [kt_load arg6.view _ off' inb' j hoff', harg6.read_unread]; rfl

/-- What a slab memref holds after the body: the earlier blocks' slabs with a term added, the own block's slab stored. -/
def SlabPost (c : Fin 32) (past own : Fin 32 → Fin 256 → Fin 128 → EReal) (Y X : Vec Ideal S1x32x256x128 .f32) : Prop :=
  ∀ (j : Fin 32) (s : Fin 256) (d : Fin 128), X (ix4 0 j s d) = (if j.val < c.val then Y (ix4 0 j s d) + past j s d else if j = c then own j s d else Y (ix4 0 j s d) : EReal)

/-- The keys' derivative's and the values' derivative's terms. -/
def Blk.dkPast (B : Blk) (j : Fin 32) (s : Fin 256) (d : Fin 128) : EReal := ∑ h, B.dk (B.past j h) j h s d
def Blk.dkOwn (B : Blk) (j : Fin 32) (s : Fin 256) (d : Fin 128) : EReal := ∑ h, B.dk (B.own j h) j h s d
def Blk.dvPast (B : Blk) (j : Fin 32) (s : Fin 256) (d : Fin 128) : EReal := ∑ h, B.dv (B.past j h) h s d
def Blk.dvOwn (B : Blk) (j : Fin 32) (s : Fin 256) (d : Fin 128) : EReal := ∑ h, B.dv (B.own j h) h s d

/-- The queries' derivative of the tile. -/
def Blk.dqTile (B : Blk) (c : Fin 32) (h : Fin 5) (t : Fin 256) (d : Fin 128) : EReal :=
  (B.dq (B.own c h) c h d t + B.dqSum h d t c.val) * cS

set_option maxHeartbeats 4000000 in
/-- What the body leaves in its three results, given what it stores. -/
theorem body_post (c : Dev nD) (i : grid0.Coords) (arg2 : Memref sig .tc .vmem S5x256x128 .fp8e4m3) (harg2 : arg2.IsWhole) (arg3 : Memref sig .tc .vmem S5x1x256 .f32) (harg3 : arg3.IsWhole) (arg4 : Memref sig .tc .vmem S1x32x256x128 .fp8e4m3) (harg4 : arg4.IsWhole) (arg5 : Memref sig .tc .vmem S1x32x256x128 .f32) (harg5 : arg5.IsWhole) (arg6 : Memref sig .tc .vmem S1x32x128x256 .bf16) (harg6 : arg6.IsWhole) (arg7 : Memref sig .tc .vmem S1x32x256x128 .bf16) (harg7 : arg7.IsWhole) (arg8 : Memref sig .tc .vmem S1x32x256 .f32) (harg8 : arg8.IsWhole) (arg9 : Memref sig .tc .vmem S5x1x256 .f32) (harg9 : arg9.IsWhole) (arg10 : Memref sig .tc .vmem S5x1x256 .f32) (harg10 : arg10.IsWhole) (arg11 : Memref sig .tc .vmem S5x256x128 .bf16) (harg11 : arg11.IsWhole) (arg12 : Memref sig .tc .vmem S5x256x128 .f32) (harg12 : arg12.IsWhole) (arg13 : Memref sig .tc .vmem S1x32x256x128 .f32) (harg13 : arg13.IsWhole) (arg14 : Memref sig .tc .vmem S1x32x256x128 .f32) (harg14 : arg14.IsWhole) (arg15 : Memref sig .tc .vmem S5x256x128 .bf16) (harg15 : arg15.IsWhole) (arg16 : Memref sig .tc .vmem S5x128x256 .f32) (harg16 : arg16.IsWhole)  (x0 : Vec Ideal S5x256x128 .fp8e4m3) (x1 : Vec Ideal S5x1x256 .f32) (x2 : Vec Ideal S1x32x256x128 .fp8e4m3) (x3 : Vec Ideal S1x32x256x128 .f32) (x4 : Vec Ideal S1x32x128x256 .bf16) (x5 : Vec Ideal S1x32x256x128 .bf16) (x6 : Vec Ideal S1x32x256 .f32) (x7 : Vec Ideal S5x1x256 .f32) (x8 : Vec Ideal S5x1x256 .f32) (x9 : Vec Ideal S5x256x128 .bf16) (f10 : BufTy.Contents (Elt Ideal) arg12.view.ty) (f11 : BufTy.Contents (Elt Ideal) arg13.view.ty) (f12 : BufTy.Contents (Elt Ideal) arg14.view.ty)
    (j15 : BufTy.Contents (Elt Ideal) arg15.view.ty) (j16 : BufTy.Contents (Elt Ideal) arg16.view.ty)
    (L13 : List (View.Piece (Elt Ideal) S1x32x256x128 .f32)) (L14 : List (View.Piece (Elt Ideal) S1x32x256x128 .f32)) (L16 : List (View.Piece (Elt Ideal) S5x128x256 .f32))
    (h13 : L13 = []) (h14 : L14 = []) (h16 : L16 = []) :
    SlabPost (cOf i) (blkOf x0 x1 x2 x3 x4 x5 x6 x7 x8 x9).dkPast (blkOf x0 x1 x2 x3 x4 x5 x6 x7 x8 x9).dkOwn (arg13.view.read (Elt Ideal) f11) (arg13.view.read (Elt Ideal) (arg13.view.writes (Elt Ideal) f11 (L13 ++ ((STof c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 f11 f12 (X15of arg2 harg2 arg15 harg15 x0 j15) j16).2.1 ++ [(D13 i arg2 harg2 arg3 harg3 arg4 harg4 arg5 harg5 arg7 harg7 arg9 harg9 arg10 harg10 arg11 harg11 arg15 harg15 x0 x1 x2 x3 x5 x7 x8 x9 (X15of arg2 harg2 arg15 harg15 x0 j15))]))))
    ∧ SlabPost (cOf i) (blkOf x0 x1 x2 x3 x4 x5 x6 x7 x8 x9).dvPast (blkOf x0 x1 x2 x3 x4 x5 x6 x7 x8 x9).dvOwn (arg14.view.read (Elt Ideal) f12) (arg14.view.read (Elt Ideal) (arg14.view.writes (Elt Ideal) f12 (L14 ++ ((STof c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 f11 f12 (X15of arg2 harg2 arg15 harg15 x0 j15) j16).2.2.1 ++ [(D14 i arg2 harg2 arg3 harg3 arg4 harg4 arg5 harg5 arg9 harg9 arg11 harg11 x0 x1 x2 x3 x7 x9)]))))
    ∧ (∀ h t d, arg12.view.read (Elt Ideal) (arg12.view.writes (Elt Ideal) f10 [⟨(Rect.unit (s := S5x256x128) ![4, 0, 0] S1x256x128.size inb_S5x256x128_S1x256x128_4_0_0), outV (View.readAt (Elt Ideal) arg16.view (Rect.unit (s := S5x128x256) ![4, 0, 0] S1x128x256.size inb_S5x128x256_S1x128x256_4_0_0).toLoadRect (arg16.view.writes (Elt Ideal) j16 (L16 ++ ((STof c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 f11 f12 (X15of arg2 harg2 arg15 harg15 x0 j15) j16).2.2.2 ++ (D16 i arg2 harg2 arg3 harg3 arg4 harg4 arg5 harg5 arg6 harg6 arg7 harg7 arg9 harg9 arg10 harg10 arg11 harg11 x0 x1 x2 x3 x4 x5 x7 x8 x9)))))⟩, ⟨(Rect.unit (s := S5x256x128) ![3, 0, 0] S1x256x128.size inb_S5x256x128_S1x256x128_3_0_0), outV (View.readAt (Elt Ideal) arg16.view (Rect.unit (s := S5x128x256) ![3, 0, 0] S1x128x256.size inb_S5x128x256_S1x128x256_3_0_0).toLoadRect (arg16.view.writes (Elt Ideal) j16 (L16 ++ ((STof c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 f11 f12 (X15of arg2 harg2 arg15 harg15 x0 j15) j16).2.2.2 ++ (D16 i arg2 harg2 arg3 harg3 arg4 harg4 arg5 harg5 arg6 harg6 arg7 harg7 arg9 harg9 arg10 harg10 arg11 harg11 x0 x1 x2 x3 x4 x5 x7 x8 x9)))))⟩, ⟨(Rect.unit (s := S5x256x128) ![2, 0, 0] S1x256x128.size inb_S5x256x128_S1x256x128_2_0_0), outV (View.readAt (Elt Ideal) arg16.view (Rect.unit (s := S5x128x256) ![2, 0, 0] S1x128x256.size inb_S5x128x256_S1x128x256_2_0_0).toLoadRect (arg16.view.writes (Elt Ideal) j16 (L16 ++ ((STof c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 f11 f12 (X15of arg2 harg2 arg15 harg15 x0 j15) j16).2.2.2 ++ (D16 i arg2 harg2 arg3 harg3 arg4 harg4 arg5 harg5 arg6 harg6 arg7 harg7 arg9 harg9 arg10 harg10 arg11 harg11 x0 x1 x2 x3 x4 x5 x7 x8 x9)))))⟩, ⟨(Rect.unit (s := S5x256x128) ![1, 0, 0] S1x256x128.size inb_S5x256x128_S1x256x128_1_0_0), outV (View.readAt (Elt Ideal) arg16.view (Rect.unit (s := S5x128x256) ![1, 0, 0] S1x128x256.size inb_S5x128x256_S1x128x256_1_0_0).toLoadRect (arg16.view.writes (Elt Ideal) j16 (L16 ++ ((STof c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 f11 f12 (X15of arg2 harg2 arg15 harg15 x0 j15) j16).2.2.2 ++ (D16 i arg2 harg2 arg3 harg3 arg4 harg4 arg5 harg5 arg6 harg6 arg7 harg7 arg9 harg9 arg10 harg10 arg11 harg11 x0 x1 x2 x3 x4 x5 x7 x8 x9)))))⟩, ⟨(Rect.unit (s := S5x256x128) ![0, 0, 0] S1x256x128.size inb_S5x256x128_S1x256x128_0_0_0), outV (View.readAt (Elt Ideal) arg16.view (Rect.unit (s := S5x128x256) ![0, 0, 0] S1x128x256.size inb_S5x128x256_S1x128x256_0_0_0).toLoadRect (arg16.view.writes (Elt Ideal) j16 (L16 ++ ((STof c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 f11 f12 (X15of arg2 harg2 arg15 harg15 x0 j15) j16).2.2.2 ++ (D16 i arg2 harg2 arg3 harg3 arg4 harg4 arg5 harg5 arg6 harg6 arg7 harg7 arg9 harg9 arg10 harg10 arg11 harg11 x0 x1 x2 x3 x4 x5 x7 x8 x9)))))⟩]) (ix3 h t d) = (blkOf x0 x1 x2 x3 x4 x5 x6 x7 x8 x9).dqTile (cOf i) h t d) := by
  subst h13; subst h14; subst h16
  simp only [List.nil_append, View.writes_append]
  have hX15 : ∀ h t d, arg15.view.read (Elt Ideal) (X15of arg2 harg2 arg15 harg15 x0 j15) (ix3 h t d) = x0 (ix3 h t d) := by
    intro h t d
    match h with
    | 0 => exact (row_miss_n _ _ _ _ _ _ _ (t, d) (by decide)).trans ((row_miss_n _ _ _ _ _ _ _ (t, d) (by decide)).trans ((row_miss_n _ _ _ _ _ _ _ (t, d) (by decide)).trans ((row_miss_n _ _ _ _ _ _ _ (t, d) (by decide)).trans (((row_hit_n _ _ _ _ _ _ 0 (t, d) rfl).trans (widenV_eq _ t d)).trans ((row_load_n arg2.view _ 0 _ 0 (t, d) rfl).trans (by rw [harg2.read_unread]))))))
    | 1 => exact (row_miss_n _ _ _ _ _ _ _ (t, d) (by decide)).trans ((row_miss_n _ _ _ _ _ _ _ (t, d) (by decide)).trans ((row_miss_n _ _ _ _ _ _ _ (t, d) (by decide)).trans (((row_hit_n _ _ _ _ _ _ 1 (t, d) rfl).trans (widenV_eq _ t d)).trans ((row_load_n arg2.view _ 1 _ 1 (t, d) rfl).trans (by rw [harg2.read_unread])))))
    | 2 => exact (row_miss_n _ _ _ _ _ _ _ (t, d) (by decide)).trans ((row_miss_n _ _ _ _ _ _ _ (t, d) (by decide)).trans (((row_hit_n _ _ _ _ _ _ 2 (t, d) rfl).trans (widenV_eq _ t d)).trans ((row_load_n arg2.view _ 2 _ 2 (t, d) rfl).trans (by rw [harg2.read_unread]))))
    | 3 => exact (row_miss_n _ _ _ _ _ _ _ (t, d) (by decide)).trans (((row_hit_n _ _ _ _ _ _ 3 (t, d) rfl).trans (widenV_eq _ t d)).trans ((row_load_n arg2.view _ 3 _ 3 (t, d) rfl).trans (by rw [harg2.read_unread])))
    | 4 => exact ((row_hit_n _ _ _ _ _ _ 4 (t, d) rfl).trans (widenV_eq _ t d)).trans ((row_load_n arg2.view _ 4 _ 4 (t, d) rfl).trans (by rw [harg2.read_unread]))
  generalize (X15of arg2 harg2 arg15 harg15 x0 j15) = X15 at hX15 ⊢
  unfold STof
  have hH := headOK_of c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 X15 hX15
  have hKo := keyOK_of c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 (cOf i) (k0_off1 i) (k0_off1_inb i) (k0_off1_eq i) (k0_off2 i) (k0_off2_inb i) (k0_off2_eq i)
  have hp : ∀ (h : Fin 5) {qs qf lse dvec : FVec Ideal S1x256 .f32} {q : Vec Ideal S1x256x128 .fp8e4m3} {dO : Vec Ideal S1x256x128 .bf16} {qw : Vec Ideal S1x256x128 .bf16}
      (hh : HeadOK (blkOf x0 x1 x2 x3 x4 x5 x6 x7 x8 x9) h qs qf lse dvec q dO qw) (s t : Fin 256), ownV qf lse _ _ q (ix2 s t) = (blkOf x0 x1 x2 x3 x4 x5 x6 x7 x8 x9).own (cOf i) h s t :=
    fun h _ _ _ _ _ _ _ hh => ownV_eq hh hKo
  have hL := fun (G13 : BufTy.Contents (Elt Ideal) arg13.view.ty) (G14 : BufTy.Contents (Elt Ideal) arg14.view.ty) (G16 : BufTy.Contents (Elt Ideal) arg16.view.ty) => loop_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (qsH arg3 harg3 x1 0) (qsH arg3 harg3 x1 1) (qsH arg3 harg3 x1 2) (qsH arg3 harg3 x1 3) (qsH arg3 harg3 x1 4) (qfH arg3 harg3 x1 0) (qfH arg3 harg3 x1 1) (qfH arg3 harg3 x1 2) (qfH arg3 harg3 x1 3) (qfH arg3 harg3 x1 4) (lsH arg9 harg9 x7 0) (lsH arg9 harg9 x7 1) (lsH arg9 harg9 x7 2) (lsH arg9 harg9 x7 3) (lsH arg9 harg9 x7 4) (dvH arg10 harg10 x8 0) (dvH arg10 harg10 x8 1) (dvH arg10 harg10 x8 2) (dvH arg10 harg10 x8 3) (dvH arg10 harg10 x8 4) 0#32 (harg2.unread x0) (harg4.unread x2) (harg5.unread x3) (harg6.unread x4) (harg7.unread x5) (harg8.unread x6) (harg11.unread x9) X15
    (blkOf x0 x1 x2 x3 x4 x5 x6 x7 x8 x9) (hH 0) (hH 1) (hH 2) (hH 3) (hH 4) (fun k hk => keyOK_of c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 ⟨k.val, hk⟩ _ (k0_off4_inb i k) (k0_off4_eq i k) _ (k0_off5_inb i k) (k0_off5_eq i k))
    (fun k hk t => (gate_load arg8.view _ _ (k0_off3_inb i k) ⟨k.val, hk⟩ (k0_off3_eq i k) t).trans (by rw [harg8.read_unread]; rfl))
    G13 G14 G16 0#32 (Scf.trips (k0_t1_loop i).lb (k0_t1_loop i).ub (k0_t1_loop i).st) le_rfl
  have ht : Scf.trips (k0_t1_loop i).lb (k0_t1_loop i).ub (k0_t1_loop i).st = (i 1).val := trips1 i
  refine ⟨?_, ?_, ?_⟩
  · intro j s d
    refine ((hL _ _ _).1 j s d).trans ?_
    rw [ht]
    by_cases hj : j = (cOf i)
    · subst hj
      rw [if_neg (show ¬ (cOf i).val < (i 1).val from lt_irrefl _), if_neg (lt_irrefl _), if_pos rfl]
      refine (slab_hit arg13.view f11 _ (k0_off1_inb i) _ _ (k0_off1_eq i) s d).trans ((putSlab_eq _ s d).trans ((sum5_eq _ s d).trans ?_))
      exact Finset.sum_congr rfl fun h _ => dkV_eq (hH h) hKo _ _ (hp h (hH h)) s d
    · have e : arg13.view.read (Elt Ideal) (arg13.view.writes (Elt Ideal) f11 [(D13 i arg2 harg2 arg3 harg3 arg4 harg4 arg5 harg5 arg7 harg7 arg9 harg9 arg10 harg10 arg11 harg11 arg15 harg15 x0 x1 x2 x3 x5 x7 x8 x9 X15)]) (ix4 0 j s d) = arg13.view.read (Elt Ideal) f11 (ix4 0 j s d) :=
        slab_miss arg13.view f11 _ (k0_off1_inb i) _ _ (k0_off1_eq i) j hj s d
      rw [if_neg hj, e]
      rfl
  · intro j s d
    refine ((hL _ _ _).2.1 j s d).trans ?_
    rw [ht]
    by_cases hj : j = (cOf i)
    · subst hj
      rw [if_neg (show ¬ (cOf i).val < (i 1).val from lt_irrefl _), if_neg (lt_irrefl _), if_pos rfl]
      refine (slab_hit arg14.view f12 _ (k0_off1_inb i) _ _ (k0_off1_eq i) s d).trans ((putSlab_eq _ s d).trans ((sum5_eq _ s d).trans ?_))
      exact Finset.sum_congr rfl fun h _ => dvV_eq (hH h) _ _ (hp h (hH h)) s d
    · have e : arg14.view.read (Elt Ideal) (arg14.view.writes (Elt Ideal) f12 [(D14 i arg2 harg2 arg3 harg3 arg4 harg4 arg5 harg5 arg9 harg9 arg11 harg11 x0 x1 x2 x3 x7 x9)]) (ix4 0 j s d) = arg14.view.read (Elt Ideal) f12 (ix4 0 j s d) :=
        slab_miss arg14.view f12 _ (k0_off1_inb i) _ _ (k0_off1_eq i) j hj s d
      rw [if_neg hj, e]
      rfl
  · intro h t d
    have hrow : ∀ (h : Fin 5) (m : ℕ) (inb : ∀ a, (![m, 0, 0] : Fin 3 → ℕ) a + S1x128x256.size a ≤ S5x128x256.size a) (hm : h.val = m) (G : BufTy.Contents (Elt Ideal) arg16.view.ty)
        (hG : arg16.view.read (Elt Ideal) G (ix3 h d t) = ((blkOf x0 x1 x2 x3 x4 x5 x6 x7 x8 x9).dq ((blkOf x0 x1 x2 x3 x4 x5 x6 x7 x8 x9).own (cOf i) h) (cOf i) h d t + (blkOf x0 x1 x2 x3 x4 x5 x6 x7 x8 x9).dqSum h d t (i 1).val : EReal)),
        outV (View.readAt (Elt Ideal) arg16.view (Rect.unit (s := S5x128x256) ![m, 0, 0] S1x128x256.size inb).toLoadRect G) (ix3 0 t d) = (blkOf x0 x1 x2 x3 x4 x5 x6 x7 x8 x9).dqTile (cOf i) h t d := by
      intro h m inb hm G hG
      rw [outV_eq, row_load_t arg16.view G m inb h (d, t) hm, hG]
      rfl
    have hG : ∀ h, arg16.view.read (Elt Ideal) (arg16.view.writes (Elt Ideal) (arg16.view.writes (Elt Ideal) j16 (D16 i arg2 harg2 arg3 harg3 arg4 harg4 arg5 harg5 arg6 harg6 arg7 harg7 arg9 harg9 arg10 harg10 arg11 harg11 x0 x1 x2 x3 x4 x5 x7 x8 x9)) (STof c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 f11 f12 X15 j16).2.2.2) (ix3 h d t)
        = ((blkOf x0 x1 x2 x3 x4 x5 x6 x7 x8 x9).dq ((blkOf x0 x1 x2 x3 x4 x5 x6 x7 x8 x9).own (cOf i) h) (cOf i) h d t + (blkOf x0 x1 x2 x3 x4 x5 x6 x7 x8 x9).dqSum h d t (i 1).val : EReal) := by
      intro h
      refine ((hL _ _ _).2.2 h d t).trans ?_
      rw [ht]
      refine congrArg (· + (blkOf x0 x1 x2 x3 x4 x5 x6 x7 x8 x9).dqSum h d t (i 1).val) ?_
      match h with
      | 0 => exact (row_miss_t _ _ _ _ _ _ _ (d, t) (by decide)).trans ((row_miss_t _ _ _ _ _ _ _ (d, t) (by decide)).trans ((row_miss_t _ _ _ _ _ _ _ (d, t) (by decide)).trans ((row_miss_t _ _ _ _ _ _ _ (d, t) (by decide)).trans (((row_hit_t _ _ _ _ _ _ 0 (d, t) rfl).trans (putRow_eq _ d t)).trans (dqV_eq (hH 0) hKo _ _ (hp 0 (hH 0)) d t)))))
      | 1 => exact (row_miss_t _ _ _ _ _ _ _ (d, t) (by decide)).trans ((row_miss_t _ _ _ _ _ _ _ (d, t) (by decide)).trans ((row_miss_t _ _ _ _ _ _ _ (d, t) (by decide)).trans (((row_hit_t _ _ _ _ _ _ 1 (d, t) rfl).trans (putRow_eq _ d t)).trans (dqV_eq (hH 1) hKo _ _ (hp 1 (hH 1)) d t))))
      | 2 => exact (row_miss_t _ _ _ _ _ _ _ (d, t) (by decide)).trans ((row_miss_t _ _ _ _ _ _ _ (d, t) (by decide)).trans (((row_hit_t _ _ _ _ _ _ 2 (d, t) rfl).trans (putRow_eq _ d t)).trans (dqV_eq (hH 2) hKo _ _ (hp 2 (hH 2)) d t)))
      | 3 => exact (row_miss_t _ _ _ _ _ _ _ (d, t) (by decide)).trans (((row_hit_t _ _ _ _ _ _ 3 (d, t) rfl).trans (putRow_eq _ d t)).trans (dqV_eq (hH 3) hKo _ _ (hp 3 (hH 3)) d t))
      | 4 => exact ((row_hit_t _ _ _ _ _ _ 4 (d, t) rfl).trans (putRow_eq _ d t)).trans (dqV_eq (hH 4) hKo _ _ (hp 4 (hH 4)) d t)
    match h with
    | 0 => exact (row_miss_n _ _ _ _ _ _ _ (t, d) (by decide)).trans ((row_miss_n _ _ _ _ _ _ _ (t, d) (by decide)).trans ((row_miss_n _ _ _ _ _ _ _ (t, d) (by decide)).trans ((row_miss_n _ _ _ _ _ _ _ (t, d) (by decide)).trans ((row_hit_n _ _ _ _ _ _ 0 (t, d) rfl).trans (hrow 0 0 _ rfl _ (hG 0))))))
    | 1 => exact (row_miss_n _ _ _ _ _ _ _ (t, d) (by decide)).trans ((row_miss_n _ _ _ _ _ _ _ (t, d) (by decide)).trans ((row_miss_n _ _ _ _ _ _ _ (t, d) (by decide)).trans ((row_hit_n _ _ _ _ _ _ 1 (t, d) rfl).trans (hrow 1 1 _ rfl _ (hG 1)))))
    | 2 => exact (row_miss_n _ _ _ _ _ _ _ (t, d) (by decide)).trans ((row_miss_n _ _ _ _ _ _ _ (t, d) (by decide)).trans ((row_hit_n _ _ _ _ _ _ 2 (t, d) rfl).trans (hrow 2 2 _ rfl _ (hG 2))))
    | 3 => exact (row_miss_n _ _ _ _ _ _ _ (t, d) (by decide)).trans ((row_hit_n _ _ _ _ _ _ 3 (t, d) rfl).trans (hrow 3 3 _ rfl _ (hG 3)))
    | 4 => exact (row_hit_n _ _ _ _ _ _ 4 (t, d) rfl).trans (hrow 4 4 _ rfl _ (hG 4))

end Cert.BwdIdeal.Hand
-- ==== Proof.Triple.lean ====
module

public import proofs.«01_k».proof.Proof.Gen.BwdIdeal.Frame
public import proofs.«01_k».proof.Proof.Gen.BwdIdeal.Loops
public import proofs.«01_k».proof.Proof.Post

@[expose] public section

set_option maxRecDepth 16384

noncomputable section

namespace Cert.BwdIdeal.Hand

open Cert.BwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Each window's current staging memref at point `t`, spelled as the pipeline passes it (`bodyAt0`), and its wholeness. -/
abbrev ms0_0 (t : Fin cfg0.N) : Memref sig .tc .vmem S5x256x128 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5x1x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x32x256x128 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x32x256x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x32x128x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x32x256x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x32x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S5x1x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S5x1x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S5x256x128 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S5x256x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x32x256x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x32x256x128 .f32 := win0_12.stage (cfg0.slots t 12)
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S5x256x128 .bf16 := Memref.whole cc0_scratch0
abbrev scM0_1 : Memref sig .tc .vmem S5x128x256 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

-- (the run's proof term is large: checking it walks past the default budget)
set_option maxHeartbeats 4000000 in
/-- The body's triple: the inputs as they were, the queries' derivative at the tile's values, the two slab memrefs at what
    they held with the tile's terms added. -/
theorem body_triple (c : Dev nD) (i : grid0.Coords) (arg2 : Memref sig .tc .vmem S5x256x128 .fp8e4m3) (harg2 : arg2.IsWhole) (arg3 : Memref sig .tc .vmem S5x1x256 .f32) (harg3 : arg3.IsWhole) (arg4 : Memref sig .tc .vmem S1x32x256x128 .fp8e4m3) (harg4 : arg4.IsWhole) (arg5 : Memref sig .tc .vmem S1x32x256x128 .f32) (harg5 : arg5.IsWhole) (arg6 : Memref sig .tc .vmem S1x32x128x256 .bf16) (harg6 : arg6.IsWhole) (arg7 : Memref sig .tc .vmem S1x32x256x128 .bf16) (harg7 : arg7.IsWhole) (arg8 : Memref sig .tc .vmem S1x32x256 .f32) (harg8 : arg8.IsWhole) (arg9 : Memref sig .tc .vmem S5x1x256 .f32) (harg9 : arg9.IsWhole) (arg10 : Memref sig .tc .vmem S5x1x256 .f32) (harg10 : arg10.IsWhole) (arg11 : Memref sig .tc .vmem S5x256x128 .bf16) (harg11 : arg11.IsWhole) (arg12 : Memref sig .tc .vmem S5x256x128 .f32) (harg12 : arg12.IsWhole) (arg13 : Memref sig .tc .vmem S1x32x256x128 .f32) (harg13 : arg13.IsWhole) (arg14 : Memref sig .tc .vmem S1x32x256x128 .f32) (harg14 : arg14.IsWhole) (arg15 : Memref sig .tc .vmem S5x256x128 .bf16) (harg15 : arg15.IsWhole) (arg16 : Memref sig .tc .vmem S5x128x256 .f32) (harg16 : arg16.IsWhole)  (x0 : Vec Ideal S5x256x128 .fp8e4m3) (x1 : Vec Ideal S5x1x256 .f32) (x2 : Vec Ideal S1x32x256x128 .fp8e4m3) (x3 : Vec Ideal S1x32x256x128 .f32) (x4 : Vec Ideal S1x32x128x256 .bf16) (x5 : Vec Ideal S1x32x256x128 .bf16) (x6 : Vec Ideal S1x32x256 .f32) (x7 : Vec Ideal S5x1x256 .f32) (x8 : Vec Ideal S5x1x256 .f32) (x9 : Vec Ideal S5x256x128 .bf16)
    (y11 y12 : Vec Ideal S1x32x256x128 .f32) (E : Set ℕ) (K : PUnit → sProp (MT nD τ sig Unit (Elt Ideal) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare y11 ∗ owns (c : Thread nD τ) arg14 fullShare y12 ∗ (∃ d, owns (c : Thread nD τ) arg15 fullShare d) ∗ (∃ d, owns (c : Thread nD τ) arg16 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, ⌜∀ (h : Fin 5) (t : Fin 256) (e : Fin 128), d (ix3 h t e) = (blkOf x0 x1 x2 x3 x4 x5 x6 x7 x8 x9).dqTile (cOf i) h t e⌝ ∗ owns (c : Thread nD τ) arg12 fullShare d) ∗ (∃ d, ⌜SlabPost (cOf i) (blkOf x0 x1 x2 x3 x4 x5 x6 x7 x8 x9).dkPast (blkOf x0 x1 x2 x3 x4 x5 x6 x7 x8 x9).dkOwn y11 d⌝ ∗ owns (c : Thread nD τ) arg13 fullShare d) ∗ (∃ d, ⌜SlabPost (cOf i) (blkOf x0 x1 x2 x3 x4 x5 x6 x7 x8 x9).dvPast (blkOf x0 x1 x2 x3 x4 x5 x6 x7 x8 x9).dvOwn y12 d⌝ ∗ owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := Ideal)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_attn_bwd_eq_skeleton]; unfold cc0_attn_bwd_skel
  simp only [k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
  subst hf11; subst hf12
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; swap
    · iexists _; isplitr; swap; · iexact H10
      ipureintro; rfl
    ipureintro
    refine (body_post c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 f10 f11 f12 _ _ [] [] _ rfl rfl ?_).2.2
    rw [show Scf.trips (k0_t2_loop i).lb (k0_t2_loop i).ub (k0_t2_loop i).st = 0 from trips2 i]; rfl
  isplitl [H11]
  · iexists _; isplitr; swap
    · iexists _; isplitr; swap; · iexact H11
      ipureintro; rfl
    ipureintro
    refine (body_post c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 f10 f11 f12 _ _ _ [] [] ?_ rfl rfl).1
    rw [show Scf.trips (k0_t2_loop i).lb (k0_t2_loop i).ub (k0_t2_loop i).st = 0 from trips2 i]; rfl
  isplitl [H12]
  · iexists _; isplitr; swap
    · iexists _; isplitr; swap; · iexact H12
      ipureintro; rfl
    ipureintro
    refine (body_post c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 f10 f11 f12 _ _ [] _ [] rfl ?_ rfl).2.1
    rw [show Scf.trips (k0_t2_loop i).lb (k0_t2_loop i).ub (k0_t2_loop i).st = 0 from trips2 i]; rfl
  isplitl [HS0]
  · iexists _, _; isplitr; swap; · iexact HS0
    ipureintro; rfl
  iexists _, _; isplitr; swap; · iexact HS1
  ipureintro; rfl

end Cert.BwdIdeal.Hand
-- ==== Proof.Run.lean ====
module

public import proofs.«01_k».proof.Proof.Gen.BwdIdeal.Frame
public import proofs.«01_k».proof.Proof.Gen.BwdIdeal.Loops
public import proofs.«01_k».proof.Proof.Triple
public import Idealize.ShloMosaic.Lib.Pipeline.DatRel
public import Idealize.ShloMosaic.Lib.Pipeline.ArrRel
public import Idealize.ShloMosaic.Lib.Pipeline.FrameBody
public import Idealize.ShloMosaic.Lib.Pipeline.ValueKit

@[expose] public section

set_option maxRecDepth 16384

noncomputable section

namespace Cert.BwdIdeal.Hand

open Cert.BwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

theorem N128 : cfg0.N = 128 := (by decide +kernel : grid0.N = 128)

/-- What the body reads at point `t`. -/
def blkAt (c : Dev nD) (t : Fin cfg0.N) : Blk :=
  blkOf (iblk m c 0 t) (iblk m c 1 t) (iblk m c 2 t) (iblk m c 3 t) (iblk m c 4 t) (iblk m c 5 t) (iblk m c 6 t) (iblk m c 7 t) (iblk m c 8 t) (iblk m c 9 t)

/-- Point `t`'s term in slab `j`: the tile's own slab, an earlier slab, or a later one. -/
def slabTerm (past own : Fin 32 → Fin 256 → Fin 128 → EReal) (c : ℕ) (j : Fin 32) (s : Fin 256) (d : Fin 128) : EReal :=
  if j.val < c then past j s d else if j.val = c then own j s d else 0

/-- The point of head `kv` and tile `n`. -/
def ptOf (kv n : ℕ) (h : kv < 4) (hn : n < 32) : Fin cfg0.N := ⟨32 * kv + n, by rw [show cfg0.N = 128 from N128]; omega⟩

/-- The keys' derivative's and the values' derivative's slab `j` after the first `n` tiles of head `kv`. -/
def dkAcc (c : Dev nD) (kv : Fin 4) (n : ℕ) (j : Fin 32) (s : Fin 256) (d : Fin 128) : EReal :=
  ∑ n' ∈ Finset.range n, if h : n' < 32 then slabTerm (blkAt m c (ptOf kv.val n' kv.isLt h)).dkPast (blkAt m c (ptOf kv.val n' kv.isLt h)).dkOwn n' j s d else 0
def dvAcc (c : Dev nD) (kv : Fin 4) (n : ℕ) (j : Fin 32) (s : Fin 256) (d : Fin 128) : EReal :=
  ∑ n' ∈ Finset.range n, if h : n' < 32 then slabTerm (blkAt m c (ptOf kv.val n' kv.isLt h)).dvPast (blkAt m c (ptOf kv.val n' kv.isLt h)).dvOwn n' j s d else 0

/-- The head and the tile of a point. -/
def kvOf (t : Fin cfg0.N) : Fin 4 := ⟨t.val / 32, by have := lt_of_lt_of_eq t.isLt N128; omega⟩

/-- What the body leaves in the three outputs at point `t`. -/
def Out10 (c : Dev nD) (t : Fin cfg0.N) (X : Vec Ideal S5x256x128 .f32) : Prop :=
  ∀ (h : Fin 5) (r : Fin 256) (e : Fin 128), X (ix3 h r e) = ((blkAt m c t).dqTile (cOf (grid0.coords t)) h r e : EReal)
def Out11 (c : Dev nD) (t : Fin cfg0.N) (X : Vec Ideal S1x32x256x128 .f32) : Prop :=
  ∀ (j : Fin 32) (s : Fin 256) (d : Fin 128), j.val ≤ t.val % 32 → X (ix4 0 j s d) = (dkAcc m c (kvOf t) (t.val % 32 + 1) j s d : EReal)
def Out12 (c : Dev nD) (t : Fin cfg0.N) (X : Vec Ideal S1x32x256x128 .f32) : Prop :=
  ∀ (j : Fin 32) (s : Fin 256) (d : Fin 128), j.val ≤ t.val % 32 → X (ix4 0 j s d) = (dvAcc m c (kvOf t) (t.val % 32 + 1) j s d : EReal)

/-- The windows held to a relation, and the relation. -/
def marked : Fin 13 → Bool := fun w => w.val == 10 || w.val == 11 || w.val == 12
def rel (c : Dev nD) : (w : Fin cfg0.W) → Fin cfg0.N → ((cfg0.win w).block.Idx → Elt Ideal (cfg0.win w).elt) → Prop
  | ⟨10, _⟩ => Out10 m c
  | ⟨11, _⟩ => Out11 m c
  | ⟨12, _⟩ => Out12 m c
  | _ => fun _ _ => True

/-- The proof data: each input's buffer at its block, the outputs held to the relation. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-- The relational proof data. -/
abbrev rdat (c : Dev nD) : Pipeline.RDat τ (Elt Ideal) Unit ℕ (UR sig nD τ) ℕ cfg0 c := (dats m 0 c).toRRel marked (rel m c)

/-- The tile of a point, by its number. -/
theorem cOf_val : ∀ t : Fin cfg0.N, (cOf (grid0.coords t)).val = t.val % 32 := (by decide +kernel : ∀ t : Fin grid0.N, (cOf (grid0.coords t)).val = t.val % 32)

theorem ptOf_kvOf (t : Fin cfg0.N) (h : t.val % 32 < 32) : ptOf (kvOf t).val (t.val % 32) (kvOf t).isLt h = t :=
  Fin.ext (by show 32 * (t.val / 32) + t.val % 32 = t.val; omega)

/-- One more tile. -/
theorem dkAcc_succ (c : Dev nD) (t : Fin cfg0.N) (j : Fin 32) (s : Fin 256) (d : Fin 128) :
    dkAcc m c (kvOf t) (t.val % 32 + 1) j s d = dkAcc m c (kvOf t) (t.val % 32) j s d + slabTerm (blkAt m c t).dkPast (blkAt m c t).dkOwn (t.val % 32) j s d := by
  have h : t.val % 32 < 32 := Nat.mod_lt _ (by norm_num)
  unfold dkAcc
  rw [Finset.sum_range_succ, dif_pos h, ptOf_kvOf]

/-- A slab gets nothing before its own tile. -/
theorem dkAcc_zero (c : Dev nD) (kv : Fin 4) (n : ℕ) (j : Fin 32) (hj : n ≤ j.val) (s : Fin 256) (d : Fin 128) : dkAcc m c kv n j s d = 0 := by
  unfold dkAcc
  refine Finset.sum_eq_zero fun n' hn' => ?_
  have hlt := Finset.mem_range.mp hn'
  split
  · unfold slabTerm; rw [if_neg (by omega), if_neg (by omega)]
  · rfl

/-- What was found in the window, with the tile's terms added, is what the relation says. -/
theorem step11 (c : Dev nD) (t : Fin cfg0.N) (Y X : Vec Ideal S1x32x256x128 .f32)
    (hF : (rdat m c).Finds 11 t Y) (hX : SlabPost (cOf (grid0.coords t)) (blkAt m c t).dkPast (blkAt m c t).dkOwn Y X) : Out11 m c t X := by
  intro j s d hj
  have hc := cOf_val t
  refine (hX j s d).trans ?_
  rw [dkAcc_succ]
  by_cases hlt : j.val < t.val % 32
  · rw [if_pos (by rw [hc]; exact hlt)]
    have ht : t.val ≠ 0 := by rintro h; rw [h] at hlt; simp at hlt
    have hp := (Pipeline.RDat.finds_of_pos (rdat m c) (w := 11) (t := t) rfl ht Y).mp hF
    have hN := t.isLt
    have hl : (rdat m c).Leaves 11 ⟨t.val - 1, Nat.lt_of_le_of_lt (Nat.sub_le _ _) t.isLt⟩ Y := by
      rcases hp with hp | hp
      · exfalso; have h1 := (flush0_11 _).mp hp; dsimp only at h1; omega
      · exact hp
    have hr : Out11 m c ⟨t.val - 1, Nat.lt_of_le_of_lt (Nat.sub_le _ _) t.isLt⟩ Y := (dats m 0 c).toRRel_leaves (Rl := rel m c) (fgt := marked) (w := 11) rfl hl
    have e := hr j s d (by dsimp only; omega)
    rw [show kvOf ⟨t.val - 1, Nat.lt_of_le_of_lt (Nat.sub_le _ _) t.isLt⟩ = kvOf t from Fin.ext (by show (t.val - 1) / 32 = t.val / 32; omega),
      show (t.val - 1) % 32 + 1 = t.val % 32 by omega] at e
    rw [e]; unfold slabTerm; rw [if_pos hlt]
  · have he : j.val = t.val % 32 := by omega
    rw [if_neg (by rw [hc]; exact hlt), if_pos (Fin.ext (by rw [hc]; exact he)), dkAcc_zero m c _ _ j (by omega), zero_add]
    unfold slabTerm; rw [if_neg hlt, if_pos he]

/-- One more tile. -/
theorem dvAcc_succ (c : Dev nD) (t : Fin cfg0.N) (j : Fin 32) (s : Fin 256) (d : Fin 128) :
    dvAcc m c (kvOf t) (t.val % 32 + 1) j s d = dvAcc m c (kvOf t) (t.val % 32) j s d + slabTerm (blkAt m c t).dvPast (blkAt m c t).dvOwn (t.val % 32) j s d := by
  have h : t.val % 32 < 32 := Nat.mod_lt _ (by norm_num)
  unfold dvAcc
  rw [Finset.sum_range_succ, dif_pos h, ptOf_kvOf]

/-- A slab gets nothing before its own tile. -/
theorem dvAcc_zero (c : Dev nD) (kv : Fin 4) (n : ℕ) (j : Fin 32) (hj : n ≤ j.val) (s : Fin 256) (d : Fin 128) : dvAcc m c kv n j s d = 0 := by
  unfold dvAcc
  refine Finset.sum_eq_zero fun n' hn' => ?_
  have hlt := Finset.mem_range.mp hn'
  split
  · unfold slabTerm; rw [if_neg (by omega), if_neg (by omega)]
  · rfl

/-- What was found in the window, with the tile's terms added, is what the relation says. -/
theorem step12 (c : Dev nD) (t : Fin cfg0.N) (Y X : Vec Ideal S1x32x256x128 .f32)
    (hF : (rdat m c).Finds 12 t Y) (hX : SlabPost (cOf (grid0.coords t)) (blkAt m c t).dvPast (blkAt m c t).dvOwn Y X) : Out12 m c t X := by
  intro j s d hj
  have hc := cOf_val t
  refine (hX j s d).trans ?_
  rw [dvAcc_succ]
  by_cases hlt : j.val < t.val % 32
  · rw [if_pos (by rw [hc]; exact hlt)]
    have ht : t.val ≠ 0 := by rintro h; rw [h] at hlt; simp at hlt
    have hp := (Pipeline.RDat.finds_of_pos (rdat m c) (w := 12) (t := t) rfl ht Y).mp hF
    have hN := t.isLt
    have hl : (rdat m c).Leaves 12 ⟨t.val - 1, Nat.lt_of_le_of_lt (Nat.sub_le _ _) t.isLt⟩ Y := by
      rcases hp with hp | hp
      · exfalso; have h1 := (flush0_12 _).mp hp; dsimp only at h1; omega
      · exact hp
    have hr : Out12 m c ⟨t.val - 1, Nat.lt_of_le_of_lt (Nat.sub_le _ _) t.isLt⟩ Y := (dats m 0 c).toRRel_leaves (Rl := rel m c) (fgt := marked) (w := 12) rfl hl
    have e := hr j s d (by dsimp only; omega)
    rw [show kvOf ⟨t.val - 1, Nat.lt_of_le_of_lt (Nat.sub_le _ _) t.isLt⟩ = kvOf t from Fin.ext (by show (t.val - 1) / 32 = t.val / 32; omega),
      show (t.val - 1) % 32 + 1 = t.val % 32 by omega] at e
    rw [e]; unfold slabTerm; rw [if_pos hlt]
  · have he : j.val = t.val % 32 := by omega
    rw [if_neg (by rw [hc]; exact hlt), if_pos (Fin.ext (by rw [hc]; exact he)), dvAcc_zero m c _ _ j (by omega), zero_add]
    unfold slabTerm; rw [if_neg hlt, if_pos he]

/-- What the body is called with at point `t`, and what it returns. -/
def bodyPre (c : Dev nD) (t : Fin cfg0.N) : sProp 𝕄 :=
  iprop((dats m 0 c).Φ t.castSucc ∗ (dats m 0 c).owesAt () t.castSucc ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)) ∗ (∃ d, owns (c : Thread nD τ) (ms0_9 t) fullShare ((dats m 0 c).before 9 t d)) ∗ (∃ Y, ⌜(rdat m c).Finds 10 t Y⌝ ∗ owns (c : Thread nD τ) (ms0_10 t) fullShare Y) ∗ (∃ Y, ⌜(rdat m c).Finds 11 t Y⌝ ∗ owns (c : Thread nD τ) (ms0_11 t) fullShare Y) ∗ (∃ Y, ⌜(rdat m c).Finds 12 t Y⌝ ∗ owns (c : Thread nD τ) (ms0_12 t) fullShare Y))
def bodyPost (c : Dev nD) (t : Fin cfg0.N) : sProp 𝕄 :=
  iprop((dats m 0 c).Φ t.succ ∗ (dats m 0 c).owesAt () t.succ ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t) ∗ owns (c : Thread nD τ) (ms0_6 t) fullShare ((dats m 0 c).after 6 t) ∗ owns (c : Thread nD τ) (ms0_7 t) fullShare ((dats m 0 c).after 7 t) ∗ owns (c : Thread nD τ) (ms0_8 t) fullShare ((dats m 0 c).after 8 t) ∗ owns (c : Thread nD τ) (ms0_9 t) fullShare ((dats m 0 c).after 9 t) ∗ (∃ X, ⌜Out10 m c t X⌝ ∗ owns (c : Thread nD τ) (ms0_10 t) fullShare X) ∗ (∃ X, ⌜Out11 m c t X⌝ ∗ owns (c : Thread nD τ) (ms0_11 t) fullShare X) ∗ (∃ X, ⌜Out12 m c t X⌝ ∗ owns (c : Thread nD τ) (ms0_12 t) fullShare X))

set_option maxHeartbeats 2000000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, -, H10⟩, ⟨%d11, %hF11, H11⟩, ⟨%d12, %hF12, H12⟩⟩
  iapply (body_triple c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) d11 d12 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexact H11
  isplitl [H12]; · iexact H12
  isplitl [HS0]; · iexact HS0
  isplitl [HS1]; · iexact HS1
  iintro ⟨H0, H1, H2, H3, H4, H5, H6, H7, H8, H9, ⟨%e10, %hX10, H10⟩, ⟨%e11, %hX11, H11⟩, ⟨%e12, %hX12, H12⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · iexists e10; isplitr; · ipureintro; exact hX10
    iexact H10
  isplitl [H11]
  · iexists e11; isplitr; · ipureintro; exact step11 m c t d11 e11 hF11 hX11
    iexact H11
  iexists e12; isplitr; · ipureintro; exact step12 m c t d12 e12 hF12 hX12
  iexact H12

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The body obligation, the outputs held to the relation. -/
theorem body_obligation (c : Dev nD) : Pipeline.BodyObligationRel (dats m 0 c) (defs₀ (F := Ideal)) Variants.none () Set.univ marked (rel m c) := fun t => by
  rw [bigSep_W0, bigSep_W0, defs₀_row]
  exact triple_restated (sound_body m c t) rfl .rfl fun _ => .rfl

set_option backward.isDefEq.respectTransparency.types false in
/-- The run: every weakly fair execution terminates, each array in the relation to its entry contents, every counter at zero. -/
theorem run_main_quiescent : θ_run defs (onTc (τ := τ) (main (F := Ideal))) (s₀ m ρ) (fun r => (Pipeline.RDat.FramePost (cfgs 0) (rdat m) (V m)) r ∧ r.2.sem = fun _ => 0) :=
  Pipeline.RDat.θ_run_frame (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

/-- The argument arrays end as launched. -/
theorem args_of (r : PUnit × MemSt nD τ sig (Elt Ideal)) (h : Pipeline.RDat.FramePost (cfgs 0) (rdat m) (V m) r) (c : Dev nD) :
    r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) :=
  ⟨(Pipeline.RDat.FramePost.arr_in h c 0 rfl).trans ((A_eq m c 0).trans (V_main_arg0 m c)),
    (Pipeline.RDat.FramePost.arr_in h c 1 rfl).trans ((A_eq m c 1).trans (V_main_arg1 m c)),
    (Pipeline.RDat.FramePost.arr_in h c 2 rfl).trans ((A_eq m c 2).trans (V_main_arg2 m c)),
    ((h c).2 main_arg3 (Pipeline.mem_restRefs_of main_arg3 (by decide) (by decide))).trans (V_main_arg3 m c),
    (Pipeline.RDat.FramePost.arr_in h c 4 rfl).trans ((A_eq m c 4).trans (V_main_arg4 m c)),
    (Pipeline.RDat.FramePost.arr_in h c 5 rfl).trans ((A_eq m c 5).trans (V_main_arg5 m c)),
    ((h c).2 main_arg6 (Pipeline.mem_restRefs_of main_arg6 (by decide) (by decide))).trans (V_main_arg6 m c),
    (Pipeline.RDat.FramePost.arr_in h c 7 rfl).trans ((A_eq m c 7).trans (V_main_arg7 m c)),
    (Pipeline.RDat.FramePost.arr_in h c 8 rfl).trans ((A_eq m c 8).trans (V_main_arg8 m c)),
    (Pipeline.RDat.FramePost.arr_in h c 9 rfl).trans ((A_eq m c 9).trans (V_main_arg9 m c))⟩

/-- The frame, with every counter at zero. -/
theorem frame : θ_run defs (onTc (τ := τ) (main (F := Ideal))) ⟨m, fun _ => 0, ρ⟩ (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9)) ∧ r.2.sem = fun _ => 0) :=
  (θ_run defs _ _).mono (fun r h => ⟨fun c => args_of m r h.1 c, h.2⟩) (run_main_quiescent m ρ)

end Cert.BwdIdeal.Hand
-- ==== Proof.Arr.lean ====
module

public import proofs.«01_k».proof.Proof.Gen.BwdIdeal.Frame
public import proofs.«01_k».proof.Proof.Gen.BwdIdeal.Loops
public import proofs.«01_k».proof.Proof.Run
public import Idealize.ShloMosaic.Lib.Pipeline.ValueKit
public import Idealize.ShloMosaic.Lib.Pointwise

@[expose] public section

set_option maxRecDepth 16384

noncomputable section

namespace Cert.BwdIdeal.Hand

open Cert.BwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- A query head from its key head and its place in the group; a position from its tile and its place in the tile. -/
def hdOf (kv : Fin 4) (h : Fin 5) : Fin 20 := ⟨5 * kv.val + h.val, by omega⟩
def rowOf (n : Fin 32) (t : Fin 256) : Fin 8192 := ⟨256 * n.val + t.val, by omega⟩

/-- What the body reads at head `kv` and tile `n`, of the ten arguments. -/
def gBlk (a0 : (⟨S20x8192x128, .fp8e4m3⟩ : BufTy).Contents (Elt Ideal)) (a1 : (⟨S20x1x8192, .f32⟩ : BufTy).Contents (Elt Ideal)) (a2 : (⟨S4x32x256x128, .fp8e4m3⟩ : BufTy).Contents (Elt Ideal)) (a3 : (⟨S4x32x256, .f32⟩ : BufTy).Contents (Elt Ideal)) (a4 : (⟨S4x32x128x256, .bf16⟩ : BufTy).Contents (Elt Ideal)) (a5 : (⟨S4x32x256x128, .bf16⟩ : BufTy).Contents (Elt Ideal)) (a6 : (⟨S4x8192x32, .i1⟩ : BufTy).Contents (Elt Ideal)) (a7 : (⟨S20x1x8192, .f32⟩ : BufTy).Contents (Elt Ideal)) (a8 : (⟨S20x1x8192, .f32⟩ : BufTy).Contents (Elt Ideal)) (a9 : (⟨S20x8192x128, .bf16⟩ : BufTy).Contents (Elt Ideal)) (kv : Fin 4) (n : Fin 32) : Blk where
  q h t d := a0 (ix3 (hdOf kv h) (rowOf n t) d)
  qs h t := a1 (ix3 (hdOf kv h) 0 (rowOf n t))
  k j s d := a2 (ix4 kv j s d)
  ks j s _ := a3 (ix3 kv j s)
  kt j d s := a4 (ix4 kv j d s)
  vd j s d := a5 (ix4 kv j s d)
  g j t := (FloatOps.uitofp (F := Ideal) .f32 (a6 (ix3 kv (rowOf n t) j)) : Elt Ideal .f32)
  lse h t := a7 (ix3 (hdOf kv h) 0 (rowOf n t))
  dvec h t := a8 (ix3 (hdOf kv h) 0 (rowOf n t))
  dO h t d := a9 (ix3 (hdOf kv h) (rowOf n t) d)

/-- The windows' block indices. -/
theorem idx_0 : ∀ t : Fin cfg0.N, win0_0.index t = ![(kvOf t).val, (cOf (grid0.coords t)).val, 0] := (by decide +kernel : ∀ t : Fin grid0.N, win0_0.index t = ![(kvOf t).val, (cOf (grid0.coords t)).val, 0])
theorem idx_1 : ∀ t : Fin cfg0.N, win0_1.index t = ![(kvOf t).val, 0, (cOf (grid0.coords t)).val] := (by decide +kernel : ∀ t : Fin grid0.N, win0_1.index t = ![(kvOf t).val, 0, (cOf (grid0.coords t)).val])
theorem idx_2 : ∀ t : Fin cfg0.N, win0_2.index t = ![(kvOf t).val, 0, 0, 0] := (by decide +kernel : ∀ t : Fin grid0.N, win0_2.index t = ![(kvOf t).val, 0, 0, 0])
theorem idx_3 : ∀ t : Fin cfg0.N, win0_3.index t = ![(kvOf t).val, 0, 0, 0] := (by decide +kernel : ∀ t : Fin grid0.N, win0_3.index t = ![(kvOf t).val, 0, 0, 0])
theorem idx_4 : ∀ t : Fin cfg0.N, win0_4.index t = ![(kvOf t).val, 0, 0, 0] := (by decide +kernel : ∀ t : Fin grid0.N, win0_4.index t = ![(kvOf t).val, 0, 0, 0])
theorem idx_5 : ∀ t : Fin cfg0.N, win0_5.index t = ![(kvOf t).val, 0, 0, 0] := (by decide +kernel : ∀ t : Fin grid0.N, win0_5.index t = ![(kvOf t).val, 0, 0, 0])
theorem idx_6 : ∀ t : Fin cfg0.N, win0_6.index t = ![(kvOf t).val, 0, (cOf (grid0.coords t)).val] := (by decide +kernel : ∀ t : Fin grid0.N, win0_6.index t = ![(kvOf t).val, 0, (cOf (grid0.coords t)).val])
theorem idx_7 : ∀ t : Fin cfg0.N, win0_7.index t = ![(kvOf t).val, 0, (cOf (grid0.coords t)).val] := (by decide +kernel : ∀ t : Fin grid0.N, win0_7.index t = ![(kvOf t).val, 0, (cOf (grid0.coords t)).val])
theorem idx_8 : ∀ t : Fin cfg0.N, win0_8.index t = ![(kvOf t).val, 0, (cOf (grid0.coords t)).val] := (by decide +kernel : ∀ t : Fin grid0.N, win0_8.index t = ![(kvOf t).val, 0, (cOf (grid0.coords t)).val])
theorem idx_9 : ∀ t : Fin cfg0.N, win0_9.index t = ![(kvOf t).val, (cOf (grid0.coords t)).val, 0] := (by decide +kernel : ∀ t : Fin grid0.N, win0_9.index t = ![(kvOf t).val, (cOf (grid0.coords t)).val, 0])
theorem idx_10 : ∀ t : Fin cfg0.N, win0_10.index t = ![(kvOf t).val, (cOf (grid0.coords t)).val, 0] := (by decide +kernel : ∀ t : Fin grid0.N, win0_10.index t = ![(kvOf t).val, (cOf (grid0.coords t)).val, 0])
theorem idx_11 : ∀ t : Fin cfg0.N, win0_11.index t = ![(kvOf t).val, 0, 0, 0] := (by decide +kernel : ∀ t : Fin grid0.N, win0_11.index t = ![(kvOf t).val, 0, 0, 0])
theorem idx_12 : ∀ t : Fin cfg0.N, win0_12.index t = ![(kvOf t).val, 0, 0, 0] := (by decide +kernel : ∀ t : Fin grid0.N, win0_12.index t = ![(kvOf t).val, 0, 0, 0])

theorem V_main_v1 (c : Dev nD) (kv : Fin 4) (j : Fin 32) (s : Fin 256) (d : Fin 128) :
    V m c main_v1 (ix4 kv j s d) = m ((c.tc : Thread nD τ).loc main_arg3) (ix3 kv j s) := by
  have e : (V m c main_v1 : (⟨S4x32x256x128, .f32⟩ : BufTy).Contents (Elt Ideal))
      = broadcastInDim S4x32x256x128 ![0, 1, 2, 3] bcast_S4x32x256x1_S4x32x256x128_0_1_2_3 (broadcastInDim S4x32x256x1 ![0, 1, 2] bcast_S4x32x256_S4x32x256x1_0_1_2 (m ((c.tc : Thread nD τ).loc main_arg3) : (⟨S4x32x256, .f32⟩ : BufTy).Contents (Elt Ideal))) := rfl
  rw [e]
  pointwise []

theorem V_main_v3 (c : Dev nD) (kv : Fin 4) (j : Fin 32) (p : Fin 8192) :
    V m c main_v3 (ix3 kv j p) = FloatOps.uitofp (F := Ideal) .f32 (m ((c.tc : Thread nD τ).loc main_arg6) (ix3 kv p j)) := by
  have e : (V m c main_v3 : (⟨S4x32x8192, .f32⟩ : BufTy).Contents (Elt Ideal))
      = (uitofp (F := Ideal) .f32 (transpose S4x32x8192 [0, 2, 1] (m ((c.tc : Thread nD τ).loc main_arg6) : (⟨S4x8192x32, .i1⟩ : BufTy).Contents (Elt Ideal)) transposes_S4x8192x32_S4x32x8192_0_2_1 : (⟨S4x32x8192, .i1⟩ : BufTy).Contents (Elt Ideal)) : (⟨S4x32x8192, .f32⟩ : BufTy).Contents (Elt Ideal)) := rfl
  rw [e]
  pointwise []

theorem rd_0 (c : Dev nD) (t : Fin cfg0.N) (h : Fin 5) (r : Fin 256) (d : Fin 128) :
    iblk m c 0 t (ix3 h r d) = V m c main_arg0 (ix3 (hdOf (kvOf t) h) (rowOf (cOf (grid0.coords t)) r) d) := by
  blk_simp [iblk]
  refine congrArg (V m c main_arg0) ?_
  blk_ext [idx_0, hdOf, rowOf]

theorem rd_1 (c : Dev nD) (t : Fin cfg0.N) (h : Fin 5) (r : Fin 256) :
    iblk m c 1 t (ix3 h 0 r) = V m c main_arg1 (ix3 (hdOf (kvOf t) h) 0 (rowOf (cOf (grid0.coords t)) r)) := by
  blk_simp [iblk]
  refine congrArg (V m c main_arg1) ?_
  blk_ext [idx_1, hdOf, rowOf]

theorem rd_2 (c : Dev nD) (t : Fin cfg0.N) (j : Fin 32) (s : Fin 256) (d : Fin 128) :
    iblk m c 2 t (ix4 0 j s d) = V m c main_arg2 (ix4 (kvOf t) j s d) := by
  blk_simp [iblk]
  refine congrArg (V m c main_arg2) ?_
  blk_ext [idx_2, hdOf, rowOf]

theorem rd_3 (c : Dev nD) (t : Fin cfg0.N) (j : Fin 32) (s : Fin 256) (d : Fin 128) :
    iblk m c 3 t (ix4 0 j s d) = V m c main_v1 (ix4 (kvOf t) j s d) := by
  blk_simp [iblk]
  refine congrArg (V m c main_v1) ?_
  blk_ext [idx_3, hdOf, rowOf]

theorem rd_5 (c : Dev nD) (t : Fin cfg0.N) (j : Fin 32) (s : Fin 256) (d : Fin 128) :
    iblk m c 5 t (ix4 0 j s d) = V m c main_arg5 (ix4 (kvOf t) j s d) := by
  blk_simp [iblk]
  refine congrArg (V m c main_arg5) ?_
  blk_ext [idx_5, hdOf, rowOf]

theorem rd_4 (c : Dev nD) (t : Fin cfg0.N) (j : Fin 32) (d : Fin 128) (s : Fin 256) :
    iblk m c 4 t (ix4 0 j d s) = V m c main_arg4 (ix4 (kvOf t) j d s) := by
  blk_simp [iblk]
  refine congrArg (V m c main_arg4) ?_
  blk_ext [idx_4, hdOf, rowOf]

theorem rd_6 (c : Dev nD) (t : Fin cfg0.N) (j : Fin 32) (r : Fin 256) :
    iblk m c 6 t (ix3 0 j r) = V m c main_v3 (ix3 (kvOf t) j (rowOf (cOf (grid0.coords t)) r)) := by
  blk_simp [iblk]
  refine congrArg (V m c main_v3) ?_
  blk_ext [idx_6, hdOf, rowOf]

theorem rd_7 (c : Dev nD) (t : Fin cfg0.N) (h : Fin 5) (r : Fin 256) :
    iblk m c 7 t (ix3 h 0 r) = V m c main_arg7 (ix3 (hdOf (kvOf t) h) 0 (rowOf (cOf (grid0.coords t)) r)) := by
  blk_simp [iblk]
  refine congrArg (V m c main_arg7) ?_
  blk_ext [idx_7, hdOf, rowOf]

theorem rd_8 (c : Dev nD) (t : Fin cfg0.N) (h : Fin 5) (r : Fin 256) :
    iblk m c 8 t (ix3 h 0 r) = V m c main_arg8 (ix3 (hdOf (kvOf t) h) 0 (rowOf (cOf (grid0.coords t)) r)) := by
  blk_simp [iblk]
  refine congrArg (V m c main_arg8) ?_
  blk_ext [idx_8, hdOf, rowOf]

theorem rd_9 (c : Dev nD) (t : Fin cfg0.N) (h : Fin 5) (r : Fin 256) (d : Fin 128) :
    iblk m c 9 t (ix3 h r d) = V m c main_arg9 (ix3 (hdOf (kvOf t) h) (rowOf (cOf (grid0.coords t)) r) d) := by
  blk_simp [iblk]
  refine congrArg (V m c main_arg9) ?_
  blk_ext [idx_9, hdOf, rowOf]

/-- The arguments, as the program is launched. -/
abbrev gAt (c : Dev nD) (kv : Fin 4) (n : Fin 32) : Blk := gBlk (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) kv n

theorem blkAt_eq (c : Dev nD) (t : Fin cfg0.N) : blkAt m c t = gAt m c (kvOf t) (cOf (grid0.coords t)) := by
  unfold blkAt blkOf gAt gBlk
  congr 1
  · funext h r d; rw [rd_0, V_main_arg0]
  · funext h r; rw [rd_1, V_main_arg1]
  · funext j s d; rw [rd_2, V_main_arg2]
  · funext j s d; rw [rd_3, V_main_v1]
  · funext j d s; rw [rd_4, V_main_arg4]
  · funext j s d; rw [rd_5, V_main_arg5]
  · funext j r; rw [rd_6, V_main_v3]
  · funext h r; rw [rd_7, V_main_arg7]
  · funext h r; rw [rd_8, V_main_arg8]
  · funext h r d; rw [rd_9, V_main_arg9]

/-- The three results, of any family of bodies' readings. -/
def dqOut (B : Fin 4 → Fin 32 → Blk) : (⟨S20x8192x128, .f32⟩ : BufTy).Contents (Elt Ideal) := fun i =>
  (B ⟨(i 0).val / 5, by have : (i 0).val < 20 := (i 0).isLt; omega⟩ ⟨(i 1).val / 256, by have : (i 1).val < 8192 := (i 1).isLt; omega⟩).dqTile
    ⟨(i 1).val / 256, by have : (i 1).val < 8192 := (i 1).isLt; omega⟩ ⟨(i 0).val % 5, Nat.mod_lt _ (by norm_num)⟩ ⟨(i 1).val % 256, Nat.mod_lt _ (by norm_num)⟩ ⟨(i 2).val, (i 2).isLt⟩
def dkOut (B : Fin 4 → Fin 32 → Blk) : (⟨S4x32x256x128, .f32⟩ : BufTy).Contents (Elt Ideal) := fun i =>
  ∑ n : Fin 32, slabTerm (B ⟨(i 0).val, (i 0).isLt⟩ n).dkPast (B ⟨(i 0).val, (i 0).isLt⟩ n).dkOwn n.val ⟨(i 1).val, (i 1).isLt⟩ ⟨(i 2).val, (i 2).isLt⟩ ⟨(i 3).val, (i 3).isLt⟩
def dvOut (B : Fin 4 → Fin 32 → Blk) : (⟨S4x32x256x128, .f32⟩ : BufTy).Contents (Elt Ideal) := fun i =>
  ∑ n : Fin 32, slabTerm (B ⟨(i 0).val, (i 0).isLt⟩ n).dvPast (B ⟨(i 0).val, (i 0).isLt⟩ n).dvOwn n.val ⟨(i 1).val, (i 1).isLt⟩ ⟨(i 2).val, (i 2).isLt⟩ ⟨(i 3).val, (i 3).isLt⟩

theorem dqOut_ix (B : Fin 4 → Fin 32 → Blk) (kv : Fin 4) (n : Fin 32) (h : Fin 5) (t : Fin 256) (d : Fin 128) :
    dqOut B (ix3 (hdOf kv h) (rowOf n t) d) = ((B kv n).dqTile n h t d : EReal) := by
  have e1 : (⟨(5 * kv.val + h.val) / 5, by omega⟩ : Fin 4) = kv := Fin.ext (by show (5 * kv.val + h.val) / 5 = kv.val; omega)
  have e2 : (⟨(256 * n.val + t.val) / 256, by omega⟩ : Fin 32) = n := Fin.ext (by show (256 * n.val + t.val) / 256 = n.val; omega)
  have e3 : (⟨(5 * kv.val + h.val) % 5, Nat.mod_lt _ (by norm_num)⟩ : Fin 5) = h := Fin.ext (by show (5 * kv.val + h.val) % 5 = h.val; omega)
  have e4 : (⟨(256 * n.val + t.val) % 256, Nat.mod_lt _ (by norm_num)⟩ : Fin 256) = t := Fin.ext (by show (256 * n.val + t.val) % 256 = t.val; omega)
  show (B ⟨(5 * kv.val + h.val) / 5, _⟩ ⟨(256 * n.val + t.val) / 256, _⟩).dqTile ⟨(256 * n.val + t.val) / 256, _⟩ ⟨(5 * kv.val + h.val) % 5, _⟩ ⟨(256 * n.val + t.val) % 256, _⟩ _ = _
  rw [e1, e2, e3, e4]
  rfl

theorem dkAcc_full (c : Dev nD) (kv : Fin 4) (j : Fin 32) (s : Fin 256) (d : Fin 128) :
    dkAcc m c kv 32 j s d = dkOut (gAt m c) (ix4 kv j s d) := by
  show _ = ∑ n : Fin 32, slabTerm (gAt m c kv n).dkPast (gAt m c kv n).dkOwn n.val j s d
  unfold dkAcc
  rw [Finset.sum_range]
  refine Finset.sum_congr rfl fun n _ => ?_
  rw [dif_pos n.isLt, blkAt_eq]
  have e1 : kvOf (ptOf kv.val n.val kv.isLt n.isLt) = kv := Fin.ext (by show (32 * kv.val + n.val) / 32 = kv.val; omega)
  have e2 : cOf (grid0.coords (ptOf kv.val n.val kv.isLt n.isLt)) = n := Fin.ext (by rw [cOf_val]; show (32 * kv.val + n.val) % 32 = n.val; omega)
  rw [e1, e2]

theorem dvAcc_full (c : Dev nD) (kv : Fin 4) (j : Fin 32) (s : Fin 256) (d : Fin 128) :
    dvAcc m c kv 32 j s d = dvOut (gAt m c) (ix4 kv j s d) := by
  show _ = ∑ n : Fin 32, slabTerm (gAt m c kv n).dvPast (gAt m c kv n).dvOwn n.val j s d
  unfold dvAcc
  rw [Finset.sum_range]
  refine Finset.sum_congr rfl fun n _ => ?_
  rw [dif_pos n.isLt, blkAt_eq]
  have e1 : kvOf (ptOf kv.val n.val kv.isLt n.isLt) = kv := Fin.ext (by show (32 * kv.val + n.val) / 32 = kv.val; omega)
  have e2 : cOf (grid0.coords (ptOf kv.val n.val kv.isLt n.isLt)) = n := Fin.ext (by rw [cOf_val]; show (32 * kv.val + n.val) % 32 = n.val; omega)
  rw [e1, e2]

/-- The arrays at the end, of whatever exact data name them. -/
theorem final10 (c : Dev nD) (after : (w' : Fin cfg0.W) → Fin cfg0.N → (cfg0.win w').block.Idx → Elt Ideal (cfg0.win w').elt)
    (hL : ∀ u : Fin cfg0.N, Out10 m c u (after 10 u)) : ((rdat m c).withAfter after).arrAt 10 cfg0.N = dqOut (gAt m c) := by
  refine ((rdat m c).withAfter after).arrAt_eq_of_covers 10 _ (by decide +kernel) fun t hf y => ?_
  blk_simp
  rw [Pipeline.RDat.withAfter_after]
  obtain ⟨h, r, e, rfl⟩ : ∃ (h : Fin 5) (r : Fin 256) (e : Fin 128), y = ix3 h r e := ⟨y 0, y 1, y 2, by funext a; fin_cases a <;> rfl⟩
  rw [hL t h r e, blkAt_eq]
  have ei : (win0_10.blk t).view.emb (ix3 h r e) = ix3 (hdOf (kvOf t) h) (rowOf (cOf (grid0.coords t)) r) e := by blk_ext [idx_10, hdOf, rowOf]
  rw [ei, dqOut_ix]

theorem final11 (c : Dev nD) (after : (w' : Fin cfg0.W) → Fin cfg0.N → (cfg0.win w').block.Idx → Elt Ideal (cfg0.win w').elt)
    (hL : ∀ u : Fin cfg0.N, (cfg0.win 11).flush u = true → Out11 m c u (after 11 u)) : ((rdat m c).withAfter after).arrAt 11 cfg0.N = dkOut (gAt m c) := by
  refine ((rdat m c).withAfter after).arrAt_eq_of_covers 11 _ (by decide +kernel) fun t hf y => ?_
  have h31 := (flush0_11 t).mp hf
  blk_simp
  rw [Pipeline.RDat.withAfter_after]
  obtain ⟨z, j, s, d, rfl⟩ : ∃ (z : Fin 1) (j : Fin 32) (s : Fin 256) (d : Fin 128), y = ix4 z j s d := ⟨y 0, y 1, y 2, y 3, by funext a; fin_cases a <;> rfl⟩
  obtain rfl : z = 0 := Subsingleton.elim _ _
  rw [hL t hf j s d (by omega), h31, dkAcc_full]
  have ei : (win0_11.blk t).view.emb (ix4 0 j s d) = ix4 (kvOf t) j s d := by blk_ext [idx_11]
  rw [ei]

theorem final12 (c : Dev nD) (after : (w' : Fin cfg0.W) → Fin cfg0.N → (cfg0.win w').block.Idx → Elt Ideal (cfg0.win w').elt)
    (hL : ∀ u : Fin cfg0.N, (cfg0.win 12).flush u = true → Out12 m c u (after 12 u)) : ((rdat m c).withAfter after).arrAt 12 cfg0.N = dvOut (gAt m c) := by
  refine ((rdat m c).withAfter after).arrAt_eq_of_covers 12 _ (by decide +kernel) fun t hf y => ?_
  have h31 := (flush0_12 t).mp hf
  blk_simp
  rw [Pipeline.RDat.withAfter_after]
  obtain ⟨z, j, s, d, rfl⟩ : ∃ (z : Fin 1) (j : Fin 32) (s : Fin 256) (d : Fin 128), y = ix4 z j s d := ⟨y 0, y 1, y 2, y 3, by funext a; fin_cases a <;> rfl⟩
  obtain rfl : z = 0 := Subsingleton.elim _ _
  rw [hL t hf j s d (by omega), h31, dvAcc_full]
  have ei : (win0_12.blk t).view.emb (ix4 0 j s d) = ix4 (kvOf t) j s d := by blk_ext [idx_12]
  rw [ei]

/-- THE KERNEL'S VALUE: the three results are `dqOut`, `dkOut`, `dvOut` of the arguments, the arguments unchanged. -/
theorem value (ρ : Dev nD → PrngReg) : θ_run defs (onTc (τ := τ) (main (F := Ideal))) ⟨m, fun _ => 0, ρ⟩ (fun r => ∀ c : Dev nD,
      r.2.mem ((c.tc : Thread nD τ).loc main_v4_0) = dqOut (gAt m c)
      ∧ r.2.mem ((c.tc : Thread nD τ).loc main_v4_1) = dkOut (gAt m c)
      ∧ r.2.mem ((c.tc : Thread nD τ).loc main_v4_2) = dvOut (gAt m c)
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9)) :=
  (θ_run defs _ _).mono (fun r h c => by
    obtain ⟨after, hL, hA⟩ := Pipeline.RDat.FramePost.exists_exact h.1 c
    refine ⟨(hA 10).trans (final10 m c after fun u => ?_), (hA 11).trans (final11 m c after fun u hf => ?_), (hA 12).trans (final12 m c after fun u hf => ?_), args_of m r h.1 c⟩
    · exact (dats m 0 c).toRRel_leaves (Rl := rel m c) (fgt := marked) (w := 10) rfl (hL 10 u (flush0_10 u))
    · exact (dats m 0 c).toRRel_leaves (Rl := rel m c) (fgt := marked) (w := 11) rfl (hL 11 u hf)
    · exact (dats m 0 c).toRRel_leaves (Rl := rel m c) (fgt := marked) (w := 12) rfl (hL 12 u hf)) (run_main_quiescent m ρ)

end Cert.BwdIdeal.Hand
-- ==== Proof.Dots.lean ====
module

public import proofs.«01_k».proof.Proof.Arr
public import proofs.«01_k».proof.Proof.Gen.BwdRefIdeal.Frame
public import proofs.«01_k».proof.Proof.Gen.BwdRefIdeal.Run
public import proofs.«01_k».proof.Proof.Gen.BwdRefIdeal.Read
public import Idealize.ShloMosaic.Lib.TwoAxisContraction
public import Idealize.ShloMosaic.Lib.Pointwise

@[expose] public section

set_option maxRecDepth 16384

noncomputable section

namespace Cert.BwdRefIdeal.Hand

open Cert.BwdRefIdeal Cert.BwdRefIdeal.Gen Cert.BwdRefIdeal.Read
open Idealize.ShloMosaic Idealize.ShloMosaic.TcCoe Idealize.ShloMosaic.Tactic
open Idealize.SL.Sem Idealize.ShloMosaic.StableHlo
open Cert.BwdIdeal.Hand (hdOf rowOf gBlk Blk)
open scoped BigOperators

/-! ## The products over two and three axes, read at an index -/

/-- The queries' derivative sums over the key blocks and the keys of a block. -/
theorem dotQ_apply (L : FVec Ideal S4x5x32x256x32x256 .bf16) (R : FVec Ideal S4x32x128x256 .bf16) (kv : Fin 4) (h : Fin 5) (n : Fin 32) (t : Fin 256) (d : Fin 128) :
    (Host.dotGeneral dot_S4x5x32x256x32x256_S4x32x128x256_S4x5x32x256x128_45_13_123_2_0_0 none L R : FVec Ideal S4x5x32x256x128 .f32) (ix5 kv h n t d)
      = ∑ j : Fin 32, ∑ s : Fin 256, L (ix6 kv h n t j s) * R (ix4 kv j d s) := by
  let D := dot_S4x5x32x256x32x256_S4x32x128x256_S4x5x32x256x128_45_13_123_2_0_0
  have hr : D.contr.rank = 2 := rfl
  have c0 : D.contr.size ⟨0, by rw [hr]; omega⟩ = 32 := rfl
  have c1 : D.contr.size ⟨1, by rw [hr]; omega⟩ = 256 := rfl
  simp only [Host.dotGeneral]
  rw [Ideal.dotGeneral_apply, ValueIdx.sum_contr2 D 32 256 hr c0 c1]
  refine Finset.sum_congr rfl fun j _ => Finset.sum_congr rfl fun s _ => ?_
  have h0 := ValueIdx.contrEquiv2_symm_val0 D 32 256 hr c0 c1 (j, s)
  have h1 := ValueIdx.contrEquiv2_symm_val1 D 32 256 hr c0 c1 (j, s)
  have el : D.lhsIdx (ix5 kv h n t d) ((ValueIdx.contrEquiv2 D 32 256 hr c0 c1).symm (j, s)) = ix6 kv h n t j s := by
    funext a; apply Fin.ext
    match a with
    | ⟨0, _⟩ => rfl
    | ⟨1, _⟩ => rfl
    | ⟨2, _⟩ => rfl
    | ⟨3, _⟩ => rfl
    | ⟨4, _⟩ => exact h0
    | ⟨5, _⟩ => exact h1
  have er : D.rhsIdx (ix5 kv h n t d) ((ValueIdx.contrEquiv2 D 32 256 hr c0 c1).symm (j, s)) = ix4 kv j d s := by
    funext a; apply Fin.ext
    match a with
    | ⟨0, _⟩ => rfl
    | ⟨1, _⟩ => exact h0
    | ⟨2, _⟩ => rfl
    | ⟨3, _⟩ => exact h1
  rw [el, er]

/-- A contraction index of three coordinates. -/
def contr3 : dot_S4x5x32x256x32x256_S4x5x32x256x128_S4x32x256x128_213_213_45_4_0_0.contr.Idx ≃ Fin 32 × Fin 5 × Fin 256 where
  toFun q := ((q ⟨0, by decide⟩ : Fin 32), (q ⟨1, by decide⟩ : Fin 5), (q ⟨2, by decide⟩ : Fin 256))
  invFun p := fun a => match a with
    | ⟨0, _⟩ => (p.1 : Fin 32)
    | ⟨1, _⟩ => (p.2.1 : Fin 5)
    | ⟨2, _⟩ => (p.2.2 : Fin 256)
  left_inv q := by
    funext a
    match a with
    | ⟨0, _⟩ => rfl
    | ⟨1, _⟩ => rfl
    | ⟨2, _⟩ => rfl
  right_inv p := rfl

/-- The keys' and the values' derivatives sum over the query blocks, the heads of the group and the queries. -/
theorem dotK_apply (L : FVec Ideal S4x5x32x256x32x256 .bf16) (R : FVec Ideal S4x5x32x256x128 .bf16) (kv : Fin 4) (j : Fin 32) (s : Fin 256) (d : Fin 128) :
    (Host.dotGeneral dot_S4x5x32x256x32x256_S4x5x32x256x128_S4x32x256x128_213_213_45_4_0_0 none L R : FVec Ideal S4x32x256x128 .f32) (ix4 kv j s d)
      = ∑ n : Fin 32, ∑ h : Fin 5, ∑ t : Fin 256, L (ix6 kv h n t j s) * R (ix5 kv h n t d) := by
  let D := dot_S4x5x32x256x32x256_S4x5x32x256x128_S4x32x256x128_213_213_45_4_0_0
  simp only [Host.dotGeneral]
  rw [Ideal.dotGeneral_apply, ← Equiv.sum_comp contr3.symm, Fintype.sum_prod_type]
  refine Finset.sum_congr rfl fun n _ => ?_
  rw [Fintype.sum_prod_type]
  refine Finset.sum_congr rfl fun h _ => Finset.sum_congr rfl fun t _ => ?_
  have el : D.lhsIdx (ix4 kv j s d) (contr3.symm (n, h, t)) = ix6 kv h n t j s := by
    funext a; apply Fin.ext
    match a with
    | ⟨0, _⟩ => rfl
    | ⟨1, _⟩ => rfl
    | ⟨2, _⟩ => rfl
    | ⟨3, _⟩ => rfl
    | ⟨4, _⟩ => rfl
    | ⟨5, _⟩ => rfl
  have er : D.rhsIdx (ix4 kv j s d) (contr3.symm (n, h, t)) = ix5 kv h n t d := by
    funext a; apply Fin.ext
    match a with
    | ⟨0, _⟩ => rfl
    | ⟨1, _⟩ => rfl
    | ⟨2, _⟩ => rfl
    | ⟨3, _⟩ => rfl
    | ⟨4, _⟩ => rfl
  rw [el, er]

end Cert.BwdRefIdeal.Hand
-- ==== Proof.RefRead.lean ====
module

public import proofs.«01_k».proof.Proof.Arr
public import proofs.«01_k».proof.Proof.Gen.BwdRefIdeal.Frame
public import proofs.«01_k».proof.Proof.Gen.BwdRefIdeal.Run
public import proofs.«01_k».proof.Proof.Gen.BwdRefIdeal.Read
public import Idealize.ShloMosaic.Lib.TwoAxisContraction
public import Idealize.ShloMosaic.Lib.Pointwise
public import proofs.«01_k».proof.Proof.Dots

@[expose] public section

set_option maxRecDepth 16384

noncomputable section

namespace Cert.BwdRefIdeal.Hand

open Cert.BwdRefIdeal Cert.BwdRefIdeal.Gen Cert.BwdRefIdeal.Read
open Idealize.ShloMosaic Idealize.ShloMosaic.TcCoe Idealize.ShloMosaic.Tactic
open Idealize.SL.Sem Idealize.ShloMosaic.StableHlo
open Cert.BwdIdeal.Hand (hdOf rowOf gBlk Blk)
open scoped BigOperators

/-! ## Where the reference reads its arguments -/

theorem at_v1 (kv : Fin 4) (h : Fin 5) (n : Fin 32) (t : Fin 256) (d : Fin 128) : idx_main_v1 (ix5 kv h n t d) = ix3 (hdOf kv h) (rowOf n t) d := by
  funext a; apply Fin.ext
  match a with
  | ⟨0, _⟩ =>
    have := kv.isLt; have := h.isLt; have := n.isLt; have := t.isLt; have := d.isLt; show ((((kv.val * 5 + h.val) * 32 + n.val) * 256 + t.val) * 128 + d.val) / 1048576 = 5 * kv.val + h.val; omega
  | ⟨1, _⟩ =>
    have := kv.isLt; have := h.isLt; have := n.isLt; have := t.isLt; have := d.isLt; show ((((kv.val * 5 + h.val) * 32 + n.val) * 256 + t.val) * 128 + d.val) / 128 % 8192 = 256 * n.val + t.val; omega
  | ⟨2, _⟩ =>
    have := kv.isLt; have := h.isLt; have := n.isLt; have := t.isLt; have := d.isLt; show ((((kv.val * 5 + h.val) * 32 + n.val) * 256 + t.val) * 128 + d.val) % 128 = d.val; omega

theorem at_v2 (kv : Fin 4) (h : Fin 5) (n : Fin 32) (t : Fin 256) (d : Fin 128) : idx_main_v2 (ix5 kv h n t d) = ix3 (hdOf kv h) (rowOf n t) d := by
  funext a; apply Fin.ext
  match a with
  | ⟨0, _⟩ =>
    have := kv.isLt; have := h.isLt; have := n.isLt; have := t.isLt; have := d.isLt; show ((((kv.val * 5 + h.val) * 32 + n.val) * 256 + t.val) * 128 + d.val) / 1048576 = 5 * kv.val + h.val; omega
  | ⟨1, _⟩ =>
    have := kv.isLt; have := h.isLt; have := n.isLt; have := t.isLt; have := d.isLt; show ((((kv.val * 5 + h.val) * 32 + n.val) * 256 + t.val) * 128 + d.val) / 128 % 8192 = 256 * n.val + t.val; omega
  | ⟨2, _⟩ =>
    have := kv.isLt; have := h.isLt; have := n.isLt; have := t.isLt; have := d.isLt; show ((((kv.val * 5 + h.val) * 32 + n.val) * 256 + t.val) * 128 + d.val) % 128 = d.val; omega

theorem at_v3 (kv : Fin 4) (h : Fin 5) (n : Fin 32) (t : Fin 256) : idx_main_v3 (ix4 kv h n t) = ix3 (hdOf kv h) 0 (rowOf n t) := by
  funext a; apply Fin.ext
  match a with
  | ⟨0, _⟩ =>
    have := kv.isLt; have := h.isLt; have := n.isLt; have := t.isLt; show (((kv.val * 5 + h.val) * 32 + n.val) * 256 + t.val) / 8192 = 5 * kv.val + h.val; omega
  | ⟨1, _⟩ => rfl
  | ⟨2, _⟩ =>
    have := kv.isLt; have := h.isLt; have := n.isLt; have := t.isLt; show (((kv.val * 5 + h.val) * 32 + n.val) * 256 + t.val) % 8192 = 256 * n.val + t.val; omega

theorem at_v7 (kv : Fin 4) (h : Fin 5) (n : Fin 32) (t : Fin 256) : idx_main_v7 (ix4 kv h n t) = ix3 (hdOf kv h) 0 (rowOf n t) := by
  funext a; apply Fin.ext
  match a with
  | ⟨0, _⟩ =>
    have := kv.isLt; have := h.isLt; have := n.isLt; have := t.isLt; show (((kv.val * 5 + h.val) * 32 + n.val) * 256 + t.val) / 8192 = 5 * kv.val + h.val; omega
  | ⟨1, _⟩ => rfl
  | ⟨2, _⟩ =>
    have := kv.isLt; have := h.isLt; have := n.isLt; have := t.isLt; show (((kv.val * 5 + h.val) * 32 + n.val) * 256 + t.val) % 8192 = 256 * n.val + t.val; omega

theorem at_v9 (kv : Fin 4) (h : Fin 5) (n : Fin 32) (t : Fin 256) : idx_main_v9 (ix4 kv h n t) = ix3 (hdOf kv h) 0 (rowOf n t) := by
  funext a; apply Fin.ext
  match a with
  | ⟨0, _⟩ =>
    have := kv.isLt; have := h.isLt; have := n.isLt; have := t.isLt; show (((kv.val * 5 + h.val) * 32 + n.val) * 256 + t.val) / 8192 = 5 * kv.val + h.val; omega
  | ⟨1, _⟩ => rfl
  | ⟨2, _⟩ =>
    have := kv.isLt; have := h.isLt; have := n.isLt; have := t.isLt; show (((kv.val * 5 + h.val) * 32 + n.val) * 256 + t.val) % 8192 = 256 * n.val + t.val; omega

theorem at_v20 (kv : Fin 4) (n : Fin 32) (t : Fin 256) (j : Fin 32) : idx_main_v20 (ix4 kv n t j) = ix3 kv (rowOf n t) j := by
  funext a; apply Fin.ext
  match a with
  | ⟨0, _⟩ =>
    have := kv.isLt; have := j.isLt; have := n.isLt; have := t.isLt; show (((kv.val * 32 + n.val) * 256 + t.val) * 32 + j.val) / 262144 = kv.val; omega
  | ⟨1, _⟩ =>
    have := kv.isLt; have := j.isLt; have := n.isLt; have := t.isLt; show (((kv.val * 32 + n.val) * 256 + t.val) * 32 + j.val) / 32 % 8192 = 256 * n.val + t.val; omega
  | ⟨2, _⟩ =>
    have := kv.isLt; have := j.isLt; have := n.isLt; have := t.isLt; show (((kv.val * 32 + n.val) * 256 + t.val) * 32 + j.val) % 32 = j.val; omega

/-- The queries, widened, at an index. -/
theorem v1_ix (r0 : (⟨S20x8192x128, .bf16⟩ : BufTy).Contents (Elt Ideal)) (kv : Fin 4) (h : Fin 5) (n : Fin 32) (t : Fin 256) (d : Fin 128) : val_main_v1 (F := Ideal) r0 (ix5 kv h n t d) = r0 (ix3 (hdOf kv h) (rowOf n t) d) := by
  rw [val_main_v1_apply, at_v1]

/-- The output derivatives at an index. -/
theorem v2_ix (x9 : (⟨S20x8192x128, .bf16⟩ : BufTy).Contents (Elt Ideal)) (kv : Fin 4) (h : Fin 5) (n : Fin 32) (t : Fin 256) (d : Fin 128) : val_main_v2 (F := Ideal) x9 (ix5 kv h n t d) = x9 (ix3 (hdOf kv h) (rowOf n t) d) := by
  rw [val_main_v2_apply, at_v2]

/-- A query's scale at an index. -/
theorem v4_ix (x1 : (⟨S20x1x8192, .f32⟩ : BufTy).Contents (Elt Ideal)) (kv : Fin 4) (h : Fin 5) (n : Fin 32) (t : Fin 256) : val_main_v4 (F := Ideal) x1 (ix6 kv h n t 0 0) = x1 (ix3 (hdOf kv h) 0 (rowOf n t)) := by
  rw [val_main_v4_apply, val_main_v3_apply]
  exact congrArg x1 (at_v3 kv h n t)

/-- A query's row sum, times the constant. -/
theorem v8_ix (x7 : (⟨S20x1x8192, .f32⟩ : BufTy).Contents (Elt Ideal)) (kv : Fin 4) (h : Fin 5) (n : Fin 32) (t : Fin 256) : val_main_v8 (F := Ideal) x7 (ix6 kv h n t 0 0) = x7 (ix3 (hdOf kv h) 0 (rowOf n t)) * Cert.BwdIdeal.Hand.cL := by
  rw [val_main_v8_apply, val_main_v7_apply, val_main_v6_apply, val_main_v5_apply, val_main_cst_apply]
  exact congrArg (fun i => (x7 i : EReal) * Cert.BwdIdeal.Hand.cL) (at_v7 kv h n t)

/-- A query's row dot. -/
theorem v10_ix (x8 : (⟨S20x1x8192, .f32⟩ : BufTy).Contents (Elt Ideal)) (kv : Fin 4) (h : Fin 5) (n : Fin 32) (t : Fin 256) : val_main_v10 (F := Ideal) x8 (ix6 kv h n t 0 0) = x8 (ix3 (hdOf kv h) 0 (rowOf n t)) := by
  rw [val_main_v10_apply, val_main_v9_apply]
  exact congrArg x8 (at_v9 kv h n t)

/-- A key's scale. -/
theorem v11_ix (x3 : (⟨S4x32x256, .f32⟩ : BufTy).Contents (Elt Ideal)) (kv : Fin 4) (j : Fin 32) (s : Fin 256) : val_main_v11 (F := Ideal) x3 (ix6 kv 0 0 0 j s) = x3 (ix3 kv j s) := by
  rw [val_main_v11_apply]
  refine congrArg x3 ?_
  funext a
  match a with
  | ⟨0, _⟩ => rfl
  | ⟨1, _⟩ => rfl
  | ⟨2, _⟩ => rfl

/-- A gate. -/
theorem v21_ix (x6 : (⟨S4x8192x32, .i1⟩ : BufTy).Contents (Elt Ideal)) (kv : Fin 4) (n : Fin 32) (t : Fin 256) (j : Fin 32) : val_main_v21 (F := Ideal) x6 (ix5 kv n t j 0) = x6 (ix3 kv (rowOf n t) j) := by
  rw [val_main_v21_apply, val_main_v20_apply]
  exact congrArg x6 (at_v20 kv n t j)

/-- The scores. -/
theorem v29_ix (r0 : (⟨S20x8192x128, .bf16⟩ : BufTy).Contents (Elt Ideal)) (r1 : (⟨S4x32x256x128, .bf16⟩ : BufTy).Contents (Elt Ideal)) (kv : Fin 4) (h : Fin 5) (n : Fin 32) (t : Fin 256) (j : Fin 32) (s : Fin 256) : val_main_v29 (F := Ideal) r0 r1 (ix6 kv h n t j s)
    = ∑ d : Fin 128, r0 (ix3 (hdOf kv h) (rowOf n t) d) * r1 (ix4 kv j s d) := by
  rw [val_main_v29_apply]
  refine Finset.sum_congr rfl fun d _ => ?_
  have el : lidx_main_v29 (ix6 kv h n t j s) d = ix5 kv h n t d := by
    funext a
    match a with
    | ⟨0, _⟩ => rfl
    | ⟨1, _⟩ => rfl
    | ⟨2, _⟩ => rfl
    | ⟨3, _⟩ => rfl
    | ⟨4, _⟩ => rfl
  have er : ridx_main_v29 (ix6 kv h n t j s) d = ix4 kv j s d := by
    funext a
    match a with
    | ⟨0, _⟩ => rfl
    | ⟨1, _⟩ => rfl
    | ⟨2, _⟩ => rfl
    | ⟨3, _⟩ => rfl
  rw [el, er, v1_ix]

/-- The weights' derivatives. -/
theorem v44_ix (x5 : (⟨S4x32x256x128, .bf16⟩ : BufTy).Contents (Elt Ideal)) (x9 : (⟨S20x8192x128, .bf16⟩ : BufTy).Contents (Elt Ideal)) (kv : Fin 4) (h : Fin 5) (n : Fin 32) (t : Fin 256) (j : Fin 32) (s : Fin 256) : val_main_v44 (F := Ideal) x5 x9 (ix6 kv h n t j s)
    = ∑ d : Fin 128, x9 (ix3 (hdOf kv h) (rowOf n t) d) * x5 (ix4 kv j s d) := by
  rw [val_main_v44_apply]
  refine Finset.sum_congr rfl fun d _ => ?_
  have el : lidx_main_v44 (ix6 kv h n t j s) d = ix5 kv h n t d := by
    funext a
    match a with
    | ⟨0, _⟩ => rfl
    | ⟨1, _⟩ => rfl
    | ⟨2, _⟩ => rfl
    | ⟨3, _⟩ => rfl
    | ⟨4, _⟩ => rfl
  have er : ridx_main_v44 (ix6 kv h n t j s) d = ix4 kv j s d := by
    funext a
    match a with
    | ⟨0, _⟩ => rfl
    | ⟨1, _⟩ => rfl
    | ⟨2, _⟩ => rfl
    | ⟨3, _⟩ => rfl
  rw [el, er, v2_ix]

theorem v30_ix (x1 : (⟨S20x1x8192, .f32⟩ : BufTy).Contents (Elt Ideal)) (kv : Fin 4) (h : Fin 5) (n : Fin 32) (t : Fin 256) (j : Fin 32) (s : Fin 256) : val_main_v30 (F := Ideal) x1 (ix6 kv h n t j s) = val_main_v4 (F := Ideal) x1 (ix6 kv h n t 0 0) := by
  rw [val_main_v30_apply]
  exact congrArg (val_main_v4 (F := Ideal) x1) (show idx_main_v30 (ix6 kv h n t j s) = ix6 kv h n t 0 0 from by
    funext a
    match a with
    | ⟨0, _⟩ => rfl
    | ⟨1, _⟩ => rfl
    | ⟨2, _⟩ => rfl
    | ⟨3, _⟩ => rfl
    | ⟨4, _⟩ => rfl
    | ⟨5, _⟩ => rfl)

theorem v38_ix (x7 : (⟨S20x1x8192, .f32⟩ : BufTy).Contents (Elt Ideal)) (kv : Fin 4) (h : Fin 5) (n : Fin 32) (t : Fin 256) (j : Fin 32) (s : Fin 256) : val_main_v38 (F := Ideal) x7 (ix6 kv h n t j s) = val_main_v8 (F := Ideal) x7 (ix6 kv h n t 0 0) := by
  rw [val_main_v38_apply]
  exact congrArg (val_main_v8 (F := Ideal) x7) (show idx_main_v38 (ix6 kv h n t j s) = ix6 kv h n t 0 0 from by
    funext a
    match a with
    | ⟨0, _⟩ => rfl
    | ⟨1, _⟩ => rfl
    | ⟨2, _⟩ => rfl
    | ⟨3, _⟩ => rfl
    | ⟨4, _⟩ => rfl
    | ⟨5, _⟩ => rfl)

theorem v32_ix (x3 : (⟨S4x32x256, .f32⟩ : BufTy).Contents (Elt Ideal)) (kv : Fin 4) (h : Fin 5) (n : Fin 32) (t : Fin 256) (j : Fin 32) (s : Fin 256) : val_main_v32 (F := Ideal) x3 (ix6 kv h n t j s) = x3 (ix3 kv j s) := by
  rw [val_main_v32_apply, ← v11_ix x3 kv j s]
  exact congrArg (val_main_v11 (F := Ideal) x3) (show idx_main_v32 (ix6 kv h n t j s) = ix6 kv 0 0 0 j s from by
    funext a
    match a with
    | ⟨0, _⟩ => rfl
    | ⟨1, _⟩ => rfl
    | ⟨2, _⟩ => rfl
    | ⟨3, _⟩ => rfl
    | ⟨4, _⟩ => rfl
    | ⟨5, _⟩ => rfl)

/-- The scaled score. -/
theorem v35_ix (x1 : (⟨S20x1x8192, .f32⟩ : BufTy).Contents (Elt Ideal)) (x3 : (⟨S4x32x256, .f32⟩ : BufTy).Contents (Elt Ideal)) (r0 : (⟨S20x8192x128, .bf16⟩ : BufTy).Contents (Elt Ideal)) (r1 : (⟨S4x32x256x128, .bf16⟩ : BufTy).Contents (Elt Ideal)) (kv : Fin 4) (h : Fin 5) (n : Fin 32) (t : Fin 256) (j : Fin 32) (s : Fin 256) : val_main_v35 (F := Ideal) x1 x3 r0 r1 (ix6 kv h n t j s)
    = (∑ d : Fin 128, r0 (ix3 (hdOf kv h) (rowOf n t) d) * r1 (ix4 kv j s d)) * x1 (ix3 (hdOf kv h) 0 (rowOf n t)) * x3 (ix3 kv j s) * Cert.BwdIdeal.Hand.cQ := by
  rw [val_main_v35_apply, val_main_v33_apply, val_main_v31_apply, v29_ix, v30_ix, v4_ix, v32_ix, val_main_v34_apply, val_main_cst_0_apply]
  rfl

/-- Signed comparison of two small numbers. -/
theorem slt_of {a b : ℕ} (ha : a < 256) (hb : b < 256) : IntOp.cmpi .slt (BitVec.ofNat 32 a) (BitVec.ofNat 32 b) = BitVec.ofBool (decide (a < b)) := by
  unfold IntOp.cmpi
  simp only [BitVec.slt_eq_decide, BitVec.toInt_ofNat']
  congr 2
  rw [Int.bmod_eq_of_le (by omega) (by omega), Int.bmod_eq_of_le (by omega) (by omega)]
  simp
theorem sle_of {a b : ℕ} (ha : a < 256) (hb : b < 256) : IntOp.cmpi .sle (BitVec.ofNat 32 a) (BitVec.ofNat 32 b) = BitVec.ofBool (decide (a ≤ b)) := by
  unfold IntOp.cmpi
  simp only [BitVec.sle_eq_decide, BitVec.toInt_ofNat']
  congr 2
  rw [Int.bmod_eq_of_le (by omega) (by omega), Int.bmod_eq_of_le (by omega) (by omega)]
  simp
theorem eq_of {a b : ℕ} (ha : a < 256) (hb : b < 256) : IntOp.cmpi .eq (BitVec.ofNat 32 a) (BitVec.ofNat 32 b) = BitVec.ofBool (decide (a = b)) := by
  unfold IntOp.cmpi
  have : (BitVec.ofNat 32 a == BitVec.ofNat 32 b) = decide (a = b) := by
    rw [Bool.eq_iff_iff, beq_iff_eq, decide_eq_true_eq]
    constructor
    · intro e
      have := congrArg BitVec.toNat e
      simp only [BitVec.toNat_ofNat] at this
      omega
    · rintro rfl; rfl
  simp only [this]

/-- Whether a query sees a key. -/
theorem v28_ix (x6 : (⟨S4x8192x32, .i1⟩ : BufTy).Contents (Elt Ideal)) (kv : Fin 4) (n : Fin 32) (t : Fin 256) (j : Fin 32) (s : Fin 256) : val_main_v28 (F := Ideal) x6 (ix5 kv n t j s)
    = IntOp.ori (IntOp.andi (BitVec.ofBool (decide (j.val = n.val))) (BitVec.ofBool (decide (s.val ≤ t.val))))
        (IntOp.andi (BitVec.ofBool (decide (j.val < n.val))) (x6 (ix3 kv (rowOf n t) j))) := by
  have hn := n.isLt; have hj := j.isLt; have hs := s.isLt; have ht := t.isLt
  rw [val_main_v28_apply, val_main_v27_apply, val_main_v26_apply, val_main_v18_apply, val_main_v16_apply, val_main_v17_apply,
    val_main_v12_apply, val_main_v13_apply, val_main_v14_apply, val_main_v15_apply,
    val_main_v25_apply, val_main_v24_apply, val_main_v23_apply, val_main_v22_apply, val_main_v19_apply, val_main_v12_apply, val_main_v14_apply,
    ← slt_of (by omega : j.val < 256) (by omega : n.val < 256), ← sle_of hs ht, ← eq_of (by omega : j.val < 256) (by omega : n.val < 256), ← v21_ix x6 kv n t j]
  exact congrArg (fun i => IntOp.ori (IntOp.andi (IntOp.cmpi .eq (BitVec.ofNat 32 j.val) (BitVec.ofNat 32 n.val)) (IntOp.cmpi .sle (BitVec.ofNat 32 s.val) (BitVec.ofNat 32 t.val)))
    (IntOp.andi (IntOp.cmpi .slt (BitVec.ofNat 32 j.val) (BitVec.ofNat 32 n.val)) (val_main_v21 (F := Ideal) x6 i))) (show idx_main_v24 (ix5 kv n t j s) = ix5 kv n t j 0 from by
    funext a
    match a with
    | ⟨0, _⟩ => rfl
    | ⟨1, _⟩ => rfl
    | ⟨2, _⟩ => rfl
    | ⟨3, _⟩ => rfl
    | ⟨4, _⟩ => rfl)

/-- The weight's exponent before the natural base. -/
theorem v39_ix (x1 : (⟨S20x1x8192, .f32⟩ : BufTy).Contents (Elt Ideal)) (x3 : (⟨S4x32x256, .f32⟩ : BufTy).Contents (Elt Ideal)) (x6 : (⟨S4x8192x32, .i1⟩ : BufTy).Contents (Elt Ideal)) (x7 : (⟨S20x1x8192, .f32⟩ : BufTy).Contents (Elt Ideal)) (r0 : (⟨S20x8192x128, .bf16⟩ : BufTy).Contents (Elt Ideal)) (r1 : (⟨S4x32x256x128, .bf16⟩ : BufTy).Contents (Elt Ideal)) (kv : Fin 4) (h : Fin 5) (n : Fin 32) (t : Fin 256) (j : Fin 32) (s : Fin 256) : val_main_v39 (F := Ideal) x1 x3 x6 x7 r0 r1 (ix6 kv h n t j s)
    = (Scalar.select (val_main_v28 (F := Ideal) x6 (ix5 kv n t j s)) (val_main_v35 (F := Ideal) x1 x3 r0 r1 (ix6 kv h n t j s)) (⊥ : EReal)) - x7 (ix3 (hdOf kv h) 0 (rowOf n t)) * Cert.BwdIdeal.Hand.cL := by
  have hbot : Ideal.ofBits .f32 0xFF800000#32 = ⊥ := by simp [Ideal.ofBits, Ideal.ieee]
  rw [val_main_v39_apply, val_main_v37_apply, v38_ix, v8_ix, val_main_call0_v1_apply, val_main_v36_apply, val_main_call0_v2_apply, val_main_call0_v0_apply,
    val_main_cst_1_apply, ← hbot]
  exact congrArg (fun i => (Scalar.select (val_main_v28 (F := Ideal) x6 i) (val_main_v35 (F := Ideal) x1 x3 r0 r1 (ix6 kv h n t j s)) (Ideal.ofBits .f32 0xFF800000#32) : EReal) - x7 (ix3 (hdOf kv h) 0 (rowOf n t)) * Cert.BwdIdeal.Hand.cL) (show idx_main_v36 (idx_main_call0_v1 (ix6 kv h n t j s)) = ix5 kv n t j s from by
    funext a
    match a with
    | ⟨0, _⟩ => rfl
    | ⟨1, _⟩ => rfl
    | ⟨2, _⟩ => rfl
    | ⟨3, _⟩ => rfl
    | ⟨4, _⟩ => rfl)

/-- The exponential to base two, by the natural one. -/
theorem exp_log2 (x : EReal) : Ideal.exp (x * Ideal.log (Ideal.ofBits .f32 0x40000000#32)) = Ideal.exp2 x := by
  have h2 : Ideal.ofBits .f32 0x40000000#32 = ((2 : ℝ) : EReal) := by
    simp [Ideal.ofBits, Ideal.ieee]
    rw [← EReal.coe_mul]
    norm_num
  have hl : Ideal.log (Ideal.ofBits .f32 0x40000000#32) = ((Real.log 2 : ℝ) : EReal) := by
    rw [h2, Ideal.log_coe, if_neg (by norm_num)]
  have hp : 0 < Real.log 2 := Real.log_pos (by norm_num)
  rw [hl]
  induction x with
  | bot => rw [EReal.bot_mul_coe_of_pos hp]; rfl
  | top => rw [EReal.top_mul_coe_of_pos hp]; rfl
  | coe r =>
    rw [← EReal.coe_mul, Ideal.exp_coe, Ideal.exp2_coe]
    congr 1
    show Real.exp (r * Real.log 2) = (2 : ℝ) ^ r
    rw [Real.rpow_def_of_pos (by norm_num), mul_comm]

/-- A weight. -/
theorem v43_ix (x1 : (⟨S20x1x8192, .f32⟩ : BufTy).Contents (Elt Ideal)) (x3 : (⟨S4x32x256, .f32⟩ : BufTy).Contents (Elt Ideal)) (x6 : (⟨S4x8192x32, .i1⟩ : BufTy).Contents (Elt Ideal)) (x7 : (⟨S20x1x8192, .f32⟩ : BufTy).Contents (Elt Ideal)) (r0 : (⟨S20x8192x128, .bf16⟩ : BufTy).Contents (Elt Ideal)) (r1 : (⟨S4x32x256x128, .bf16⟩ : BufTy).Contents (Elt Ideal)) (kv : Fin 4) (h : Fin 5) (n : Fin 32) (t : Fin 256) (j : Fin 32) (s : Fin 256) : val_main_v43 (F := Ideal) x1 x3 x6 x7 r0 r1 (ix6 kv h n t j s)
    = Ideal.exp2 (val_main_v39 (F := Ideal) x1 x3 x6 x7 r0 r1 (ix6 kv h n t j s)) := by
  rw [val_main_v43_apply, val_main_v42_apply, val_main_v41_apply, val_main_v40_apply, val_main_cst_2_apply]
  exact exp_log2 _

/-- A score's derivative. -/
theorem v47_ix (x1 : (⟨S20x1x8192, .f32⟩ : BufTy).Contents (Elt Ideal)) (x3 : (⟨S4x32x256, .f32⟩ : BufTy).Contents (Elt Ideal)) (x5 : (⟨S4x32x256x128, .bf16⟩ : BufTy).Contents (Elt Ideal)) (x6 : (⟨S4x8192x32, .i1⟩ : BufTy).Contents (Elt Ideal)) (x7 : (⟨S20x1x8192, .f32⟩ : BufTy).Contents (Elt Ideal)) (x8 : (⟨S20x1x8192, .f32⟩ : BufTy).Contents (Elt Ideal)) (x9 : (⟨S20x8192x128, .bf16⟩ : BufTy).Contents (Elt Ideal)) (r0 : (⟨S20x8192x128, .bf16⟩ : BufTy).Contents (Elt Ideal)) (r1 : (⟨S4x32x256x128, .bf16⟩ : BufTy).Contents (Elt Ideal)) (kv : Fin 4) (h : Fin 5) (n : Fin 32) (t : Fin 256) (j : Fin 32) (s : Fin 256) : val_main_v47 (F := Ideal) x1 x3 x5 x6 x7 x8 x9 r0 r1 (ix6 kv h n t j s)
    = val_main_v43 (F := Ideal) x1 x3 x6 x7 r0 r1 (ix6 kv h n t j s) * ((∑ d : Fin 128, x9 (ix3 (hdOf kv h) (rowOf n t) d) * x5 (ix4 kv j s d)) - x8 (ix3 (hdOf kv h) 0 (rowOf n t))) := by
  rw [val_main_v47_apply, val_main_v46_apply, v44_ix, val_main_v45_apply, ← v10_ix x8 kv h n t]
  exact congrArg (fun i => val_main_v43 (F := Ideal) x1 x3 x6 x7 r0 r1 (ix6 kv h n t j s) * ((∑ d : Fin 128, x9 (ix3 (hdOf kv h) (rowOf n t) d) * x5 (ix4 kv j s d) : EReal) - val_main_v10 (F := Ideal) x8 i)) (show idx_main_v45 (ix6 kv h n t j s) = ix6 kv h n t 0 0 from by
    funext a
    match a with
    | ⟨0, _⟩ => rfl
    | ⟨1, _⟩ => rfl
    | ⟨2, _⟩ => rfl
    | ⟨3, _⟩ => rfl
    | ⟨4, _⟩ => rfl
    | ⟨5, _⟩ => rfl)

end Cert.BwdRefIdeal.Hand
-- ==== Proof.RefVal.lean ====
module

public import proofs.«01_k».proof.Proof.Arr
public import proofs.«01_k».proof.Proof.Gen.BwdRefIdeal.Frame
public import proofs.«01_k».proof.Proof.Gen.BwdRefIdeal.Run
public import proofs.«01_k».proof.Proof.Gen.BwdRefIdeal.Read
public import Idealize.ShloMosaic.Lib.TwoAxisContraction
public import Idealize.ShloMosaic.Lib.Pointwise
public import proofs.«01_k».proof.Proof.RefRead

@[expose] public section

set_option maxRecDepth 16384

noncomputable section

namespace Cert.BwdRefIdeal.Hand

open Cert.BwdRefIdeal Cert.BwdRefIdeal.Gen Cert.BwdRefIdeal.Read
open Idealize.ShloMosaic Idealize.ShloMosaic.TcCoe Idealize.ShloMosaic.Tactic
open Idealize.SL.Sem Idealize.ShloMosaic.StableHlo
open Cert.BwdIdeal.Hand (hdOf rowOf gBlk Blk)
open scoped BigOperators

/-! ## The reference's weights and derivatives are the tile's -/

/-- The weight of key `s` of block `j` for query `t` of tile `n`: the block is an earlier one, the tile's own, or a later one. -/
def wt (B : Blk) (n j : Fin 32) (h : Fin 5) (s t : Fin 256) : EReal :=
  if j.val < n.val then B.past j h s t else if j.val = n.val then B.own j h s t else 0

/-- The queries and the keys, widened. -/
def wq (x0 : (⟨S20x8192x128, .fp8e4m3⟩ : BufTy).Contents (Elt Ideal)) : (⟨S20x8192x128, .bf16⟩ : BufTy).Contents (Elt Ideal) := (extf .bf16 (x0 : FVec Ideal S20x8192x128 .fp8e4m3) bitsLt_fp8e4m3_bf16 : FVec Ideal S20x8192x128 .bf16)
def wk (x2 : (⟨S4x32x256x128, .fp8e4m3⟩ : BufTy).Contents (Elt Ideal)) : (⟨S4x32x256x128, .bf16⟩ : BufTy).Contents (Elt Ideal) := (extf .bf16 (x2 : FVec Ideal S4x32x256x128 .fp8e4m3) bitsLt_fp8e4m3_bf16 : FVec Ideal S4x32x256x128 .bf16)

variable (x0 : (⟨S20x8192x128, .fp8e4m3⟩ : BufTy).Contents (Elt Ideal)) (x1 : (⟨S20x1x8192, .f32⟩ : BufTy).Contents (Elt Ideal)) (x2 : (⟨S4x32x256x128, .fp8e4m3⟩ : BufTy).Contents (Elt Ideal)) (x3 : (⟨S4x32x256, .f32⟩ : BufTy).Contents (Elt Ideal)) (x4 : (⟨S4x32x128x256, .bf16⟩ : BufTy).Contents (Elt Ideal)) (x5 : (⟨S4x32x256x128, .bf16⟩ : BufTy).Contents (Elt Ideal)) (x6 : (⟨S4x8192x32, .i1⟩ : BufTy).Contents (Elt Ideal)) (x7 : (⟨S20x1x8192, .f32⟩ : BufTy).Contents (Elt Ideal)) (x8 : (⟨S20x1x8192, .f32⟩ : BufTy).Contents (Elt Ideal)) (x9 : (⟨S20x8192x128, .bf16⟩ : BufTy).Contents (Elt Ideal))

theorem ksT_g (kv : Fin 4) (n j : Fin 32) (s t : Fin 256) : (gBlk x0 x1 x2 x3 x4 x5 x6 x7 x8 x9 kv n).ksT j s t = x3 (ix3 kv j s) := by
  unfold Blk.ksT
  split <;> rfl

/-- A tile's score, in the reference's order. -/
theorem score_g (kv : Fin 4) (h : Fin 5) (n : Fin 32) (t : Fin 256) (j : Fin 32) (s : Fin 256) (sh : EReal) : (gBlk x0 x1 x2 x3 x4 x5 x6 x7 x8 x9 kv n).score j h s t sh
    = val_main_v35 (F := Ideal) x1 x3 (wq x0) (wk x2) (ix6 kv h n t j s) - sh := by
  rw [v35_ix]
  unfold Blk.score
  rw [ksT_g]
  congr 1
  have e : (∑ d : Fin 128, (((gBlk x0 x1 x2 x3 x4 x5 x6 x7 x8 x9 kv n).k j s d : EReal) * (gBlk x0 x1 x2 x3 x4 x5 x6 x7 x8 x9 kv n).q h t d)) = ∑ d : Fin 128, (wq x0 (ix3 (hdOf kv h) (rowOf n t) d) : EReal) * wk x2 (ix4 kv j s d) :=
    Finset.sum_congr rfl fun d _ => mul_comm _ _
  rw [e]
  generalize (∑ d : Fin 128, (wq x0 (ix3 (hdOf kv h) (rowOf n t) d) : EReal) * wk x2 (ix4 kv j s d)) = D
  show D * (x3 (ix3 kv j s) : EReal) * ((x1 (ix3 (hdOf kv h) 0 (rowOf n t)) : EReal) * _) = D * x1 (ix3 (hdOf kv h) 0 (rowOf n t)) * x3 (ix3 kv j s) * _
  ac_rfl

theorem bot_sub' (x : EReal) : (⊥ : EReal) - x = ⊥ := by
  rw [sub_eq_add_neg, EReal.bot_add]
theorem sub_top' (x : EReal) : x - (⊤ : EReal) = ⊥ := by
  rw [sub_eq_add_neg, EReal.neg_top, EReal.add_bot]

theorem bit_cases (b : BitVec 1) : b = 0#1 ∨ b = 1#1 := by
  revert b; decide

/-- A gate as a number is above zero exactly when it is set. -/
theorem gate_zero : ¬ (0 : EReal) < (FloatOps.uitofp (F := Ideal) .f32 (0#1 : BitVec 1) : EReal) := by
  show ¬ (0 : EReal) < ((((0#1 : BitVec 1).toNat : ℕ) : ℝ) : EReal)
  simp
theorem gate_one : (0 : EReal) < (FloatOps.uitofp (F := Ideal) .f32 (1#1 : BitVec 1) : EReal) := by
  show (0 : EReal) < ((((1#1 : BitVec 1).toNat : ℕ) : ℝ) : EReal)
  simp

/-- The reference's weight is the tile's. -/
theorem pr_ix (kv : Fin 4) (h : Fin 5) (n : Fin 32) (t : Fin 256) (j : Fin 32) (s : Fin 256) : val_main_v43 (F := Ideal) x1 x3 x6 x7 (wq x0) (wk x2) (ix6 kv h n t j s) = wt (gBlk x0 x1 x2 x3 x4 x5 x6 x7 x8 x9 kv n) n j h s t := by
  rw [v43_ix, v39_ix, v28_ix]
  unfold wt
  have hl : (gBlk x0 x1 x2 x3 x4 x5 x6 x7 x8 x9 kv n).lse h t = x7 (ix3 (hdOf kv h) 0 (rowOf n t)) := rfl
  rcases lt_trichotomy j.val n.val with hlt | heq | hgt
  · rw [if_pos hlt, decide_eq_true hlt, decide_eq_false (by omega : ¬ j.val = n.val)]
    unfold Blk.past
    rw [score_g, hl]
    have hg : (gBlk x0 x1 x2 x3 x4 x5 x6 x7 x8 x9 kv n).g j t = (FloatOps.uitofp (F := Ideal) .f32 (x6 (ix3 kv (rowOf n t) j)) : EReal) := rfl
    rw [hg]
    rcases bit_cases (x6 (ix3 kv (rowOf n t) j)) with h0 | h1
    · rw [h0, if_neg gate_zero, sub_top']
      have e : IntOp.ori (IntOp.andi (BitVec.ofBool false) (BitVec.ofBool (decide (s.val ≤ t.val)))) (IntOp.andi (BitVec.ofBool true) 0#1) = 0#1 := by
        cases decide (s.val ≤ t.val) <;> rfl
      rw [e]
      exact congrArg Ideal.exp2 (bot_sub' _)
    · rw [h1, if_pos gate_one]
      have e : IntOp.ori (IntOp.andi (BitVec.ofBool false) (BitVec.ofBool (decide (s.val ≤ t.val)))) (IntOp.andi (BitVec.ofBool true) 1#1) = 1#1 := by
        cases decide (s.val ≤ t.val) <;> rfl
      rw [e]
      rfl
  · rw [if_neg (by omega), if_pos heq, decide_eq_true heq, decide_eq_false (by omega : ¬ j.val < n.val)]
    unfold Blk.own
    rw [score_g, hl]
    by_cases hst : s ≤ t
    · rw [if_pos hst, decide_eq_true (show s.val ≤ t.val from hst)]
      have e : IntOp.ori (IntOp.andi (BitVec.ofBool true) (BitVec.ofBool true)) (IntOp.andi (BitVec.ofBool false) (x6 (ix3 kv (rowOf n t) j))) = 1#1 := by
        rcases bit_cases (x6 (ix3 kv (rowOf n t) j)) with h0 | h0 <;> rw [h0] <;> rfl
      rw [e]
      rfl
    · rw [if_neg hst, decide_eq_false (show ¬ s.val ≤ t.val from hst)]
      have e : IntOp.ori (IntOp.andi (BitVec.ofBool true) (BitVec.ofBool false)) (IntOp.andi (BitVec.ofBool false) (x6 (ix3 kv (rowOf n t) j))) = 0#1 := by
        rcases bit_cases (x6 (ix3 kv (rowOf n t) j)) with h0 | h0 <;> rw [h0] <;> rfl
      rw [e]
      exact congrArg Ideal.exp2 (bot_sub' _)
  · rw [if_neg (by omega), if_neg (by omega), decide_eq_false (by omega : ¬ j.val = n.val), decide_eq_false (by omega : ¬ j.val < n.val)]
    have e : IntOp.ori (IntOp.andi (BitVec.ofBool false) (BitVec.ofBool (decide (s.val ≤ t.val)))) (IntOp.andi (BitVec.ofBool false) (x6 (ix3 kv (rowOf n t) j))) = 0#1 := by
      rcases bit_cases (x6 (ix3 kv (rowOf n t) j)) with h0 | h0 <;> rw [h0] <;> cases decide (s.val ≤ t.val) <;> rfl
    rw [e]
    exact (congrArg Ideal.exp2 (bot_sub' _)).trans Ideal.exp2_bot

/-- The reference's score derivative is the tile's. -/
theorem ds_ix (kv : Fin 4) (h : Fin 5) (n : Fin 32) (t : Fin 256) (j : Fin 32) (s : Fin 256) : val_main_v47 (F := Ideal) x1 x3 x5 x6 x7 x8 x9 (wq x0) (wk x2) (ix6 kv h n t j s) = (gBlk x0 x1 x2 x3 x4 x5 x6 x7 x8 x9 kv n).ds (wt (gBlk x0 x1 x2 x3 x4 x5 x6 x7 x8 x9 kv n) n j h) j h s t := by
  rw [v47_ix, pr_ix x0 x1 x2 x3 x4 x5 x6 x7 x8 x9]
  unfold Blk.ds
  have e : (∑ d : Fin 128, (((gBlk x0 x1 x2 x3 x4 x5 x6 x7 x8 x9 kv n).vd j s d : EReal) * (gBlk x0 x1 x2 x3 x4 x5 x6 x7 x8 x9 kv n).dO h t d)) = ∑ d : Fin 128, (x9 (ix3 (hdOf kv h) (rowOf n t) d) : EReal) * x5 (ix4 kv j s d) :=
    Finset.sum_congr rfl fun d _ => mul_comm _ _
  rw [e]
  rfl

section Sums

variable (B : Blk) (n j : Fin 32) (h : Fin 5)

theorem dq_wt (d : Fin 128) (t : Fin 256) : B.dq (wt B n j h) j h d t
    = if j.val < n.val then B.dq (B.past j h) j h d t else if j.val = n.val then B.dq (B.own j h) j h d t else 0 := by
  unfold wt
  split
  · rfl
  · split
    · rfl
    · simp only [Blk.dq, Blk.ds, zero_mul, mul_zero, Finset.sum_const_zero]

theorem dk_wt (s : Fin 256) (d : Fin 128) : B.dk (wt B n j h) j h s d
    = if j.val < n.val then B.dk (B.past j h) j h s d else if j.val = n.val then B.dk (B.own j h) j h s d else 0 := by
  unfold wt
  split
  · rfl
  · split
    · rfl
    · simp only [Blk.dk, Blk.ds, zero_mul, mul_zero, Finset.sum_const_zero]

theorem dv_wt (s : Fin 256) (d : Fin 128) : B.dv (wt B n j h) h s d
    = if j.val < n.val then B.dv (B.past j h) h s d else if j.val = n.val then B.dv (B.own j h) h s d else 0 := by
  unfold wt
  split
  · rfl
  · split
    · rfl
    · simp only [Blk.dv, zero_mul, mul_zero, Finset.sum_const_zero]

/-- A sum over the blocks is the own block's term and the earlier blocks' terms. -/
theorem sum_blocks (f g : Fin 32 → EReal) : (∑ j : Fin 32, if j.val < n.val then f j else if j.val = n.val then g j else 0)
    = g n + ∑ j ∈ Finset.range n.val, if hj : j < 32 then f ⟨j, hj⟩ else 0 := by
  have hn := n.isLt
  have e : ∀ j : Fin 32, (if j.val < n.val then f j else if j.val = n.val then g j else 0)
      = (if j = n then g j else 0) + (if j.val < n.val then (if hj : j.val < 32 then f ⟨j.val, hj⟩ else 0) else 0) := by
    intro j
    rw [dif_pos j.isLt]
    rcases lt_trichotomy j.val n.val with hlt | heq | hgt
    · rw [if_pos hlt, if_pos hlt, if_neg (fun e => by rw [e] at hlt; omega), zero_add]
    · rw [if_neg (by omega), if_pos heq, if_pos (Fin.ext heq), if_neg (by omega), add_zero]
    · rw [if_neg (by omega), if_neg (by omega), if_neg (fun e => by rw [e] at hgt; omega), if_neg (by omega), add_zero]
  rw [Finset.sum_congr rfl fun j _ => e j, Finset.sum_add_distrib, Finset.sum_ite_eq' Finset.univ n, if_pos (Finset.mem_univ n)]
  congr 1
  rw [← Finset.sum_range (n := 32) (fun j => if j < n.val then (if hj : j < 32 then f ⟨j, hj⟩ else 0) else 0), ← Finset.sum_filter]
  refine Finset.sum_congr ?_ fun _ _ => rfl
  ext j
  simp only [Finset.mem_filter, Finset.mem_range]
  omega

/-- The heads' shares of a slab. -/
theorem sum_dk (s : Fin 256) (d : Fin 128) : ∑ h, B.dk (wt B n j h) j h s d = Cert.BwdIdeal.Hand.slabTerm B.dkPast B.dkOwn n.val j s d := by
  simp only [dk_wt]
  unfold Cert.BwdIdeal.Hand.slabTerm
  split
  · rfl
  · split
    · rfl
    · exact Finset.sum_const_zero

theorem sum_dv (s : Fin 256) (d : Fin 128) : ∑ h, B.dv (wt B n j h) h s d = Cert.BwdIdeal.Hand.slabTerm B.dvPast B.dvOwn n.val j s d := by
  simp only [dv_wt]
  unfold Cert.BwdIdeal.Hand.slabTerm
  split
  · rfl
  · split
    · rfl
    · exact Finset.sum_const_zero

end Sums

theorem v48_ix (kv : Fin 4) (h : Fin 5) (n : Fin 32) (t : Fin 256) (j : Fin 32) (s : Fin 256) : val_main_v48 (F := Ideal) x3 (ix6 kv h n t j s) = x3 (ix3 kv j s) := by
  rw [val_main_v48_apply, ← v11_ix x3 kv j s]
  exact congrArg (val_main_v11 (F := Ideal) x3) (show idx_main_v48 (ix6 kv h n t j s) = ix6 kv 0 0 0 j s from by
    funext a
    match a with
    | ⟨0, _⟩ => rfl
    | ⟨1, _⟩ => rfl
    | ⟨2, _⟩ => rfl
    | ⟨3, _⟩ => rfl
    | ⟨4, _⟩ => rfl
    | ⟨5, _⟩ => rfl)

theorem v54_ix (kv : Fin 4) (h : Fin 5) (n : Fin 32) (t : Fin 256) (j : Fin 32) (s : Fin 256) : val_main_v54 (F := Ideal) x1 (ix6 kv h n t j s) = x1 (ix3 (hdOf kv h) 0 (rowOf n t)) := by
  rw [val_main_v54_apply, ← v4_ix x1 kv h n t]
  exact congrArg (val_main_v4 (F := Ideal) x1) (show idx_main_v54 (ix6 kv h n t j s) = ix6 kv h n t 0 0 from by
    funext a
    match a with
    | ⟨0, _⟩ => rfl
    | ⟨1, _⟩ => rfl
    | ⟨2, _⟩ => rfl
    | ⟨3, _⟩ => rfl
    | ⟨4, _⟩ => rfl
    | ⟨5, _⟩ => rfl)

/-- The queries' derivative before its last reshape. -/
theorem v53_ix (kv : Fin 4) (h : Fin 5) (n : Fin 32) (t : Fin 256) (d : Fin 128) :
    val_main_v53 (F := Ideal) x1 x3 x4 x5 x6 x7 x8 x9 (wq x0) (wk x2) (ix5 kv h n t d) = (gBlk x0 x1 x2 x3 x4 x5 x6 x7 x8 x9 kv n).dqTile n h t d := by
  rw [val_main_v53_apply, val_main_v52_apply, val_main_cst_3_apply]
  unfold val_main_v51
  rw [dotQ_apply]
  unfold Blk.dqTile Blk.dqSum
  refine congrArg (· * Cert.BwdIdeal.Hand.cS) ?_
  rw [← sum_blocks n (fun j => (gBlk x0 x1 x2 x3 x4 x5 x6 x7 x8 x9 kv n).dq ((gBlk x0 x1 x2 x3 x4 x5 x6 x7 x8 x9 kv n).past j h) j h d t) (fun j => (gBlk x0 x1 x2 x3 x4 x5 x6 x7 x8 x9 kv n).dq ((gBlk x0 x1 x2 x3 x4 x5 x6 x7 x8 x9 kv n).own j h) j h d t)]
  refine Finset.sum_congr rfl fun j _ => ?_
  rw [← dq_wt]
  unfold Blk.dq
  refine Finset.sum_congr rfl fun s _ => ?_
  rw [ksT_g, ← ds_ix, ← v48_ix x3 kv h n t j s, mul_comm]
  rfl

/-- The queries' derivative. -/
theorem dq_eq : val_main_v60 (F := Ideal) x1 x3 x4 x5 x6 x7 x8 x9 (wq x0) (wk x2) = Cert.BwdIdeal.Hand.dqOut (fun kv n => gBlk x0 x1 x2 x3 x4 x5 x6 x7 x8 x9 kv n) := by
  funext i
  obtain ⟨kv, h, n, t, d, rfl⟩ : ∃ (kv : Fin 4) (h : Fin 5) (n : Fin 32) (t : Fin 256) (d : Fin 128), i = ix3 (hdOf kv h) (rowOf n t) d := by
    have h0 : (i 0).val < 20 := (i 0).isLt
    have h1 : (i 1).val < 8192 := (i 1).isLt
    refine ⟨⟨(i 0).val / 5, by omega⟩, ⟨(i 0).val % 5, by omega⟩, ⟨(i 1).val / 256, by omega⟩, ⟨(i 1).val % 256, by omega⟩, ⟨(i 2).val, (i 2).isLt⟩, ?_⟩
    funext a; apply Fin.ext
    match a with
    | ⟨0, _⟩ =>
      show (i 0).val = 5 * ((i 0).val / 5) + (i 0).val % 5
      omega
    | ⟨1, _⟩ =>
      show (i 1).val = 256 * ((i 1).val / 256) + (i 1).val % 256
      omega
    | ⟨2, _⟩ => rfl
  rw [Cert.BwdIdeal.Hand.dqOut_ix, ← v53_ix, val_main_v60_apply]
  refine congrArg (val_main_v53 (F := Ideal) x1 x3 x4 x5 x6 x7 x8 x9 (wq x0) (wk x2)) ?_
  funext a; apply Fin.ext
  match a with
  | ⟨0, _⟩ =>
    have := kv.isLt; have := h.isLt; have := n.isLt; have := t.isLt; have := d.isLt; show ((((5 * kv.val + h.val) * 8192 + (256 * n.val + t.val)) * 128) + d.val) / 5242880 = kv.val; omega
  | ⟨1, _⟩ =>
    have := kv.isLt; have := h.isLt; have := n.isLt; have := t.isLt; have := d.isLt; show ((((5 * kv.val + h.val) * 8192 + (256 * n.val + t.val)) * 128) + d.val) / 1048576 % 5 = h.val; omega
  | ⟨2, _⟩ =>
    have := kv.isLt; have := h.isLt; have := n.isLt; have := t.isLt; have := d.isLt; show ((((5 * kv.val + h.val) * 8192 + (256 * n.val + t.val)) * 128) + d.val) / 32768 % 32 = n.val; omega
  | ⟨3, _⟩ =>
    have := kv.isLt; have := h.isLt; have := n.isLt; have := t.isLt; have := d.isLt; show ((((5 * kv.val + h.val) * 8192 + (256 * n.val + t.val)) * 128) + d.val) / 128 % 256 = t.val; omega
  | ⟨4, _⟩ =>
    have := kv.isLt; have := h.isLt; have := n.isLt; have := t.isLt; have := d.isLt; show ((((5 * kv.val + h.val) * 8192 + (256 * n.val + t.val)) * 128) + d.val) % 128 = d.val; omega

/-- The keys' derivative. -/
theorem dk_eq : val_main_v57 (F := Ideal) x1 x3 x5 x6 x7 x8 x9 (wq x0) (wk x2) = Cert.BwdIdeal.Hand.dkOut (fun kv n => gBlk x0 x1 x2 x3 x4 x5 x6 x7 x8 x9 kv n) := by
  funext i
  obtain ⟨kv, j, s, d, rfl⟩ : ∃ (kv : Fin 4) (j : Fin 32) (s : Fin 256) (d : Fin 128), i = ix4 kv j s d := ⟨i 0, i 1, i 2, i 3, eq_ix4 i⟩
  unfold val_main_v57
  rw [dotK_apply]
  show _ = ∑ n : Fin 32, Cert.BwdIdeal.Hand.slabTerm (gBlk x0 x1 x2 x3 x4 x5 x6 x7 x8 x9 kv n).dkPast (gBlk x0 x1 x2 x3 x4 x5 x6 x7 x8 x9 kv n).dkOwn n.val j s d
  refine Finset.sum_congr rfl fun n _ => ?_
  rw [← sum_dk]
  refine Finset.sum_congr rfl fun h _ => ?_
  unfold Blk.dk
  refine Finset.sum_congr rfl fun t _ => ?_
  rw [← ds_ix, v1_ix]
  show val_main_v47 (F := Ideal) x1 x3 x5 x6 x7 x8 x9 (wq x0) (wk x2) (ix6 kv h n t j s) * val_main_v54 (F := Ideal) x1 (ix6 kv h n t j s) * _ = _
  rw [v54_ix]
  rfl

/-- The values' derivative. -/
theorem dv_eq : val_main_v59 (F := Ideal) x1 x3 x6 x7 x9 (wq x0) (wk x2) = Cert.BwdIdeal.Hand.dvOut (fun kv n => gBlk x0 x1 x2 x3 x4 x5 x6 x7 x8 x9 kv n) := by
  funext i
  obtain ⟨kv, j, s, d, rfl⟩ : ∃ (kv : Fin 4) (j : Fin 32) (s : Fin 256) (d : Fin 128), i = ix4 kv j s d := ⟨i 0, i 1, i 2, i 3, eq_ix4 i⟩
  unfold val_main_v59
  rw [dotK_apply]
  show _ = ∑ n : Fin 32, Cert.BwdIdeal.Hand.slabTerm (gBlk x0 x1 x2 x3 x4 x5 x6 x7 x8 x9 kv n).dvPast (gBlk x0 x1 x2 x3 x4 x5 x6 x7 x8 x9 kv n).dvOwn n.val j s d
  refine Finset.sum_congr rfl fun n _ => ?_
  rw [← sum_dv]
  refine Finset.sum_congr rfl fun h _ => ?_
  unfold Blk.dv
  refine Finset.sum_congr rfl fun t _ => ?_
  rw [v2_ix]
  show val_main_v43 (F := Ideal) x1 x3 x6 x7 (wq x0) (wk x2) (ix6 kv h n t j s) * _ = _
  rw [pr_ix x0 x1 x2 x3 x4 x5 x6 x7 x8 x9]
  rfl

end Cert.BwdRefIdeal.Hand
-- ==== Proof.RefEnd.lean ====
module

public import proofs.«01_k».proof.Proof.Arr
public import proofs.«01_k».proof.Proof.Gen.BwdRefIdeal.Frame
public import proofs.«01_k».proof.Proof.Gen.BwdRefIdeal.Run
public import proofs.«01_k».proof.Proof.Gen.BwdRefIdeal.Read
public import Idealize.ShloMosaic.Lib.TwoAxisContraction
public import Idealize.ShloMosaic.Lib.Pointwise
public import Idealize.ShloMosaic.Lib.Pipeline.ValueKit
public import proofs.«01_k».proof.Proof.RefVal

@[expose] public section

set_option maxRecDepth 16384

noncomputable section

namespace Cert.BwdRefIdeal.Hand

open Cert.BwdRefIdeal Cert.BwdRefIdeal.Gen Cert.BwdRefIdeal.Read
open Idealize.ShloMosaic Idealize.ShloMosaic.TcCoe Idealize.ShloMosaic.Tactic
open Idealize.SL.Sem Idealize.ShloMosaic.StableHlo
open Cert.BwdIdeal.Hand (hdOf rowOf gBlk Blk)
open scoped BigOperators

variable (m : (ℓ : Loc nD τ sig) → Buf (Elt Ideal) ℓ)

/-- The widened queries and keys are the queries and keys. -/
theorem wide_q (c : Dev nD) : Cert.BwdRefIdeal.Value.reg_main_v0_0 m c = wq (m ((c.tc : Thread nD τ).loc main_arg0)) := by
  unfold Cert.BwdRefIdeal.Value.reg_main_v0_0
  refine (dats m 0 c).arrAt_eq_of_covers 2 _ (by decide +kernel) fun t hf y => ?_
  blk_simp
  rw [after0_2]
  unfold out0_2
  frame_out
  rfl

theorem wide_k (c : Dev nD) : Cert.BwdRefIdeal.Value.reg_main_v0_1 m c = wk (m ((c.tc : Thread nD τ).loc main_arg2)) := by
  unfold Cert.BwdRefIdeal.Value.reg_main_v0_1
  refine (dats m 0 c).arrAt_eq_of_covers 3 _ (by decide +kernel) fun t hf y => ?_
  blk_simp
  rw [after0_3]
  unfold out0_3
  frame_out
  rfl

/-- The arguments, as the program is launched. -/
abbrev gB (c : Dev nD) : Fin 4 → Fin 32 → Blk := fun kv n => gBlk (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) kv n

theorem stage_dq (c : Dev nD) : val_main_v60 (F := Ideal) (Cert.BwdRefIdeal.Value.exitV m c (Proc.devRef .tc main_arg1)) (Cert.BwdRefIdeal.Value.exitV m c (Proc.devRef .tc main_arg3)) (Cert.BwdRefIdeal.Value.exitV m c (Proc.devRef .tc main_arg4)) (Cert.BwdRefIdeal.Value.exitV m c (Proc.devRef .tc main_arg5)) (Cert.BwdRefIdeal.Value.exitV m c (Proc.devRef .tc main_arg6)) (Cert.BwdRefIdeal.Value.exitV m c (Proc.devRef .tc main_arg7)) (Cert.BwdRefIdeal.Value.exitV m c (Proc.devRef .tc main_arg8)) (Cert.BwdRefIdeal.Value.exitV m c (Proc.devRef .tc main_arg9)) (Cert.BwdRefIdeal.Value.exitV m c (Proc.devRef .tc main_v0_0)) (Cert.BwdRefIdeal.Value.exitV m c (Proc.devRef .tc main_v0_1)) = Cert.BwdIdeal.Hand.dqOut (gB m c) := by
  rw [Cert.BwdRefIdeal.Value.exit_main_v0_0, Cert.BwdRefIdeal.Value.exit_main_v0_1, wide_q, wide_k, Cert.BwdRefIdeal.Value.exit_main_arg1, Cert.BwdRefIdeal.Value.exit_main_arg3, Cert.BwdRefIdeal.Value.exit_main_arg4, Cert.BwdRefIdeal.Value.exit_main_arg5, Cert.BwdRefIdeal.Value.exit_main_arg6, Cert.BwdRefIdeal.Value.exit_main_arg7, Cert.BwdRefIdeal.Value.exit_main_arg8, Cert.BwdRefIdeal.Value.exit_main_arg9]
  exact dq_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))

theorem stage_dk (c : Dev nD) : val_main_v57 (F := Ideal) (Cert.BwdRefIdeal.Value.exitV m c (Proc.devRef .tc main_arg1)) (Cert.BwdRefIdeal.Value.exitV m c (Proc.devRef .tc main_arg3)) (Cert.BwdRefIdeal.Value.exitV m c (Proc.devRef .tc main_arg5)) (Cert.BwdRefIdeal.Value.exitV m c (Proc.devRef .tc main_arg6)) (Cert.BwdRefIdeal.Value.exitV m c (Proc.devRef .tc main_arg7)) (Cert.BwdRefIdeal.Value.exitV m c (Proc.devRef .tc main_arg8)) (Cert.BwdRefIdeal.Value.exitV m c (Proc.devRef .tc main_arg9)) (Cert.BwdRefIdeal.Value.exitV m c (Proc.devRef .tc main_v0_0)) (Cert.BwdRefIdeal.Value.exitV m c (Proc.devRef .tc main_v0_1)) = Cert.BwdIdeal.Hand.dkOut (gB m c) := by
  rw [Cert.BwdRefIdeal.Value.exit_main_v0_0, Cert.BwdRefIdeal.Value.exit_main_v0_1, wide_q, wide_k, Cert.BwdRefIdeal.Value.exit_main_arg1, Cert.BwdRefIdeal.Value.exit_main_arg3, Cert.BwdRefIdeal.Value.exit_main_arg5, Cert.BwdRefIdeal.Value.exit_main_arg6, Cert.BwdRefIdeal.Value.exit_main_arg7, Cert.BwdRefIdeal.Value.exit_main_arg8, Cert.BwdRefIdeal.Value.exit_main_arg9]
  exact dk_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))

theorem stage_dv (c : Dev nD) : val_main_v59 (F := Ideal) (Cert.BwdRefIdeal.Value.exitV m c (Proc.devRef .tc main_arg1)) (Cert.BwdRefIdeal.Value.exitV m c (Proc.devRef .tc main_arg3)) (Cert.BwdRefIdeal.Value.exitV m c (Proc.devRef .tc main_arg6)) (Cert.BwdRefIdeal.Value.exitV m c (Proc.devRef .tc main_arg7)) (Cert.BwdRefIdeal.Value.exitV m c (Proc.devRef .tc main_arg9)) (Cert.BwdRefIdeal.Value.exitV m c (Proc.devRef .tc main_v0_0)) (Cert.BwdRefIdeal.Value.exitV m c (Proc.devRef .tc main_v0_1)) = Cert.BwdIdeal.Hand.dvOut (gB m c) := by
  rw [Cert.BwdRefIdeal.Value.exit_main_v0_0, Cert.BwdRefIdeal.Value.exit_main_v0_1, wide_q, wide_k, Cert.BwdRefIdeal.Value.exit_main_arg1, Cert.BwdRefIdeal.Value.exit_main_arg3, Cert.BwdRefIdeal.Value.exit_main_arg6, Cert.BwdRefIdeal.Value.exit_main_arg7, Cert.BwdRefIdeal.Value.exit_main_arg9]
  exact dv_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))

/-- What the reference leaves. -/
theorem value (ρ : Dev nD → PrngReg) :
    θ_run defs (onTc (τ := τ) (main (F := Ideal))) ⟨m, fun _ => 0, ρ⟩ fun r => ∀ c : Dev nD,
      r.2.mem ((c.tc : Thread nD τ).loc main_v60) = Cert.BwdIdeal.Hand.dqOut (gB m c)
      ∧ r.2.mem ((c.tc : Thread nD τ).loc main_v57) = Cert.BwdIdeal.Hand.dkOut (gB m c)
      ∧ r.2.mem ((c.tc : Thread nD τ).loc main_v59) = Cert.BwdIdeal.Hand.dvOut (gB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨(h c).1.trans ((val_main_v60_eq _).trans (stage_dq m c)), (h c).2.1.trans ((val_main_v57_eq _).trans (stage_dk m c)),
    (h c).2.2.1.trans ((val_main_v59_eq _).trans (stage_dv m c)), (h c).2.2.2⟩) (Cert.BwdRefIdeal.Value.run m ρ)

end Cert.BwdRefIdeal.Hand
-- ==== Proof.Quant.lean ====
module

public import Idealize.ShloMosaic.Lib.Pipeline.ValueKit
public import Idealize.ShloMosaic.Lib.Pointwise

@[expose] public section

noncomputable section

namespace Cert.Quant

open Idealize.ShloMosaic
open scoped BigOperators

/-! ## The quantiser of a row, over the extended reals

A row `v` is scaled by the greatest of its absolute values over the format's limit (by one for a row of zeros), and clipped to the limit. -/

/-- The greatest absolute value of a row. -/
def rowMax {n : Nat} (v : Fin n → EReal) : EReal := Finset.univ.sup fun c => max (v c) (-(v c))

/-- The scale of a row whose greatest absolute value is `a`, for the limit that `hi` stands for. -/
def scaleOf (hi : BitVec 32) (a : Ideal .f32) : Ideal .f32 :=
  Scalar.select (FloatOps.cmpf .oeq a (Scalar.ofBits (F := Ideal) .f32 0x00000000#32)) (Scalar.ofBits (F := Ideal) .f32 0x3F800000#32) (FloatOps.divf a (Scalar.ofBits (F := Ideal) .f32 hi))

/-- The scale of a row. -/
def qscale (hi : BitVec 32) {n : Nat} (v : Fin n → EReal) : Ideal .f32 := scaleOf hi (rowMax v)

/-- A value over a scale, clipped. -/
def codeOf (lo hi : BitVec 32) (x sc : Ideal .f32) : Ideal .f32 :=
  FloatOps.minimumf (Scalar.ofBits (F := Ideal) .f32 hi) (FloatOps.maximumf (Scalar.ofBits (F := Ideal) .f32 lo) (FloatOps.divf x sc))

/-- The codes of a row. -/
def qcode (lo hi : BitVec 32) {n : Nat} (v : Fin n → EReal) (c : Fin n) : Ideal .f32 := codeOf lo hi (v c) (qscale hi v)

theorem abs_nonneg (x : EReal) : (0 : EReal) ≤ max x (-x) := by
  rcases le_total 0 x with h | h
  · exact le_max_of_le_left h
  · exact le_max_of_le_right (EReal.neg_nonneg.mpr h)

theorem rowMax_le {n : Nat} (v : Fin n → EReal) (z : EReal) : rowMax v ≤ z ↔ ∀ c, max (v c) (-(v c)) ≤ z := by
  unfold rowMax; rw [Finset.sup_le_iff]; simp

/-- A row's greatest absolute value, from anything with the same upper bounds. -/
theorem eq_rowMax {n : Nat} (v : Fin n → EReal) (c₀ : Fin n) (a : EReal)
    (h : ∀ z, a ≤ z ↔ 0 ≤ z ∧ ∀ c, max (v c) (-(v c)) ≤ z) : a = rowMax v := by
  refine eq_of_forall_ge_iff fun z => ?_
  rw [h z, rowMax_le]
  exact ⟨fun q => q.2, fun q => ⟨(abs_nonneg _).trans (q c₀), q⟩⟩

theorem fold_max_le {n : Nat} (b : EReal) (f : Fin n → EReal) (z : EReal) :
    (Finset.univ : Finset (Fin n)).fold max b f ≤ z ↔ b ≤ z ∧ ∀ l, f l ≤ z := by
  rw [Finset.fold_max_le]; simp

theorem ofBits_negInf : Ideal.ofBits .f32 0xFF800000#32 = (⊥ : EReal) := by simp [Ideal.ofBits, Ideal.ieee]

theorem ofBits_zero : (Scalar.ofBits (F := Ideal) .f32 0x00000000#32 : EReal) = 0 := Ideal.ofBits_zero_f32

/-- A lane's greatest value over the chunks before `k`, as a loop that starts at zero keeps it. -/
def upto (A : Nat → EReal) : Nat → EReal
  | 0 => 0
  | k + 1 => max (upto A k) (A k)

theorem upto_le (A : Nat → EReal) (k : Nat) (z : EReal) : upto A k ≤ z ↔ 0 ≤ z ∧ ∀ i < k, A i ≤ z := by
  induction k with
  | zero => simp [upto]
  | succ k ih =>
    simp only [upto, max_le_iff, ih]
    constructor
    · rintro ⟨⟨h0, h⟩, hk⟩
      exact ⟨h0, fun i hi => by rcases Nat.lt_succ_iff_lt_or_eq.mp hi with h' | rfl; exacts [h i h', hk]⟩
    · rintro ⟨h0, h⟩
      exact ⟨⟨h0, fun i hi => h i (by omega)⟩, h k (by omega)⟩

/-- A row's greatest absolute value, from a reduction over one axis. -/
theorem maxRed {s t : Shape} {a : Fin s.rank} (x : FVec Ideal s .f32) (h : s.Reduces [a] t) (hφ : FKind.Formats .f32) (hacc : (0xFF800000#32 : BitVec FTy.f32.bits) = FKind.maximumf.neutral .f32 hφ) (j : t.Idx)
    {n : Nat} (hn : s.size a = n) (v : Fin n → EReal) (c₀ : Fin n) (hv : ∀ l : Fin n, x (h.lift j (Fin.cast hn.symm l)) = max (v l) (-(v l))) :
    multiReduction .maximumf [a] t x 0xFF800000#32 h hφ hacc j = rowMax v := by
  subst hn
  refine (Ideal.multiReduction_maximumf_single x _ h hφ hacc j).trans ?_
  refine eq_rowMax _ c₀ _ fun z => ?_
  refine (fold_max_le _ _ z).trans ?_
  constructor
  · rintro ⟨-, q⟩
    have q' : ∀ l, max (v l) (-(v l)) ≤ z := fun l => (hv l) ▸ q l
    exact ⟨(abs_nonneg _).trans (q' c₀), q'⟩
  · rintro ⟨h0, q⟩
    refine ⟨?_, fun l => (hv l).le.trans (q l)⟩
    rw [show (FloatOps.ofBits (F := Ideal) .f32 0xFF800000#32 : EReal) = ⊥ from ofBits_negInf]; exact bot_le

end Cert.Quant

end
-- ==== Proof.Proj1.lean ====
module

public import proofs.«01_k».proof.Proof.Quant
public import proofs.«01_k».proof.Proof.Gen.OutProjIdeal.Skeleton
public import Idealize.ShloMosaic.Lib.Pipeline.ValueKit
public import Idealize.ShloMosaic.Lib.Pointwise

@[expose] public section

set_option maxRecDepth 16384

noncomputable section

namespace Cert.OutProjIdeal.Hand

open Cert.OutProjIdeal Cert.OutProjIdeal.Gen Cert.Quant
open Idealize.ShloMosaic Idealize.ShloMosaic.TcCoe Idealize.ShloMosaic.Tactic
open scoped BigOperators

/-! ## What one block of the output projection computes: the scale and the codes of its rows -/

/-- A row of the block's heads, side by side. -/
def hrow (X : Vec Ideal S20x256x128 .f32) (r : Fin 256) (c : Fin 2560) : EReal :=
  X (ix3 ⟨c.val / 128, by omega⟩ r ⟨c.val % 128, by omega⟩)

theorem inbL (h o : Nat) (hh : h < 20) (ho : o + 32 ≤ 256) : ∀ a, (![h, o, 0] : Fin 3 → ℕ) a + S1x32x128.size a ≤ S20x256x128.size a := by
  intro a
  match a with
  | ⟨0, _⟩ => show h + 1 ≤ 20; omega
  | ⟨1, _⟩ => show o + 32 ≤ 256; omega
  | ⟨2, _⟩ => show 0 + 128 ≤ 128; omega

variable (arg1 : Memref sig .tc .vmem S20x256x128 .f32) (harg1 : arg1.IsWhole)

/-- Thirty-two rows of a head. -/
def ldH (X : Vec Ideal S20x256x128 .f32) (h o : Nat) (hh : h < 20) (ho : o + 32 ≤ 256) : Vec Ideal S1x32x128 .f32 :=
  View.readAt (Elt Ideal) arg1.view (Rect.unit (s := S20x256x128) ![h, o, 0] S1x32x128.size (inbL h o hh ho)).toLoadRect (harg1.unread X)

theorem ldH_apply (X : Vec Ideal S20x256x128 .f32) (h o : Nat) (hh : h < 20) (ho : o + 32 ≤ 256) (i : Fin 32) (l : Fin 128) :
    ldH arg1 harg1 X h o hh ho (ix3 0 i l) = X (ix3 ⟨h, hh⟩ ⟨o + i.val, by omega⟩ l) := by
  unfold ldH
  rw [View.readAt_eq_ld, Memref.IsWhole.read_unread]
  refine congrArg X ?_
  funext a; apply Fin.ext
  match a with
  | ⟨0, _⟩ => show h + 1 * 0 = h; omega
  | ⟨1, _⟩ => show o + 1 * i.val = o + i.val; omega
  | ⟨2, _⟩ => show 0 + 1 * l.val = l.val; omega

/-- Lane by lane, the greatest absolute value over the heads before `k`. -/
def am (X : Vec Ideal S20x256x128 .f32) (o : Nat) (ho : o + 32 ≤ 256) : (k : Nat) → (hk : k ≤ 20) → FVec Ideal S32x128 .f32
  | 0, _ => broadcast S32x128 (Scalar.ofBits .f32 0x00000000#32)
  | k + 1, hk => maximumf (am X o ho k (by omega)) (absf (shapeCast S32x128 (ldH arg1 harg1 X k o (by omega) ho) shapeCasts_S1x32x128_S32x128))

theorem am_apply (X : Vec Ideal S20x256x128 .f32) (o : Nat) (ho : o + 32 ≤ 256) (i : Fin 32) (l : Fin 128) : (k : Nat) → (hk : k ≤ 20) →
    am arg1 harg1 X o ho k hk (ix2 i l) = upto (fun h => if hh : h < 20 then max (X (ix3 ⟨h, hh⟩ ⟨o + i.val, by omega⟩ l)) (-(X (ix3 ⟨h, hh⟩ ⟨o + i.val, by omega⟩ l))) else 0) k
  | 0, _ => ofBits_zero
  | k + 1, hk => by
    have e : (shapeCast S32x128 (ldH arg1 harg1 X k o (by omega) ho) shapeCasts_S1x32x128_S32x128 : FVec Ideal S32x128 .f32) (ix2 i l) = X (ix3 ⟨k, by omega⟩ ⟨o + i.val, by omega⟩ l) := by
      rw [← ldH_apply arg1 harg1 X k o (by omega) ho i l]
      pointwise []
    show max (am arg1 harg1 X o ho k _ (ix2 i l)) (max ((shapeCast S32x128 (ldH arg1 harg1 X k o (by omega) ho) shapeCasts_S1x32x128_S32x128 : FVec Ideal S32x128 .f32) (ix2 i l)) (-((shapeCast S32x128 (ldH arg1 harg1 X k o (by omega) ho) shapeCasts_S1x32x128_S32x128 : FVec Ideal S32x128 .f32) (ix2 i l)))) = _
    rw [e, am_apply X o ho i l k (by omega)]
    simp only [upto]
    rw [dif_pos (show k < 20 by omega)]

/-- The scales of thirty-two rows. -/
def scV (X : Vec Ideal S20x256x128 .f32) (o : Nat) (ho : o + 32 ≤ 256) : FVec Ideal S32x1 .f32 :=
  select (cmpf .oeq (shapeCast S32x1 (multiReduction .maximumf [1] S32 (am arg1 harg1 X o ho 20 le_rfl) 0xFF800000#32 reduces_S32x128_S32 (.inl rfl) rfl) shapeCasts_S32_S32x1) (broadcast S32x1 (Scalar.ofBits .f32 0x00000000#32)))
    (broadcast S32x1 (Scalar.ofBits .f32 0x3F800000#32))
    (divf (shapeCast S32x1 (multiReduction .maximumf [1] S32 (am arg1 harg1 X o ho 20 le_rfl) 0xFF800000#32 reduces_S32x128_S32 (.inl rfl) rfl) shapeCasts_S32_S32x1) (broadcast S32x1 (Scalar.ofBits .f32 0x43E00000#32)))

theorem max_apply (X : Vec Ideal S20x256x128 .f32) (o : Nat) (ho : o + 32 ≤ 256) (i : Fin 32) :
    (multiReduction .maximumf [1] S32 (am arg1 harg1 X o ho 20 le_rfl) 0xFF800000#32 reduces_S32x128_S32 (.inl rfl) rfl : FVec Ideal S32 .f32) (ix1 i) = rowMax (hrow X ⟨o + i.val, by omega⟩) := by
  refine (Ideal.multiReduction_maximumf_single (a := (1 : Fin 2)) (am arg1 harg1 X o ho 20 le_rfl) 0xFF800000#32 reduces_S32x128_S32 (.inl rfl) rfl (ix1 i)).trans ?_
  refine eq_rowMax _ ⟨0, by omega⟩ _ fun z => ?_
  refine (fold_max_le (n := 128) _ _ z).trans ?_
  have el : ∀ l : Fin 128, ((am arg1 harg1 X o ho 20 le_rfl) ∘ (reduces_S32x128_S32).lift (ix1 i)) l = am arg1 harg1 X o ho 20 le_rfl (ix2 i l) := fun l => by
    refine congrArg (am arg1 harg1 X o ho 20 le_rfl) ?_
    funext a; apply Fin.ext
    match a with
    | ⟨0, _⟩ => rfl
    | ⟨1, _⟩ => rfl
  simp only [el, am_apply, upto_le]
  constructor
  · rintro ⟨-, h⟩
    refine ⟨(h 0).1, fun c => ?_⟩
    have := (h ⟨c.val % 128, by omega⟩).2 (c.val / 128) (by omega)
    rw [dif_pos (by omega)] at this
    exact this
  · rintro ⟨h0, h⟩
    refine ⟨by rw [show (FloatOps.ofBits (F := Ideal) .f32 0xFF800000#32 : EReal) = ⊥ from ofBits_negInf]; exact bot_le, fun l => ⟨h0, fun k hk => ?_⟩⟩
    rw [dif_pos hk]
    have := h ⟨k * 128 + l.val, by omega⟩
    simp only [hrow] at this
    have e1 : (k * 128 + l.val) / 128 = k := by omega
    have e2 : (k * 128 + l.val) % 128 = l.val := by omega
    simpa only [e1, e2] using this

theorem scV_apply (X : Vec Ideal S20x256x128 .f32) (o : Nat) (ho : o + 32 ≤ 256) (i : Fin 32) :
    scV arg1 harg1 X o ho (ix2 i 0) = qscale 0x43E00000#32 (hrow X ⟨o + i.val, by omega⟩) := by
  have e : (shapeCast S32x1 (multiReduction .maximumf [1] S32 (am arg1 harg1 X o ho 20 le_rfl) 0xFF800000#32 reduces_S32x128_S32 (.inl rfl) rfl) shapeCasts_S32_S32x1 : FVec Ideal S32x1 .f32) (ix2 i 0) = rowMax (hrow X ⟨o + i.val, by omega⟩) := by
    rw [← max_apply arg1 harg1 X o ho i]
    pointwise []
  show scaleOf 0x43E00000#32 ((shapeCast S32x1 (multiReduction .maximumf [1] S32 (am arg1 harg1 X o ho 20 le_rfl) 0xFF800000#32 reduces_S32x128_S32 (.inl rfl) rfl) shapeCasts_S32_S32x1 : FVec Ideal S32x1 .f32) (ix2 i 0)) = _
  rw [e]; rfl

/-- The codes of thirty-two rows of a head. -/
def codeV (X : Vec Ideal S20x256x128 .f32) (h o : Nat) (hh : h < 20) (ho : o + 32 ≤ 256) : FVec Ideal S32x128 .fp8e4m3 :=
  truncf .fp8e4m3 (minimumf (broadcast S32x128 (Scalar.ofBits .f32 0x43E00000#32)) (maximumf (broadcast S32x128 (Scalar.ofBits .f32 0xC3E00000#32))
    (divf (shapeCast S32x128 (ldH arg1 harg1 X h o hh ho) shapeCasts_S1x32x128_S32x128) (broadcastTo S32x128 (scV arg1 harg1 X o ho) broadcasts_S32x1_S32x128)))) bitsLt_fp8e4m3_f32

/-- The codes of the block. -/
def codeB (X : Vec Ideal S20x256x128 .f32) : Vec Ideal S256x2560 .fp8e4m3 := fun y => qcode 0xC3E00000#32 0x43E00000#32 (hrow X (y 0)) (y 1)

theorem codeV_apply (X : Vec Ideal S20x256x128 .f32) (h o : Nat) (hh : h < 20) (ho : o + 32 ≤ 256) (i : Fin 32) (l : Fin 128) :
    codeV arg1 harg1 X h o hh ho (ix2 i l) = codeB X (ix2 ⟨o + i.val, by omega⟩ ⟨h * 128 + l.val, by omega⟩) := by
  have e : (shapeCast S32x128 (ldH arg1 harg1 X h o hh ho) shapeCasts_S1x32x128_S32x128 : FVec Ideal S32x128 .f32) (ix2 i l) = hrow X ⟨o + i.val, by omega⟩ ⟨h * 128 + l.val, by omega⟩ := by
    have e1 : (h * 128 + l.val) / 128 = h := by omega
    have e2 : (h * 128 + l.val) % 128 = l.val := by omega
    simp only [hrow, e1, e2]
    rw [← ldH_apply arg1 harg1 X h o hh ho i l]
    pointwise []
  have e' : (broadcastTo S32x128 (scV arg1 harg1 X o ho) broadcasts_S32x1_S32x128 : FVec Ideal S32x128 .f32) (ix2 i l) = scV arg1 harg1 X o ho (ix2 i 0) := by
    pointwise []
  show codeOf 0xC3E00000#32 0x43E00000#32 ((shapeCast S32x128 (ldH arg1 harg1 X h o hh ho) shapeCasts_S1x32x128_S32x128 : FVec Ideal S32x128 .f32) (ix2 i l)) ((broadcastTo S32x128 (scV arg1 harg1 X o ho) broadcasts_S32x1_S32x128 : FVec Ideal S32x128 .f32) (ix2 i l)) = _
  rw [e, e', scV_apply]
  rfl

end Cert.OutProjIdeal.Hand

end
-- ==== Proof.Proj2.lean ====
module

public import proofs.«01_k».proof.Proof.Proj1

@[expose] public section

set_option maxRecDepth 16384

noncomputable section

namespace Cert.OutProjIdeal.Hand

open Cert.OutProjIdeal Cert.OutProjIdeal.Gen Cert.Quant
open Idealize.ShloMosaic Idealize.ShloMosaic.TcCoe Idealize.ShloMosaic.Tactic
open scoped BigOperators

/-! ## What one block of the output projection computes: the product and the row of scales -/

variable (arg2 : Memref sig .tc .vmem S2560x5120 .fp8e4m3) (harg2 : arg2.IsWhole) (arg3 : Memref sig .tc .vmem S1x5120 .f32) (harg3 : arg3.IsWhole)

/-- A load of five hundred and twelve columns of the weights, and of the weights' scales. -/
def ldW (W : Vec Ideal S2560x5120 .fp8e4m3) (o : Nat) (ho : o + 512 ≤ 5120) : Vec Ideal S2560x512 .fp8e4m3 :=
  View.readAt (Elt Ideal) arg2.view (Rect.unit (s := S2560x5120) ![0, o] S2560x512.size (fun a => match a with | ⟨0, _⟩ => le_refl 2560 | ⟨1, _⟩ => ho)).toLoadRect (harg2.unread W)
def ldS (S : Vec Ideal S1x5120 .f32) (o : Nat) (ho : o + 512 ≤ 5120) : Vec Ideal S1x512 .f32 :=
  View.readAt (Elt Ideal) arg3.view (Rect.unit (s := S1x5120) ![0, o] S1x512.size (fun a => match a with | ⟨0, _⟩ => le_refl 1 | ⟨1, _⟩ => ho)).toLoadRect (harg3.unread S)

theorem ldW_apply (W : Vec Ideal S2560x5120 .fp8e4m3) (o : Nat) (ho : o + 512 ≤ 5120) (k : Fin 2560) (n : Fin 512) :
    ldW arg2 harg2 W o ho (ix2 k n) = W (ix2 k ⟨o + n.val, by omega⟩) := by
  unfold ldW
  rw [View.readAt_eq_ld, Memref.IsWhole.read_unread]
  refine congrArg W ?_
  funext a; apply Fin.ext
  match a with
  | ⟨0, _⟩ => show 0 + 1 * k.val = k.val; omega
  | ⟨1, _⟩ => show o + 1 * n.val = o + n.val; omega

theorem ldS_apply (S : Vec Ideal S1x5120 .f32) (o : Nat) (ho : o + 512 ≤ 5120) (n : Fin 512) :
    ldS arg3 harg3 S o ho (ix2 0 n) = S (ix2 0 ⟨o + n.val, by omega⟩) := by
  unfold ldS
  rw [View.readAt_eq_ld, Memref.IsWhole.read_unread]
  refine congrArg S ?_
  funext a; apply Fin.ext
  match a with
  | ⟨0, _⟩ => rfl
  | ⟨1, _⟩ => show o + 1 * n.val = o + n.val; omega

/-- The block of the product: the codes against the weights, times the row's scale and the column's. -/
def yB (X : Vec Ideal S20x256x128 .f32) (W : Vec Ideal S2560x5120 .fp8e4m3) (S : Vec Ideal S1x5120 .f32) : Vec Ideal S256x5120 .bf16 :=
  fun y => ((∑ k : Fin 2560, (codeB X (ix2 (y 0) k) : EReal) * W (ix2 k (y 1))) * qscale 0x43E00000#32 (hrow X (y 0)) * S (ix2 0 (y 1)) : EReal)

theorem yV_apply (X : Vec Ideal S20x256x128 .f32) (W : Vec Ideal S2560x5120 .fp8e4m3) (S : Vec Ideal S1x5120 .f32) (col : Vec Ideal S256x1 .f32)
    (hcol : ∀ r, col (ix2 r 0) = qscale 0x43E00000#32 (hrow X r)) (o : Nat) (ho : o + 512 ≤ 5120) (r : Fin 256) (n : Fin 512) :
    k0_pay1 col (codeB X) (ldW arg2 harg2 W o ho) (ldS arg3 harg3 S o ho) (ix2 r n) = yB X W S (ix2 r ⟨o + n.val, by omega⟩) := by
  have e : k0_pay1 col (codeB X) (ldW arg2 harg2 W o ho) (ldS arg3 harg3 S o ho) (ix2 r n)
      = ((∑ k : Fin 2560, (codeB X (ix2 r k) : EReal) * ldW arg2 harg2 W o ho (ix2 k n)) * col (ix2 r 0) * ldS arg3 harg3 S o ho (ix2 0 n) : EReal) := by
    unfold k0_pay1
    pointwise []
  rw [e]
  simp only [ldW_apply, ldS_apply, hcol]
  rfl

/-- The block's row of scales. -/
def sB (X : Vec Ideal S20x256x128 .f32) : Vec Ideal S1x256 .f32 := fun y => qscale 0x43E00000#32 (hrow X (y 1))

theorem sV_apply (X : Vec Ideal S20x256x128 .f32) (col : Vec Ideal S256x1 .f32)
    (hcol : ∀ r, col (ix2 r 0) = qscale 0x43E00000#32 (hrow X r)) (r : Fin 256) :
    k0_pay2 col (ix2 0 r) = sB X (ix2 0 r) := by
  have e : k0_pay2 col (ix2 0 r) = col (ix2 r 0) := by
    unfold k0_pay2
    pointwise []
  rw [e, hcol]
  rfl

end Cert.OutProjIdeal.Hand

end
-- ==== Proof.Proj3.lean ====
module

public import proofs.«01_k».proof.Proof.Proj2
public import proofs.«01_k».proof.Proof.Gen.OutProjIdeal.Frame
public import Idealize.ShloMosaic.Lib.Pipeline.ReadBack

@[expose] public section

set_option maxRecDepth 65536

noncomputable section

namespace Cert.OutProjIdeal.Hand

open Cert.OutProjIdeal Cert.OutProjIdeal.Gen Cert.Quant
open Idealize.ShloMosaic Idealize.ShloMosaic.TcCoe Idealize.ShloMosaic.Tactic
open scoped BigOperators

/-! ## What the body's stores leave -/

variable (c : Dev nD) (arg1 : Memref sig .tc .vmem S20x256x128 .f32) (harg1 : arg1.IsWhole)
variable (arg2 : Memref sig .tc .vmem S2560x5120 .fp8e4m3) (harg2 : arg2.IsWhole) (arg3 : Memref sig .tc .vmem S1x5120 .f32) (harg3 : arg3.IsWhole)
variable (X : Vec Ideal S20x256x128 .f32) (W : Vec Ideal S2560x5120 .fp8e4m3) (S : Vec Ideal S1x5120 .f32)

theorem inbC (h o : Nat) (hh : h < 20) (ho : o + 32 ≤ 256) : ∀ a, (![o, h * 128] : Fin 2 → ℕ) a + S32x128.size a ≤ S256x2560.size a := by
  intro a
  match a with
  | ⟨0, _⟩ => exact ho
  | ⟨1, _⟩ => show h * 128 + 128 ≤ 2560; omega

/-- The stores of the codes of thirty-two rows, the last head first, after `L`. -/
def codesRow (o : Nat) (ho : o + 32 ≤ 256) (L : List (View.Piece (Elt Ideal) S256x2560 .fp8e4m3)) : (k : Nat) → k ≤ 20 → List (View.Piece (Elt Ideal) S256x2560 .fp8e4m3)
  | 0, _ => L
  | k + 1, hk => ⟨Rect.unit (s := S256x2560) ![o, k * 128] S32x128.size (inbC k o (by omega) ho), codeV arg1 harg1 X k o (by omega) ho⟩ :: codesRow o ho L k (by omega)

/-- The stores of the codes, the last rows first. -/
def codesAll : (r : Nat) → r ≤ 8 → List (View.Piece (Elt Ideal) S256x2560 .fp8e4m3)
  | 0, _ => []
  | r + 1, hr => codesRow arg1 harg1 X (32 * r) (by omega) (codesAll r (by omega)) 20 le_rfl

theorem codesRow_of (o : Nat) (ho : o + 32 ≤ 256) (L : List (View.Piece (Elt Ideal) S256x2560 .fp8e4m3)) (hL : View.PiecesOf (codeB X) L) :
    (k : Nat) → (hk : k ≤ 20) → View.PiecesOf (codeB X) (codesRow arg1 harg1 X o ho L k hk)
  | 0, _ => hL
  | k + 1, hk => by
    refine ⟨fun x => ?_, codesRow_of o ho L hL k (by omega)⟩
    have hx : x = ix2 (⟨(x 0).val, (x 0).isLt⟩ : Fin 32) (⟨(x 1).val, (x 1).isLt⟩ : Fin 128) := by
      funext a; match a with | ⟨0, _⟩ => rfl | ⟨1, _⟩ => rfl
    rw [hx]
    refine (codeV_apply arg1 harg1 X k o (by omega) ho _ _).trans (congrArg (codeB X) ?_)
    funext a; apply Fin.ext
    match a with
    | ⟨0, _⟩ => show o + (x 0).val = o + 1 * (x 0).val; omega
    | ⟨1, _⟩ => show k * 128 + (x 1).val = k * 128 + 1 * (x 1).val; omega

theorem codesAll_of : (r : Nat) → (hr : r ≤ 8) → View.PiecesOf (codeB X) (codesAll arg1 harg1 X r hr)
  | 0, _ => trivial
  | r + 1, hr => codesRow_of arg1 harg1 X _ _ _ (codesAll_of r (by omega)) 20 le_rfl

theorem codes_eq : kernelRun0_A.sl.H4_160 c arg1 harg1 X = codesAll arg1 harg1 X 8 le_rfl := by sl_kernel_rfl

/-- The stored scales of thirty-two rows, over the lanes. -/
def colV (o : Nat) (ho : o + 32 ≤ 256) : FVec Ideal S32x128 .f32 :=
  shapeCast S32x128 (broadcastTo S32x128 (shapeCast S32x1 (scV arg1 harg1 X o ho) shapeCasts_S32x1_S32x1) broadcasts_S32x1_S32x128) shapeCasts_S32x128_S32x128

theorem inbS (r : Nat) (hr : r + 1 ≤ 8) : ∀ a, (![32 * r, 0] : Fin 2 → ℕ) a + S32x128.size a ≤ S256x128.size a := by
  intro a
  match a with
  | ⟨0, _⟩ => show 32 * r + 32 ≤ 256; omega
  | ⟨1, _⟩ => show 0 + 128 ≤ 128; omega

/-- The stores of the scales, the last rows first. -/
def scalesAll : (r : Nat) → r ≤ 8 → List (View.Piece (Elt Ideal) S256x128 .f32)
  | 0, _ => []
  | r + 1, hr => ⟨Rect.unit (s := S256x128) ![32 * r, 0] S32x128.size (inbS r hr), colV arg1 harg1 X (32 * r) (by omega)⟩ :: scalesAll r (by omega)

theorem scales_eq : kernelRun0_A.sl.HS0_8 c arg1 harg1 X = scalesAll arg1 harg1 X 8 le_rfl := by sl_kernel_rfl

/-- The scales of the block, over the lanes. -/
def colB : Vec Ideal S256x128 .f32 := fun y => qscale 0x43E00000#32 (hrow X (y 0))

theorem colV_apply (o : Nat) (ho : o + 32 ≤ 256) (i : Fin 32) (l : Fin 128) :
    colV arg1 harg1 X o ho (ix2 i l) = colB X (ix2 ⟨o + i.val, by omega⟩ l) := by
  have e : colV arg1 harg1 X o ho (ix2 i l) = scV arg1 harg1 X o ho (ix2 i 0) := by
    unfold colV
    pointwise []
  rw [e, scV_apply]; rfl

theorem scalesAll_of : (r : Nat) → (hr : r ≤ 8) → View.PiecesOf (colB X) (scalesAll arg1 harg1 X r hr)
  | 0, _ => trivial
  | r + 1, hr => by
    refine ⟨fun x => ?_, scalesAll_of r (by omega)⟩
    have hx : x = ix2 (⟨(x 0).val, (x 0).isLt⟩ : Fin 32) (⟨(x 1).val, (x 1).isLt⟩ : Fin 128) := by
      funext a; match a with | ⟨0, _⟩ => rfl | ⟨1, _⟩ => rfl
    rw [hx]
    refine (colV_apply arg1 harg1 X _ _ _ _).trans (congrArg (colB X) ?_)
    funext a; apply Fin.ext
    match a with
    | ⟨0, _⟩ => show 32 * r + (x 0).val = 32 * r + 1 * (x 0).val; omega
    | ⟨1, _⟩ => show (x 1).val = 0 + 1 * (x 1).val; omega

theorem scalesAll_cover (y : S256x128.Idx) : (r : Nat) → (hr : r ≤ 8) → (y 0).val < 32 * r → ∃ p ∈ scalesAll arg1 harg1 X r hr, y ∈ p.1.set
  | 0, _, h => by omega
  | r + 1, hr, h => by
    by_cases h' : (y 0).val < 32 * r
    · obtain ⟨p, hp, hy⟩ := scalesAll_cover y r (by omega) h'
      exact ⟨p, List.mem_cons_of_mem _ hp, hy⟩
    · refine ⟨_, List.mem_cons_self .., (Rect.mem_set_unit (inb := inbS r hr)).mpr fun a => ?_⟩
      have hy1 : (y 1).val < 128 := (y 1).isLt
      match a with
      | ⟨0, _⟩ => exact ⟨by show 32 * r ≤ (y 0).val; omega, by show (y 0).val < 32 * r + 32; omega⟩
      | ⟨1, _⟩ => exact ⟨by show 0 ≤ (y 1).val; omega, by show (y 1).val < 0 + 128; omega⟩

theorem scales_canon : View.canon (kernelRun0_A.sl.HS0_8 c arg1 harg1 X) = colB X := by
  rw [scales_eq]
  funext y
  exact View.canon_apply_of_pieces (colB X) _ (View.PiecesOf.mem (scalesAll_of arg1 harg1 X 8 le_rfl)) y
    (scalesAll_cover arg1 harg1 X y 8 le_rfl (by have : (y 0).val < 256 := (y 0).isLt; omega))

theorem codesRow_cover (y : S256x2560.Idx) (o : Nat) (ho : o + 32 ≤ 256) (L : List (View.Piece (Elt Ideal) S256x2560 .fp8e4m3)) (h0 : o ≤ (y 0).val) (h1 : (y 0).val < o + 32) :
    (k : Nat) → (hk : k ≤ 20) → (y 1).val < k * 128 → ∃ p ∈ codesRow arg1 harg1 X o ho L k hk, y ∈ p.1.set
  | 0, _, h => by omega
  | k + 1, hk, h => by
    by_cases h' : (y 1).val < k * 128
    · obtain ⟨p, hp, hy⟩ := codesRow_cover y o ho L h0 h1 k (by omega) h'
      exact ⟨p, List.mem_cons_of_mem _ hp, hy⟩
    · refine ⟨_, List.mem_cons_self .., (Rect.mem_set_unit (inb := inbC k o (by omega) ho)).mpr fun a => ?_⟩
      match a with
      | ⟨0, _⟩ => exact ⟨h0, h1⟩
      | ⟨1, _⟩ => exact ⟨by show k * 128 ≤ (y 1).val; omega, by show (y 1).val < k * 128 + 128; omega⟩

theorem codesRow_old (y : S256x2560.Idx) (o : Nat) (ho : o + 32 ≤ 256) (L : List (View.Piece (Elt Ideal) S256x2560 .fp8e4m3)) (h : ∃ p ∈ L, y ∈ p.1.set) :
    (k : Nat) → (hk : k ≤ 20) → ∃ p ∈ codesRow arg1 harg1 X o ho L k hk, y ∈ p.1.set
  | 0, _ => h
  | k + 1, hk => by
    obtain ⟨p, hp, hy⟩ := codesRow_old y o ho L h k (by omega)
    exact ⟨p, List.mem_cons_of_mem _ hp, hy⟩

theorem codesAll_cover (y : S256x2560.Idx) : (r : Nat) → (hr : r ≤ 8) → (y 0).val < 32 * r → ∃ p ∈ codesAll arg1 harg1 X r hr, y ∈ p.1.set
  | 0, _, h => by omega
  | r + 1, hr, h => by
    have hy1 : (y 1).val < 2560 := (y 1).isLt
    by_cases h' : (y 0).val < 32 * r
    · exact codesRow_old arg1 harg1 X y _ _ _ (codesAll_cover y r (by omega) h') 20 le_rfl
    · exact codesRow_cover arg1 harg1 X y _ _ _ (by omega) (by omega) 20 le_rfl (by omega)

theorem codes_canon : View.canon (kernelRun0_A.sl.H4_160 c arg1 harg1 X) = codeB X := by
  rw [codes_eq]
  funext y
  exact View.canon_apply_of_pieces (codeB X) _ (View.PiecesOf.mem (codesAll_of arg1 harg1 X 8 le_rfl)) y
    (codesAll_cover arg1 harg1 X y 8 le_rfl (by have : (y 0).val < 256 := (y 0).isLt; omega))

/-! ## The product's stores -/

variable (arg5 : Memref sig .tc .vmem S256x2560 .fp8e4m3) (arg7 : Memref sig .tc .vmem S256x128 .f32)

/-- The codes and the scales, as the product reads them back. -/
theorem codes_read : kernelRun0_A.sl.v2461 c arg1 harg1 arg5 X = codeB X := by
  unfold kernelRun0_A.sl.v2461
  rw [View.readCov_eq_canon', codes_canon]
  funext j
  refine congrArg (codeB X) ?_
  funext a; apply Fin.ext
  match a with
  | ⟨0, _⟩ => show 0 + 1 * (j 0).val = (j 0).val; omega
  | ⟨1, _⟩ => show 0 + 1 * (j 1).val = (j 1).val; omega

theorem col_read (r : Fin 256) : kernelRun0_A.sl.v2352 c arg1 harg1 arg7 X (ix2 r 0) = qscale 0x43E00000#32 (hrow X r) := by
  unfold kernelRun0_A.sl.v2352
  rw [View.readCov_eq_canon', scales_canon]
  refine congrArg (fun q => qscale 0x43E00000#32 (hrow X q)) ?_
  apply Fin.ext
  show 0 + 1 * r.val = r.val; omega

theorem inbY (n : Nat) (hn : n + 1 ≤ 10) : ∀ a, (![0, n * 512] : Fin 2 → ℕ) a + S256x512.size a ≤ S256x5120.size a := by
  intro a
  match a with
  | ⟨0, _⟩ => exact le_refl 256
  | ⟨1, _⟩ => show n * 512 + 512 ≤ 5120; omega

/-- The stores of the product, the last columns first. -/
def yAll (col : Vec Ideal S256x1 .f32) (Q : Vec Ideal S256x2560 .fp8e4m3) : (n : Nat) → n ≤ 10 → List (View.Piece (Elt Ideal) S256x5120 .bf16)
  | 0, _ => []
  | n + 1, hn => ⟨Rect.unit (s := S256x5120) ![0, n * 512] S256x512.size (inbY n hn), k0_pay1 col Q (ldW arg2 harg2 W (n * 512) (by omega)) (ldS arg3 harg3 S (n * 512) (by omega))⟩ :: yAll col Q n (by omega)

theorem yAll_of (col : Vec Ideal S256x1 .f32) (hcol : ∀ r, col (ix2 r 0) = qscale 0x43E00000#32 (hrow X r)) : (n : Nat) → (hn : n ≤ 10) →
    View.PiecesOf (yB X W S) (yAll arg2 harg2 arg3 harg3 W S col (codeB X) n hn)
  | 0, _ => trivial
  | n + 1, hn => by
    refine ⟨fun x => ?_, yAll_of col hcol n (by omega)⟩
    have hx : x = ix2 (⟨(x 0).val, (x 0).isLt⟩ : Fin 256) (⟨(x 1).val, (x 1).isLt⟩ : Fin 512) := by
      funext a; match a with | ⟨0, _⟩ => rfl | ⟨1, _⟩ => rfl
    rw [hx]
    refine (yV_apply arg2 harg2 arg3 harg3 X W S col hcol _ _ _ _).trans (congrArg (yB X W S) ?_)
    funext a; apply Fin.ext
    match a with
    | ⟨0, _⟩ => show (x 0).val = 0 + 1 * (x 0).val; omega
    | ⟨1, _⟩ => show n * 512 + (x 1).val = n * 512 + 1 * (x 1).val; omega

end Cert.OutProjIdeal.Hand

end
-- ==== Proof.Proj4.lean ====
module

public import proofs.«01_k».proof.Proof.Proj3
public import proofs.«01_k».proof.Proof.Gen.OutProjIdeal.Value
public import Idealize.ShloMosaic.Lib.Pipeline.ValueKit
public import Idealize.ShloMosaic.Lib.Pointwise

@[expose] public section

set_option maxRecDepth 65536

noncomputable section

namespace Cert.OutProjIdeal.Hand

open Cert.OutProjIdeal Cert.OutProjIdeal.Gen Cert.Quant
open Idealize.ShloMosaic Idealize.ShloMosaic.TcCoe Idealize.ShloMosaic.Tactic
open Idealize.SL Idealize.SL.Sem
open scoped BigOperators

/-! ## What a grid point leaves in the three output blocks -/

section Block

variable (c : Dev nD) (i : grid0.Coords) (arg1 : Memref sig .tc .vmem S20x256x128 .f32) (harg1 : arg1.IsWhole)
variable (arg2 : Memref sig .tc .vmem S2560x5120 .fp8e4m3) (harg2 : arg2.IsWhole) (arg3 : Memref sig .tc .vmem S1x5120 .f32) (harg3 : arg3.IsWhole)
variable (arg4 : Memref sig .tc .vmem S256x5120 .bf16) (harg4 : arg4.IsWhole) (arg5 : Memref sig .tc .vmem S256x2560 .fp8e4m3) (harg5 : arg5.IsWhole)
variable (arg6 : Memref sig .tc .vmem S1x256 .f32) (harg6 : arg6.IsWhole) (arg7 : Memref sig .tc .vmem S256x128 .f32) (harg7 : arg7.IsWhole)
variable (X : Vec Ideal S20x256x128 .f32) (W : Vec Ideal S2560x5120 .fp8e4m3) (S : Vec Ideal S1x5120 .f32)

theorem y_eq : (kernelRun0_A c i arg1 harg1 arg2 harg2 arg3 harg3 arg4 harg4 arg5 harg5 arg6 harg6 arg7 harg7 X W S).1
    = yAll arg2 harg2 arg3 harg3 W S (kernelRun0_A.sl.v2352 c arg1 harg1 arg7 X) (kernelRun0_A.sl.v2461 c arg1 harg1 arg5 X) 10 le_rfl := by sl_kernel_rfl

theorem out_y : out0_A_3 c i arg1 harg1 arg2 harg2 arg3 harg3 arg4 harg4 arg5 harg5 arg6 harg6 arg7 harg7 X W S = yB X W S := by
  unfold out0_A_3
  rw [View.read_writes_junk_eq_canon]
  funext y
  refine View.canon_apply_of_pieces (yB X W S) _ ?_ y (cover0_A_3 c i arg1 harg1 arg2 harg2 arg3 harg3 arg4 harg4 arg5 harg5 arg6 harg6 arg7 harg7 X W S y)
  rw [y_eq, codes_read]
  exact View.PiecesOf.mem (yAll_of arg2 harg2 arg3 harg3 X W S _ (col_read c arg1 harg1 X arg7) 10 le_rfl)

theorem out_codes : out0_A_4 c i arg1 harg1 arg2 harg2 arg3 harg3 arg4 harg4 arg5 harg5 arg6 harg6 arg7 harg7 X W S = codeB X := by
  unfold out0_A_4
  rw [View.read_writes_junk_eq_canon]
  have e : (kernelRun0_A c i arg1 harg1 arg2 harg2 arg3 harg3 arg4 harg4 arg5 harg5 arg6 harg6 arg7 harg7 X W S).2.1 = kernelRun0_A.sl.H4_160 c arg1 harg1 X := by sl_kernel_rfl
  rw [e, codes_canon]

theorem inbR : ∀ a, (![0, 0] : Fin 2 → ℕ) a + S1x256.size a ≤ S1x256.size a := by
  intro a
  match a with
  | ⟨0, _⟩ => exact le_refl 1
  | ⟨1, _⟩ => exact le_refl 256

theorem out_scales : out0_A_5 c i arg1 harg1 arg2 harg2 arg3 harg3 arg4 harg4 arg5 harg5 arg6 harg6 arg7 harg7 X W S = sB X := by
  unfold out0_A_5
  rw [View.read_writes_junk_eq_canon]
  funext y
  refine View.canon_apply_of_pieces (sB X) _ ?_ y (cover0_A_5 c i arg1 harg1 arg2 harg2 arg3 harg3 arg4 harg4 arg5 harg5 arg6 harg6 arg7 harg7 X W S y)
  have e : (kernelRun0_A c i arg1 harg1 arg2 harg2 arg3 harg3 arg4 harg4 arg5 harg5 arg6 harg6 arg7 harg7 X W S).2.2.1
      = [⟨Rect.unit (s := S1x256) ![0, 0] S1x256.size inbR, k0_pay2 (kernelRun0_A.sl.v2352 c arg1 harg1 arg7 X)⟩] := by sl_kernel_rfl
  rw [e]
  refine View.PiecesOf.mem (L := [_]) ⟨fun x => ?_, trivial⟩
  obtain ⟨z, r, rfl⟩ : ∃ (z : Fin 1) (r : Fin 256), x = ix2 z r := ⟨⟨(x 0).val, (x 0).isLt⟩, ⟨(x 1).val, (x 1).isLt⟩, by funext a; match a with | ⟨0, _⟩ => rfl | ⟨1, _⟩ => rfl⟩
  obtain rfl : z = 0 := Subsingleton.elim _ _
  refine (sV_apply X _ (col_read c arg1 harg1 X arg7) r).trans (congrArg (sB X) ?_)
  funext a; apply Fin.ext
  match a with
  | ⟨0, _⟩ => rfl
  | ⟨1, _⟩ => show r.val = 0 + 1 * r.val; omega

end Block

/-! ## What the three arrays hold at the end -/

variable (m : (ℓ : Loc nD τ sig) → Buf (Elt Ideal) ℓ)

/-- A token's attention output, over the heads' dimensions one after another. -/
def orow (a0 : (⟨S20x8192x128, .f32⟩ : BufTy).Contents (Elt Ideal)) (p : Fin 8192) (k : Fin 2560) : EReal :=
  (a0 (ix3 (⟨k.val / 128, by omega⟩ : Fin 20) p (⟨k.val % 128, by omega⟩ : Fin 128)) : EReal)

/-- The codes of the tokens. -/
def codesOut (a0 : (⟨S20x8192x128, .f32⟩ : BufTy).Contents (Elt Ideal)) : (⟨S8192x2560, .fp8e4m3⟩ : BufTy).Contents (Elt Ideal) :=
  fun y => (qcode 0xC3E00000#32 0x43E00000#32 (orow a0 (y 0)) (y 1) : EReal)

/-- The scales of the tokens, as a row. -/
def scalesOut (a0 : (⟨S20x8192x128, .f32⟩ : BufTy).Contents (Elt Ideal)) : (⟨S1x8192, .f32⟩ : BufTy).Contents (Elt Ideal) :=
  fun y => (qscale 0x43E00000#32 (orow a0 (y 1)) : EReal)

/-- The product of the codes and the weights, times both scales. -/
def yOut (a0 : (⟨S20x8192x128, .f32⟩ : BufTy).Contents (Elt Ideal)) (a1 : (⟨S2560x5120, .fp8e4m3⟩ : BufTy).Contents (Elt Ideal)) (a2 : (⟨S5120, .f32⟩ : BufTy).Contents (Elt Ideal)) :
    (⟨S8192x5120, .bf16⟩ : BufTy).Contents (Elt Ideal) :=
  fun y => ((∑ k : Fin 2560, (qcode 0xC3E00000#32 0x43E00000#32 (orow a0 (y 0)) k : EReal) * a1 (ix2 k (y 1))) * qscale 0x43E00000#32 (orow a0 (y 0)) * a2 (ix1 (y 1)) : EReal)

/-- A token from its block and its place in the block. -/
def tok (n : Fin 32) (r : Fin 256) : Fin 8192 := ⟨256 * n.val + r.val, by omega⟩

theorem idx_0 : ∀ t : Fin cfg0.N, win0_0.index t = ![0, t.val, 0] := (by decide +kernel : ∀ t : Fin grid0.N, win0_0.index t = ![0, t.val, 0])
theorem idx_1 : ∀ t : Fin cfg0.N, win0_1.index t = ![0, 0] := (by decide +kernel : ∀ t : Fin grid0.N, win0_1.index t = ![0, 0])
theorem idx_2 : ∀ t : Fin cfg0.N, win0_2.index t = ![0, 0] := (by decide +kernel : ∀ t : Fin grid0.N, win0_2.index t = ![0, 0])
theorem idx_3 : ∀ t : Fin cfg0.N, win0_3.index t = ![t.val, 0] := (by decide +kernel : ∀ t : Fin grid0.N, win0_3.index t = ![t.val, 0])
theorem idx_4 : ∀ t : Fin cfg0.N, win0_4.index t = ![t.val, 0] := (by decide +kernel : ∀ t : Fin grid0.N, win0_4.index t = ![t.val, 0])
theorem idx_5 : ∀ t : Fin cfg0.N, win0_5.index t = ![0, t.val] := (by decide +kernel : ∀ t : Fin grid0.N, win0_5.index t = ![0, t.val])

theorem V_main_v0 (c : Dev nD) (n : Fin 5120) : V m c main_v0 (ix2 0 n) = m ((c.tc : Thread nD τ).loc main_arg2) (ix1 n) := by
  have e : (V m c main_v0 : (⟨S1x5120, .f32⟩ : BufTy).Contents (Elt Ideal))
      = shapeCast S1x5120 (m ((c.tc : Thread nD τ).loc main_arg2) : (⟨S5120, .f32⟩ : BufTy).Contents (Elt Ideal)) shapeCasts_S5120_S1x5120 := rfl
  rw [e]
  pointwise []

theorem rd_0 (c : Dev nD) (t : Fin cfg0.N) (h : Fin 20) (r : Fin 256) (d : Fin 128) :
    iblk m c 0 t (ix3 h r d) = V m c main_arg0 (ix3 h (tok t r) d) := by
  blk_simp [iblk]
  refine congrArg (V m c main_arg0) ?_
  blk_ext [idx_0, tok]

theorem rd_1 (c : Dev nD) (t : Fin cfg0.N) (k : Fin 2560) (n : Fin 5120) :
    iblk m c 1 t (ix2 k n) = V m c main_arg1 (ix2 k n) := by
  blk_simp [iblk]
  refine congrArg (V m c main_arg1) ?_
  blk_ext [idx_1]

theorem rd_2 (c : Dev nD) (t : Fin cfg0.N) (n : Fin 5120) :
    iblk m c 2 t (ix2 0 n) = V m c main_v0 (ix2 0 n) := by
  blk_simp [iblk]
  refine congrArg (V m c main_v0) ?_
  blk_ext [idx_2]

theorem hrow_blk (c : Dev nD) (t : Fin cfg0.N) (r : Fin 256) : hrow (iblk m c 0 t) r = orow (m ((c.tc : Thread nD τ).loc main_arg0)) (tok t r) := by
  funext k
  show iblk m c 0 t (ix3 _ r _) = _
  rw [rd_0, V_main_arg0]
  rfl

/-- A block's entries are the arrays', where its row, its weights and its scale are. -/
theorem yB_of (X : Vec Ideal S20x256x128 .f32) (W : Vec Ideal S2560x5120 .fp8e4m3) (S : Vec Ideal S1x5120 .f32) (a0 : (⟨S20x8192x128, .f32⟩ : BufTy).Contents (Elt Ideal)) (a1 : (⟨S2560x5120, .fp8e4m3⟩ : BufTy).Contents (Elt Ideal)) (a2 : (⟨S5120, .f32⟩ : BufTy).Contents (Elt Ideal))
    (p : Fin 8192) (r : Fin 256) (n : Fin 5120) (hX : hrow X r = orow a0 p) (hW : ∀ k, W (ix2 k n) = a1 (ix2 k n)) (hS : S (ix2 0 n) = a2 (ix1 n)) :
    yB X W S (ix2 r n) = yOut a0 a1 a2 (ix2 p n) := by
  show ((∑ k : Fin 2560, (qcode 0xC3E00000#32 0x43E00000#32 (hrow X r) k : EReal) * W (ix2 k n)) * qscale 0x43E00000#32 (hrow X r) * S (ix2 0 n) : EReal) = _
  simp only [hX, hW, hS]
  rfl

theorem codeB_of (X : Vec Ideal S20x256x128 .f32) (a0 : (⟨S20x8192x128, .f32⟩ : BufTy).Contents (Elt Ideal)) (p : Fin 8192) (r : Fin 256) (n : Fin 2560) (hX : hrow X r = orow a0 p) :
    codeB X (ix2 r n) = codesOut a0 (ix2 p n) := by
  show qcode 0xC3E00000#32 0x43E00000#32 (hrow X r) n = _
  rw [hX]
  rfl

theorem sB_of (X : Vec Ideal S20x256x128 .f32) (a0 : (⟨S20x8192x128, .f32⟩ : BufTy).Contents (Elt Ideal)) (p : Fin 8192) (r : Fin 256) (z : Fin 1) (hX : hrow X r = orow a0 p) :
    sB X (ix2 z r) = scalesOut a0 (ix2 z p) := by
  show qscale 0x43E00000#32 (hrow X r) = _
  rw [hX]
  rfl

theorem final_y (c : Dev nD) : (dats m 0 c).arrAt 3 cfg0.N = yOut (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  obtain ⟨r, n, rfl⟩ : ∃ (r : Fin 256) (n : Fin 5120), y = ix2 r n := ⟨y 0, y 1, by funext a; fin_cases a <;> rfl⟩
  have ei : (win0_3.blk t).view.emb (ix2 r n) = ix2 (tok t r) n := by blk_ext [idx_3, tok]
  rw [ei]
  unfold outsAt0
  dsimp only
  rw [out_y]
  exact yB_of _ _ _ _ _ _ _ _ _ (hrow_blk m c t r) (fun k => (rd_1 m c t k n).trans (congrFun (V_main_arg1 m c) _)) ((rd_2 m c t n).trans (V_main_v0 m c n))

theorem final_codes (c : Dev nD) : (dats m 0 c).arrAt 4 cfg0.N = codesOut (m ((c.tc : Thread nD τ).loc main_arg0)) := by
  refine (dats m 0 c).arrAt_eq_of_covers 4 _ (by decide +kernel) fun t hf y => ?_
  blk_simp
  rw [after0_4]
  obtain ⟨r, n, rfl⟩ : ∃ (r : Fin 256) (n : Fin 2560), y = ix2 r n := ⟨y 0, y 1, by funext a; fin_cases a <;> rfl⟩
  have ei : (win0_4.blk t).view.emb (ix2 r n) = ix2 (tok t r) n := by blk_ext [idx_4, tok]
  rw [ei]
  unfold outsAt0
  dsimp only
  rw [out_codes]
  exact codeB_of _ _ _ _ _ (hrow_blk m c t r)

theorem final_scales (c : Dev nD) : (dats m 0 c).arrAt 5 cfg0.N = scalesOut (m ((c.tc : Thread nD τ).loc main_arg0)) := by
  refine (dats m 0 c).arrAt_eq_of_covers 5 _ (by decide +kernel) fun t hf y => ?_
  blk_simp
  rw [after0_5]
  obtain ⟨z, r, rfl⟩ : ∃ (z : Fin 1) (r : Fin 256), y = ix2 z r := ⟨y 0, y 1, by funext a; fin_cases a <;> rfl⟩
  have ei : (win0_5.blk t).view.emb (ix2 z r) = ix2 z (tok t r) := by blk_ext [idx_5, tok]
  rw [ei]
  unfold outsAt0
  dsimp only
  rw [out_scales]
  exact sB_of _ _ _ _ _ (hrow_blk m c t r)

/-- THE KERNEL'S VALUE: the projection, the codes and the scales of the attention output, the arguments unchanged. -/
theorem value (ρ : Dev nD → PrngReg) : θ_run defs (onTc (τ := τ) (main (F := Ideal))) ⟨m, fun _ => 0, ρ⟩ fun r => ∀ c : Dev nD,
      r.2.mem ((c.tc : Thread nD τ).loc main_v1_0) = yOut (m ((c.tc : Thread nD τ).loc main_arg0)) (m ((c.tc : Thread nD τ).loc main_arg1)) (m ((c.tc : Thread nD τ).loc main_arg2))
      ∧ r.2.mem ((c.tc : Thread nD τ).loc main_v1_1) = codesOut (m ((c.tc : Thread nD τ).loc main_arg0))
      ∧ r.2.mem ((c.tc : Thread nD τ).loc main_v1_2) = scalesOut (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (final_y m c), (h c).2.1.trans (final_codes m c), (h c).2.2.1.trans (final_scales m c), (h c).2.2.2⟩)
    (Cert.OutProjIdeal.Value.run_blocks m ρ)

end Cert.OutProjIdeal.Hand

end
-- ==== Proof.ProjRefA.lean ====
module

public import proofs.«01_k».proof.Proof.Proj4
public import proofs.«01_k».proof.Proof.Gen.OutProjRefIdeal.Value
public import Idealize.ShloMosaic.Lib.Pipeline.ValueKit
public import Idealize.ShloMosaic.Lib.Pointwise

@[expose] public section

set_option maxRecDepth 16384

noncomputable section

namespace Cert.OutProjRefIdeal.Hand

open Cert.OutProjRefIdeal Cert.OutProjRefIdeal.Gen Cert.Quant
open Idealize.ShloMosaic Idealize.ShloMosaic.TcCoe Idealize.ShloMosaic.Tactic
open Idealize.SL.Sem
open Cert.OutProjIdeal.Hand (orow codesOut scalesOut yOut)
open scoped BigOperators

/-! ## What the reference's body computes -/

/-- A row of the matrix that the reference quantises. -/
def vrow (X : Vec Ideal S8192x2560 .f32) (p : Fin 8192) (k : Fin 2560) : EReal := (X (ix2 p k) : EReal)

theorem max_apply (X : FVec Ideal S8192x2560 .f32) (p : Fin 8192) :
    (multiReduction .maximumf [1] S8192 (absf X) 0xFF800000#32 reduces_S8192x2560_S8192 (.inl rfl) rfl : FVec Ideal S8192 .f32) (ix1 p) = rowMax (vrow X p) := by
  refine maxRed (a := (1 : Fin S8192x2560.rank)) (absf X) reduces_S8192x2560_S8192 (.inl rfl) rfl (ix1 p) (n := 2560) rfl (vrow X p) ⟨0, by omega⟩ fun l => ?_
  have e : (reduces_S8192x2560_S8192).lift (ix1 p) (Fin.cast rfl l) = ix2 p l := by
    funext a; apply Fin.ext
    match a with
    | ⟨0, _⟩ => rfl
    | ⟨1, _⟩ => rfl
  exact (congrArg (absf X) e).trans rfl

theorem scale_of (v : FVec Ideal S8192x1 .f32) (y : S8192x1.Idx) :
    (select (cmpf .oeq v (broadcast S8192x1 (Scalar.ofBits .f32 0x00000000#32))) (broadcast S8192x1 (Scalar.ofBits .f32 0x3F800000#32)) (divf v (broadcast S8192x1 (Scalar.ofBits .f32 0x43E00000#32))) : FVec Ideal S8192x1 .f32) y = scaleOf 0x43E00000#32 (v y) := rfl

theorem code_of (x d : FVec Ideal S8192x2560 .f32) (y : S8192x2560.Idx) :
    (truncf .fp8e4m3 (minimumf (broadcast S8192x2560 (Scalar.ofBits .f32 0x43E00000#32)) (maximumf (broadcast S8192x2560 (Scalar.ofBits .f32 0xC3E00000#32)) (divf x d))) bitsLt_fp8e4m3_f32 : FVec Ideal S8192x2560 .fp8e4m3) y = codeOf 0xC3E00000#32 0x43E00000#32 (x y) (d y) := rfl

theorem prod_of (d a b : FVec Ideal S8192x5120 .f32) (y : S8192x5120.Idx) :
    (truncf .bf16 (mulf (mulf d a) b) bitsLt_bf16_f32 : FVec Ideal S8192x5120 .bf16) y = ((d y : EReal) * a y * b y : EReal) := rfl

theorem pay1_eq (X : Vec Ideal S8192x2560 .f32) : k0_pay1 X = X := by
  unfold k0_pay1
  exact shapeCast_id _ _

theorem scale_apply (X : Vec Ideal S8192x2560 .f32) (p : Fin 8192) : k0_pay2 X (ix2 p 0) = qscale 0x43E00000#32 (vrow X p) := by
  have e : (shapeCast S8192x1 (multiReduction .maximumf [1] S8192 (absf X) 0xFF800000#32 reduces_S8192x2560_S8192 (.inl rfl) rfl) shapeCasts_S8192_S8192x1 : FVec Ideal S8192x1 .f32) (ix2 p 0) = rowMax (vrow X p) := by
    rw [← max_apply X p]
    generalize (multiReduction .maximumf [1] S8192 (absf X) 0xFF800000#32 reduces_S8192x2560_S8192 (.inl rfl) rfl : FVec Ideal S8192 .f32) = q
    pointwise []
  unfold k0_pay2
  rw [pay1_eq]
  refine (scale_of _ _).trans (congrArg (scaleOf 0x43E00000#32) e)

theorem spread_code (q : FVec Ideal S8192x1 .f32) (p : Fin 8192) (k : Fin 2560) :
    (broadcastTo S8192x2560 q broadcasts_S8192x1_S8192x2560 : FVec Ideal S8192x2560 .f32) (ix2 p k) = q (ix2 p 0) := by
  pointwise []

theorem codes_apply (X : Vec Ideal S8192x2560 .f32) (p : Fin 8192) (k : Fin 2560) : k0_pay3 X (ix2 p k) = qcode 0xC3E00000#32 0x43E00000#32 (vrow X p) k := by
  have h := (spread_code (k0_pay2 X) p k).trans (scale_apply X p)
  unfold k0_pay3
  rw [pay1_eq]
  exact (code_of _ _ _).trans (congrArg (codeOf 0xC3E00000#32 0x43E00000#32 (X (ix2 p k))) h)

theorem row_apply (X : Vec Ideal S8192x2560 .f32) (p : Fin 8192) : k0_pay5 X (ix2 0 p) = qscale 0x43E00000#32 (vrow X p) := by
  rw [← scale_apply]
  unfold k0_pay5
  generalize k0_pay2 X = q
  pointwise []

theorem dot_apply (Q : FVec Ideal S8192x2560 .fp8e4m3) (W : FVec Ideal S2560x5120 .fp8e4m3) (p : Fin 8192) (n : Fin 5120) :
    (matmul dot_S8192x2560_S2560x5120_S8192x5120_1_0_0_1_n_n none Q W (constant S8192x5120 .f32 0x00000000#32) : FVec Ideal S8192x5120 .f32) (ix2 p n) = (∑ k : Fin 2560, (Q (ix2 p k) : EReal) * W (ix2 k n)) := by
  pointwise []

theorem spread_col (q : FVec Ideal S8192x1 .f32) (p : Fin 8192) (n : Fin 5120) :
    (broadcastTo S8192x5120 q broadcasts_S8192x1_S8192x5120 : FVec Ideal S8192x5120 .f32) (ix2 p n) = q (ix2 p 0) := by
  pointwise []

theorem spread_row (S : Vec Ideal S1x5120 .f32) (p : Fin 8192) (n : Fin 5120) :
    (broadcastTo S8192x5120 (shapeCast S1x5120 S shapeCasts_S1x5120_S1x5120) broadcasts_S1x5120_S8192x5120 : FVec Ideal S8192x5120 .f32) (ix2 p n) = S (ix2 0 n) := by
  pointwise []

theorem y_apply (X : Vec Ideal S8192x2560 .f32) (W : Vec Ideal S2560x5120 .fp8e4m3) (S : Vec Ideal S1x5120 .f32) (p : Fin 8192) (n : Fin 5120) :
    k0_pay4 X W S (ix2 p n) = ((∑ k : Fin 2560, (qcode 0xC3E00000#32 0x43E00000#32 (vrow X p) k : EReal) * W (ix2 k n)) * qscale 0x43E00000#32 (vrow X p) * S (ix2 0 n) : EReal) := by
  have h1 := dot_apply (k0_pay3 X) W p n
  have h2 := (spread_col (k0_pay2 X) p n).trans (scale_apply X p)
  have h3 := spread_row S p n
  simp only [codes_apply] at h1
  unfold k0_pay4
  exact (prod_of _ _ _ _).trans (congrArg₂ (· * ·) (congrArg₂ (· * ·) h1 h2) h3)

end Cert.OutProjRefIdeal.Hand

end
-- ==== Proof.ProjRefB.lean ====
module

public import proofs.«01_k».proof.Proof.ProjRefA
public import proofs.«01_k».proof.Proof.Gen.OutProjRefIdeal.Value
public import Idealize.ShloMosaic.Lib.Pipeline.ValueKit
public import Idealize.ShloMosaic.Lib.Pointwise

@[expose] public section

set_option maxRecDepth 65536

noncomputable section

namespace Cert.OutProjRefIdeal.Hand

open Cert.OutProjRefIdeal Cert.OutProjRefIdeal.Gen Cert.Quant
open Idealize.ShloMosaic Idealize.ShloMosaic.TcCoe Idealize.ShloMosaic.Tactic
open Idealize.SL.Sem
open Cert.OutProjIdeal.Hand (orow codesOut scalesOut yOut)
open scoped BigOperators

/-! ## What the reference leaves -/

variable (m : (ℓ : Loc nD τ sig) → Buf (Elt Ideal) ℓ)

theorem heads_apply (x : (⟨S20x8192x128, .f32⟩ : BufTy).Contents (Elt Ideal)) (p : Fin 8192) (h : Fin 20) (d : Fin 128) :
    (transpose S8192x20x128 [1, 0, 2] x transposes_S20x8192x128_S8192x20x128_1_0_2 : (⟨S8192x20x128, .f32⟩ : BufTy).Contents (Elt Ideal)) (ix3 p h d) = x (ix3 h p d) := by
  pointwise []

theorem flat_apply (x : (⟨S8192x20x128, .f32⟩ : BufTy).Contents (Elt Ideal)) (p : Fin 8192) (h : Fin 20) (d : Fin 128) :
    (shapeCast S8192x2560 x shapeCasts_S8192x20x128_S8192x2560 : (⟨S8192x2560, .f32⟩ : BufTy).Contents (Elt Ideal)) (ix2 p ⟨128 * h.val + d.val, by omega⟩) = x (ix3 p h d) := by
  rw [Pointwise.shapeCast_apply]
  refine congrArg x ?_
  refine Shape.reshapeEquiv_eq_of_vals _ _ _ _ _ (rowMajor_val3 _ 2560 128 rfl rfl) (rowMajor_val2 _ 2560 rfl) ?_
  show p.val * 2560 + h.val * 128 + d.val = p.val * 2560 + (128 * h.val + d.val)
  omega

theorem V_main_v1 (c : Dev nD) (p : Fin 8192) (k : Fin 2560) : V m c main_v1 (ix2 p k) = m ((c.tc : Thread nD τ).loc main_arg0) (ix3 ⟨k.val / 128, by omega⟩ p ⟨k.val % 128, by omega⟩) := by
  have e : (V m c main_v1 : (⟨S8192x2560, .f32⟩ : BufTy).Contents (Elt Ideal))
      = shapeCast S8192x2560 (transpose S8192x20x128 [1, 0, 2] (m ((c.tc : Thread nD τ).loc main_arg0) : (⟨S20x8192x128, .f32⟩ : BufTy).Contents (Elt Ideal)) transposes_S20x8192x128_S8192x20x128_1_0_2) shapeCasts_S8192x20x128_S8192x2560 := rfl
  have ek : k = ⟨128 * (k.val / 128) + k.val % 128, by omega⟩ := Fin.ext (by show k.val = 128 * (k.val / 128) + k.val % 128; omega)
  rw [e]
  conv_lhs => rw [ek]
  exact (flat_apply _ p ⟨k.val / 128, by omega⟩ ⟨k.val % 128, by omega⟩).trans (heads_apply _ _ _ _)

theorem V_main_v2 (c : Dev nD) (n : Fin 5120) : V m c main_v2 (ix2 0 n) = m ((c.tc : Thread nD τ).loc main_arg2) (ix1 n) := by
  have e : (V m c main_v2 : (⟨S1x5120, .f32⟩ : BufTy).Contents (Elt Ideal))
      = shapeCast S1x5120 (m ((c.tc : Thread nD τ).loc main_arg2) : (⟨S5120, .f32⟩ : BufTy).Contents (Elt Ideal)) shapeCasts_S5120_S1x5120 := rfl
  rw [e]
  pointwise []

theorem idx_0 : ∀ t : Fin cfg0.N, win0_0.index t = ![0, 0] := (by decide +kernel : ∀ t : Fin grid0.N, win0_0.index t = ![0, 0])
theorem idx_1 : ∀ t : Fin cfg0.N, win0_1.index t = ![0, 0] := (by decide +kernel : ∀ t : Fin grid0.N, win0_1.index t = ![0, 0])
theorem idx_2 : ∀ t : Fin cfg0.N, win0_2.index t = ![0, 0] := (by decide +kernel : ∀ t : Fin grid0.N, win0_2.index t = ![0, 0])
theorem idx_3 : ∀ t : Fin cfg0.N, win0_3.index t = ![0, 0] := (by decide +kernel : ∀ t : Fin grid0.N, win0_3.index t = ![0, 0])
theorem idx_4 : ∀ t : Fin cfg0.N, win0_4.index t = ![0, 0] := (by decide +kernel : ∀ t : Fin grid0.N, win0_4.index t = ![0, 0])
theorem idx_5 : ∀ t : Fin cfg0.N, win0_5.index t = ![0, 0] := (by decide +kernel : ∀ t : Fin grid0.N, win0_5.index t = ![0, 0])

theorem rd_0 (c : Dev nD) (t : Fin cfg0.N) (p : Fin 8192) (k : Fin 2560) : iblk m c 0 t (ix2 p k) = V m c main_v1 (ix2 p k) := by
  blk_simp [iblk]
  refine congrArg (V m c main_v1) ?_
  blk_ext [idx_0]

theorem rd_1 (c : Dev nD) (t : Fin cfg0.N) (k : Fin 2560) (n : Fin 5120) : iblk m c 1 t (ix2 k n) = V m c main_arg1 (ix2 k n) := by
  blk_simp [iblk]
  refine congrArg (V m c main_arg1) ?_
  blk_ext [idx_1]

theorem rd_2 (c : Dev nD) (t : Fin cfg0.N) (n : Fin 5120) : iblk m c 2 t (ix2 0 n) = V m c main_v2 (ix2 0 n) := by
  blk_simp [iblk]
  refine congrArg (V m c main_v2) ?_
  blk_ext [idx_2]

theorem vrow_blk (c : Dev nD) (t : Fin cfg0.N) (p : Fin 8192) : vrow (iblk m c 0 t) p = orow (m ((c.tc : Thread nD τ).loc main_arg0)) p := by
  funext k
  exact (rd_0 m c t p k).trans (V_main_v1 m c p k)

end Cert.OutProjRefIdeal.Hand

end
-- ==== Proof.ProjRefC.lean ====
module

public import proofs.«01_k».proof.Proof.ProjRefB
public import proofs.«01_k».proof.Proof.Gen.OutProjRefIdeal.Value
public import Idealize.ShloMosaic.Lib.Pipeline.ValueKit
public import Idealize.ShloMosaic.Lib.Pointwise

@[expose] public section

set_option maxRecDepth 16384

noncomputable section

namespace Cert.OutProjRefIdeal.Hand

open Cert.OutProjRefIdeal Cert.OutProjRefIdeal.Gen Cert.Quant
open Idealize.ShloMosaic Idealize.ShloMosaic.TcCoe Idealize.ShloMosaic.Tactic
open Idealize.SL.Sem
open Cert.OutProjIdeal.Hand (orow codesOut scalesOut yOut)
open scoped BigOperators

variable (m : (ℓ : Loc nD τ sig) → Buf (Elt Ideal) ℓ)

theorem final_y (c : Dev nD) : (dats m 0 c).arrAt 3 cfg0.N = yOut (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  obtain ⟨p, n, rfl⟩ : ∃ (p : Fin 8192) (n : Fin 5120), y = ix2 p n := ⟨y 0, y 1, by funext a; fin_cases a <;> rfl⟩
  have ei : (win0_3.blk t).view.emb (ix2 p n) = ix2 p n := by blk_ext [idx_3]
  rw [ei]
  unfold out0_3
  frame_out
  refine (y_apply _ _ _ p n).trans ?_
  rw [vrow_blk]
  refine congrArg₂ (· * ·) (congrArg₂ (· * ·) (Finset.sum_congr rfl fun k _ => congrArg₂ (· * ·) rfl ?_) rfl) ?_
  · exact (rd_1 m c t k n).trans (congrFun (V_main_arg1 m c) _)
  · exact (rd_2 m c t n).trans (V_main_v2 m c n)

theorem final_codes (c : Dev nD) : (dats m 0 c).arrAt 4 cfg0.N = codesOut (m ((c.tc : Thread nD τ).loc main_arg0)) := by
  refine (dats m 0 c).arrAt_eq_of_covers 4 _ (by decide +kernel) fun t hf y => ?_
  blk_simp
  rw [after0_4]
  obtain ⟨p, n, rfl⟩ : ∃ (p : Fin 8192) (n : Fin 2560), y = ix2 p n := ⟨y 0, y 1, by funext a; fin_cases a <;> rfl⟩
  have ei : (win0_4.blk t).view.emb (ix2 p n) = ix2 p n := by blk_ext [idx_4]
  rw [ei]
  unfold out0_4
  frame_out
  refine (codes_apply _ p n).trans ?_
  rw [vrow_blk]
  rfl

theorem final_scales (c : Dev nD) : (dats m 0 c).arrAt 5 cfg0.N = scalesOut (m ((c.tc : Thread nD τ).loc main_arg0)) := by
  refine (dats m 0 c).arrAt_eq_of_covers 5 _ (by decide +kernel) fun t hf y => ?_
  blk_simp
  rw [after0_5]
  obtain ⟨z, p, rfl⟩ : ∃ (z : Fin 1) (p : Fin 8192), y = ix2 z p := ⟨y 0, y 1, by funext a; fin_cases a <;> rfl⟩
  obtain rfl : z = 0 := Subsingleton.elim _ _
  have ei : (win0_5.blk t).view.emb (ix2 0 p) = ix2 0 p := by blk_ext [idx_5]
  rw [ei]
  unfold out0_5
  frame_out
  refine (row_apply _ p).trans ?_
  rw [vrow_blk]
  rfl

/-- What the reference leaves: the same three functions of the arguments. -/
theorem value (ρ : Dev nD → PrngReg) : θ_run defs (onTc (τ := τ) (main (F := Ideal))) ⟨m, fun _ => 0, ρ⟩ fun r => ∀ c : Dev nD,
      r.2.mem ((c.tc : Thread nD τ).loc main_v3_0) = yOut (m ((c.tc : Thread nD τ).loc main_arg0)) (m ((c.tc : Thread nD τ).loc main_arg1)) (m ((c.tc : Thread nD τ).loc main_arg2))
      ∧ r.2.mem ((c.tc : Thread nD τ).loc main_v3_1) = codesOut (m ((c.tc : Thread nD τ).loc main_arg0))
      ∧ r.2.mem ((c.tc : Thread nD τ).loc main_v3_2) = scalesOut (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (final_y m c), (h c).2.1.trans (final_codes m c), (h c).2.2.1.trans (final_scales m c), (h c).2.2.2⟩)
    (Cert.OutProjRefIdeal.Value.run_blocks m ρ)

end Cert.OutProjRefIdeal.Hand

end
-- ==== Proof.lean ====
module

public import proofs.«01_k».proof.Defs
public import proofs.«01_k».proof.Proof.Gen.Bwd
public import proofs.«01_k».proof.Proof.Gen.Bwd.Skeleton
public import proofs.«01_k».proof.Proof.Gen.Bwd.Loops
public import proofs.«01_k».proof.Proof.Gen.Bwd.Launch
public import proofs.«01_k».proof.Proof.Gen.Bwd.Points
public import proofs.«01_k».proof.Proof.BwdFrame
public import proofs.«01_k».proof.Proof.Gen.BwdIdeal
public import proofs.«01_k».proof.Proof.Gen.BwdIdeal.Skeleton
public import proofs.«01_k».proof.Proof.Gen.BwdIdeal.Loops
public import proofs.«01_k».proof.Proof.Gen.BwdIdeal.Launch
public import proofs.«01_k».proof.Proof.Gen.BwdIdeal.Points
public import proofs.«01_k».proof.Proof.Gen.BwdIdeal.Frame
public import proofs.«01_k».proof.Proof.Gen.BwdRefIdeal
public import proofs.«01_k».proof.Proof.Gen.BwdRefIdeal.Skeleton
public import proofs.«01_k».proof.Proof.Gen.BwdRefIdeal.Launch
public import proofs.«01_k».proof.Proof.Gen.BwdRefIdeal.Points
public import proofs.«01_k».proof.Proof.Gen.BwdRefIdeal.Frame
public import proofs.«01_k».proof.Proof.Gen.BwdRefIdeal.Run
public import proofs.«01_k».proof.Proof.Gen.BwdRefIdeal.Read
public import proofs.«01_k».proof.Proof.Gen.OutProj.Frame
public import proofs.«01_k».proof.Proof.Gen.OutProjIdeal.Value
public import proofs.«01_k».proof.Proof.Gen.OutProjRefIdeal.Value
public import proofs.«01_k».proof.Proof.Arr
public import proofs.«01_k».proof.Proof.RefEnd
public import proofs.«01_k».proof.Proof.Proj4
public import proofs.«01_k».proof.Proof.ProjRefC
public import Idealize.ShloMosaic.Adequacy
public import Idealize.ShloMosaic.Init

@[expose] public section

noncomputable section

namespace Cert.Proof

open Idealize.ShloMosaic Idealize.SL.Sem Cert.Bwd

/-- Over the reals the backward kernel and the reference leave the same three derivatives. -/
theorem algebraic : Cert.algebraic_BwdIdeal_BwdRefIdeal (hBwdIdeal := Cert.BwdIdeal.Gen.facts) (hBwdRefIdeal := Cert.BwdRefIdeal.Gen.facts) := by
  intro m g m' g' _ hargs
  refine ⟨fun c => Cert.BwdIdeal.Hand.dqOut (Cert.BwdIdeal.Hand.gAt m c), fun c => Cert.BwdIdeal.Hand.dkOut (Cert.BwdIdeal.Hand.gAt m c),
    fun c => Cert.BwdIdeal.Hand.dvOut (Cert.BwdIdeal.Hand.gAt m c), Cert.BwdIdeal.Hand.value m g, ?_⟩
  have e : ∀ c : Dev Cert.BwdRefIdeal.nD, Cert.BwdRefIdeal.Hand.gB m' c = Cert.BwdIdeal.Hand.gAt m c := by
    intro c
    obtain ⟨h0, h1, h2, h3, h4, h5, h6, h7, h8, h9⟩ := hargs c
    funext kv n
    unfold Cert.BwdRefIdeal.Hand.gB Cert.BwdIdeal.Hand.gAt
    rw [h0, h1, h2, h3, h4, h5, h6, h7, h8, h9]
  refine (θ_run Cert.BwdRefIdeal.defs _ _).mono (fun r h c => ?_) (Cert.BwdRefIdeal.Hand.value m' g')
  have hc := h c
  rw [e c] at hc
  exact hc

/-- Over the reals the output projection and its reference leave the same product, codes and scales. -/
theorem algebraicProj : Cert.algebraic_OutProjIdeal_OutProjRefIdeal (hOutProjIdeal := Cert.OutProjIdeal.Gen.facts) (hOutProjRefIdeal := Cert.OutProjRefIdeal.Gen.facts) := by
  intro m g m' g' _ hargs
  refine ⟨_, _, _, Cert.OutProjIdeal.Hand.value m g, ?_⟩
  refine (θ_run Cert.OutProjRefIdeal.defs _ _).mono (fun r h c => ?_) (Cert.OutProjRefIdeal.Hand.value m' g')
  have hc := h c
  obtain ⟨h0, h1, h2⟩ := hargs c
  refine ⟨hc.1.trans ?_, hc.2.1.trans ?_, hc.2.2.1.trans ?_, hc.2.2.2⟩
  · rw [h0, h1, h2]
  · rw [h0]
  · rw [h0]

theorem claim : Cert.Claim := ⟨Cert.Bwd.Gen.facts, Cert.BwdIdeal.Gen.facts, Cert.BwdRefIdeal.Gen.facts,
  Cert.OutProj.Gen.facts, Cert.OutProjIdeal.Gen.facts, Cert.OutProjRefIdeal.Gen.facts,
  fun m ρ _ => Cert.Bwd.Hand.frame m ρ, fun m ρ _ => Cert.BwdIdeal.Hand.frame m ρ, fun m ρ _ => Cert.BwdRefIdeal.Gen.frame m ρ,
  fun m ρ _ => Cert.OutProj.Gen.frame m ρ, fun m ρ _ => Cert.OutProjIdeal.Gen.frame m ρ, fun m ρ _ => Cert.OutProjRefIdeal.Gen.frame m ρ,
  trivial, algebraic, trivial, algebraicProj⟩

end Cert.Proof

end
